-- ==== Defs.lean ====
def Pre_LruSeq (m : (ℓ : Loc Cert.LruSeq.nD Cert.LruSeq.τ Cert.LruSeq.sig) → Buf (Elt Bits) ℓ) : Prop :=
  True

def Pre_LruSeqIdeal (m : (ℓ : Loc Cert.LruSeqIdeal.nD Cert.LruSeqIdeal.τ Cert.LruSeqIdeal.sig) → Buf (Elt Ideal) ℓ) : Prop :=
  True

def Pre_LruSeqRefIdeal (m : (ℓ : Loc Cert.LruSeqRefIdeal.nD Cert.LruSeqRefIdeal.τ Cert.LruSeqRefIdeal.sig) → Buf (Elt Ideal) ℓ) : Prop :=
  True

def Pre_S5Seq (m : (ℓ : Loc Cert.S5Seq.nD Cert.S5Seq.τ Cert.S5Seq.sig) → Buf (Elt Bits) ℓ) : Prop :=
  True

def Pre_S5SeqIdeal (m : (ℓ : Loc Cert.S5SeqIdeal.nD Cert.S5SeqIdeal.τ Cert.S5SeqIdeal.sig) → Buf (Elt Ideal) ℓ) : Prop :=
  True

def Pre_S5Params (m : (ℓ : Loc Cert.S5Params.nD Cert.S5Params.τ Cert.S5Params.sig) → Buf (Elt Bits) ℓ) : Prop :=
  True

def Pre_S5ParamsIdeal (m : (ℓ : Loc Cert.S5ParamsIdeal.nD Cert.S5ParamsIdeal.τ Cert.S5ParamsIdeal.sig) → Buf (Elt Ideal) ℓ) : Prop :=
  True

def Pre_LruStep (m : (ℓ : Loc Cert.LruStep.nD Cert.LruStep.τ Cert.LruStep.sig) → Buf (Elt Bits) ℓ) : Prop :=
  True

def Pre_LruStepIdeal (m : (ℓ : Loc Cert.LruStepIdeal.nD Cert.LruStepIdeal.τ Cert.LruStepIdeal.sig) → Buf (Elt Ideal) ℓ) : Prop :=
  True

def Pre_LruStepRefIdeal (m : (ℓ : Loc Cert.LruStepRefIdeal.nD Cert.LruStepRefIdeal.τ Cert.LruStepRefIdeal.sig) → Buf (Elt Ideal) ℓ) : Prop :=
  True

def Pre_S5Step (m : (ℓ : Loc Cert.S5Step.nD Cert.S5Step.τ Cert.S5Step.sig) → Buf (Elt Bits) ℓ) : Prop :=
  True

def Pre_S5StepIdeal (m : (ℓ : Loc Cert.S5StepIdeal.nD Cert.S5StepIdeal.τ Cert.S5StepIdeal.sig) → Buf (Elt Ideal) ℓ) : Prop :=
  True

def Pre_S5StepRefIdeal (m : (ℓ : Loc Cert.S5StepRefIdeal.nD Cert.S5StepRefIdeal.τ Cert.S5StepRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_LruSeq [hLruSeq : Cert.LruSeq.Facts] : Prop :=
  ∀ (m : (ℓ : Loc Cert.LruSeq.nD Cert.LruSeq.τ Cert.LruSeq.sig) → Buf (Elt Bits) ℓ) (g : Dev Cert.LruSeq.nD → PrngReg), Pre_LruSeq m →
    θ_run (Cert.LruSeq.defs (F := Bits)) (onTc (τ := Cert.LruSeq.τ) (Cert.LruSeq.main (F := Bits))) ⟨m, fun _ => 0, g⟩ (fun r => (∀ c : Dev Cert.LruSeq.nD,
      r.2.mem ((c.tc : Thread Cert.LruSeq.nD Cert.LruSeq.τ).loc Cert.LruSeq.main_arg0) = m ((c.tc : Thread Cert.LruSeq.nD Cert.LruSeq.τ).loc Cert.LruSeq.main_arg0)
      ∧ r.2.mem ((c.tc : Thread Cert.LruSeq.nD Cert.LruSeq.τ).loc Cert.LruSeq.main_arg1) = m ((c.tc : Thread Cert.LruSeq.nD Cert.LruSeq.τ).loc Cert.LruSeq.main_arg1)
      ∧ r.2.mem ((c.tc : Thread Cert.LruSeq.nD Cert.LruSeq.τ).loc Cert.LruSeq.main_arg2) = m ((c.tc : Thread Cert.LruSeq.nD Cert.LruSeq.τ).loc Cert.LruSeq.main_arg2)
      ∧ r.2.mem ((c.tc : Thread Cert.LruSeq.nD Cert.LruSeq.τ).loc Cert.LruSeq.main_arg3) = m ((c.tc : Thread Cert.LruSeq.nD Cert.LruSeq.τ).loc Cert.LruSeq.main_arg3)
      ∧ r.2.mem ((c.tc : Thread Cert.LruSeq.nD Cert.LruSeq.τ).loc Cert.LruSeq.main_arg4) = m ((c.tc : Thread Cert.LruSeq.nD Cert.LruSeq.τ).loc Cert.LruSeq.main_arg4)
      ∧ r.2.mem ((c.tc : Thread Cert.LruSeq.nD Cert.LruSeq.τ).loc Cert.LruSeq.main_arg5) = m ((c.tc : Thread Cert.LruSeq.nD Cert.LruSeq.τ).loc Cert.LruSeq.main_arg5)
      ∧ r.2.mem ((c.tc : Thread Cert.LruSeq.nD Cert.LruSeq.τ).loc Cert.LruSeq.main_arg6) = m ((c.tc : Thread Cert.LruSeq.nD Cert.LruSeq.τ).loc Cert.LruSeq.main_arg6)
      ∧ r.2.mem ((c.tc : Thread Cert.LruSeq.nD Cert.LruSeq.τ).loc Cert.LruSeq.main_arg7) = m ((c.tc : Thread Cert.LruSeq.nD Cert.LruSeq.τ).loc Cert.LruSeq.main_arg7)
      ∧ r.2.mem ((c.tc : Thread Cert.LruSeq.nD Cert.LruSeq.τ).loc Cert.LruSeq.main_arg8) = m ((c.tc : Thread Cert.LruSeq.nD Cert.LruSeq.τ).loc Cert.LruSeq.main_arg8)
      ∧ r.2.mem ((c.tc : Thread Cert.LruSeq.nD Cert.LruSeq.τ).loc Cert.LruSeq.main_arg9) = m ((c.tc : Thread Cert.LruSeq.nD Cert.LruSeq.τ).loc Cert.LruSeq.main_arg9))
      ∧ r.2.sem = fun _ => 0)

def quiescent_LruSeqIdeal [hLruSeqIdeal : Cert.LruSeqIdeal.Facts] : Prop :=
  ∀ (m : (ℓ : Loc Cert.LruSeqIdeal.nD Cert.LruSeqIdeal.τ Cert.LruSeqIdeal.sig) → Buf (Elt Ideal) ℓ) (g : Dev Cert.LruSeqIdeal.nD → PrngReg), Pre_LruSeqIdeal m →
    θ_run (Cert.LruSeqIdeal.defs (F := Ideal)) (onTc (τ := Cert.LruSeqIdeal.τ) (Cert.LruSeqIdeal.main (F := Ideal))) ⟨m, fun _ => 0, g⟩ (fun r => (∀ c : Dev Cert.LruSeqIdeal.nD,
      r.2.mem ((c.tc : Thread Cert.LruSeqIdeal.nD Cert.LruSeqIdeal.τ).loc Cert.LruSeqIdeal.main_arg0) = m ((c.tc : Thread Cert.LruSeqIdeal.nD Cert.LruSeqIdeal.τ).loc Cert.LruSeqIdeal.main_arg0)
      ∧ r.2.mem ((c.tc : Thread Cert.LruSeqIdeal.nD Cert.LruSeqIdeal.τ).loc Cert.LruSeqIdeal.main_arg1) = m ((c.tc : Thread Cert.LruSeqIdeal.nD Cert.LruSeqIdeal.τ).loc Cert.LruSeqIdeal.main_arg1)
      ∧ r.2.mem ((c.tc : Thread Cert.LruSeqIdeal.nD Cert.LruSeqIdeal.τ).loc Cert.LruSeqIdeal.main_arg2) = m ((c.tc : Thread Cert.LruSeqIdeal.nD Cert.LruSeqIdeal.τ).loc Cert.LruSeqIdeal.main_arg2)
      ∧ r.2.mem ((c.tc : Thread Cert.LruSeqIdeal.nD Cert.LruSeqIdeal.τ).loc Cert.LruSeqIdeal.main_arg3) = m ((c.tc : Thread Cert.LruSeqIdeal.nD Cert.LruSeqIdeal.τ).loc Cert.LruSeqIdeal.main_arg3)
      ∧ r.2.mem ((c.tc : Thread Cert.LruSeqIdeal.nD Cert.LruSeqIdeal.τ).loc Cert.LruSeqIdeal.main_arg4) = m ((c.tc : Thread Cert.LruSeqIdeal.nD Cert.LruSeqIdeal.τ).loc Cert.LruSeqIdeal.main_arg4)
      ∧ r.2.mem ((c.tc : Thread Cert.LruSeqIdeal.nD Cert.LruSeqIdeal.τ).loc Cert.LruSeqIdeal.main_arg5) = m ((c.tc : Thread Cert.LruSeqIdeal.nD Cert.LruSeqIdeal.τ).loc Cert.LruSeqIdeal.main_arg5)
      ∧ r.2.mem ((c.tc : Thread Cert.LruSeqIdeal.nD Cert.LruSeqIdeal.τ).loc Cert.LruSeqIdeal.main_arg6) = m ((c.tc : Thread Cert.LruSeqIdeal.nD Cert.LruSeqIdeal.τ).loc Cert.LruSeqIdeal.main_arg6)
      ∧ r.2.mem ((c.tc : Thread Cert.LruSeqIdeal.nD Cert.LruSeqIdeal.τ).loc Cert.LruSeqIdeal.main_arg7) = m ((c.tc : Thread Cert.LruSeqIdeal.nD Cert.LruSeqIdeal.τ).loc Cert.LruSeqIdeal.main_arg7)
      ∧ r.2.mem ((c.tc : Thread Cert.LruSeqIdeal.nD Cert.LruSeqIdeal.τ).loc Cert.LruSeqIdeal.main_arg8) = m ((c.tc : Thread Cert.LruSeqIdeal.nD Cert.LruSeqIdeal.τ).loc Cert.LruSeqIdeal.main_arg8)
      ∧ r.2.mem ((c.tc : Thread Cert.LruSeqIdeal.nD Cert.LruSeqIdeal.τ).loc Cert.LruSeqIdeal.main_arg9) = m ((c.tc : Thread Cert.LruSeqIdeal.nD Cert.LruSeqIdeal.τ).loc Cert.LruSeqIdeal.main_arg9))
      ∧ r.2.sem = fun _ => 0)

def quiescent_LruSeqRefIdeal [hLruSeqRefIdeal : Cert.LruSeqRefIdeal.Facts] : Prop :=
  ∀ (m : (ℓ : Loc Cert.LruSeqRefIdeal.nD Cert.LruSeqRefIdeal.τ Cert.LruSeqRefIdeal.sig) → Buf (Elt Ideal) ℓ) (g : Dev Cert.LruSeqRefIdeal.nD → PrngReg), Pre_LruSeqRefIdeal m →
    θ_run (Cert.LruSeqRefIdeal.defs (F := Ideal)) (onTc (τ := Cert.LruSeqRefIdeal.τ) (Cert.LruSeqRefIdeal.main (F := Ideal))) ⟨m, fun _ => 0, g⟩ (fun r => (∀ c : Dev Cert.LruSeqRefIdeal.nD,
      r.2.mem ((c.tc : Thread Cert.LruSeqRefIdeal.nD Cert.LruSeqRefIdeal.τ).loc Cert.LruSeqRefIdeal.main_arg0) = m ((c.tc : Thread Cert.LruSeqRefIdeal.nD Cert.LruSeqRefIdeal.τ).loc Cert.LruSeqRefIdeal.main_arg0)
      ∧ r.2.mem ((c.tc : Thread Cert.LruSeqRefIdeal.nD Cert.LruSeqRefIdeal.τ).loc Cert.LruSeqRefIdeal.main_arg1) = m ((c.tc : Thread Cert.LruSeqRefIdeal.nD Cert.LruSeqRefIdeal.τ).loc Cert.LruSeqRefIdeal.main_arg1)
      ∧ r.2.mem ((c.tc : Thread Cert.LruSeqRefIdeal.nD Cert.LruSeqRefIdeal.τ).loc Cert.LruSeqRefIdeal.main_arg2) = m ((c.tc : Thread Cert.LruSeqRefIdeal.nD Cert.LruSeqRefIdeal.τ).loc Cert.LruSeqRefIdeal.main_arg2)
      ∧ r.2.mem ((c.tc : Thread Cert.LruSeqRefIdeal.nD Cert.LruSeqRefIdeal.τ).loc Cert.LruSeqRefIdeal.main_arg3) = m ((c.tc : Thread Cert.LruSeqRefIdeal.nD Cert.LruSeqRefIdeal.τ).loc Cert.LruSeqRefIdeal.main_arg3)
      ∧ r.2.mem ((c.tc : Thread Cert.LruSeqRefIdeal.nD Cert.LruSeqRefIdeal.τ).loc Cert.LruSeqRefIdeal.main_arg4) = m ((c.tc : Thread Cert.LruSeqRefIdeal.nD Cert.LruSeqRefIdeal.τ).loc Cert.LruSeqRefIdeal.main_arg4)
      ∧ r.2.mem ((c.tc : Thread Cert.LruSeqRefIdeal.nD Cert.LruSeqRefIdeal.τ).loc Cert.LruSeqRefIdeal.main_arg5) = m ((c.tc : Thread Cert.LruSeqRefIdeal.nD Cert.LruSeqRefIdeal.τ).loc Cert.LruSeqRefIdeal.main_arg5)
      ∧ r.2.mem ((c.tc : Thread Cert.LruSeqRefIdeal.nD Cert.LruSeqRefIdeal.τ).loc Cert.LruSeqRefIdeal.main_arg6) = m ((c.tc : Thread Cert.LruSeqRefIdeal.nD Cert.LruSeqRefIdeal.τ).loc Cert.LruSeqRefIdeal.main_arg6)
      ∧ r.2.mem ((c.tc : Thread Cert.LruSeqRefIdeal.nD Cert.LruSeqRefIdeal.τ).loc Cert.LruSeqRefIdeal.main_arg7) = m ((c.tc : Thread Cert.LruSeqRefIdeal.nD Cert.LruSeqRefIdeal.τ).loc Cert.LruSeqRefIdeal.main_arg7)
      ∧ r.2.mem ((c.tc : Thread Cert.LruSeqRefIdeal.nD Cert.LruSeqRefIdeal.τ).loc Cert.LruSeqRefIdeal.main_arg8) = m ((c.tc : Thread Cert.LruSeqRefIdeal.nD Cert.LruSeqRefIdeal.τ).loc Cert.LruSeqRefIdeal.main_arg8)
      ∧ r.2.mem ((c.tc : Thread Cert.LruSeqRefIdeal.nD Cert.LruSeqRefIdeal.τ).loc Cert.LruSeqRefIdeal.main_arg9) = m ((c.tc : Thread Cert.LruSeqRefIdeal.nD Cert.LruSeqRefIdeal.τ).loc Cert.LruSeqRefIdeal.main_arg9))
      ∧ r.2.sem = fun _ => 0)

def quiescent_S5Seq [hS5Seq : Cert.S5Seq.Facts] : Prop :=
  ∀ (m : (ℓ : Loc Cert.S5Seq.nD Cert.S5Seq.τ Cert.S5Seq.sig) → Buf (Elt Bits) ℓ) (g : Dev Cert.S5Seq.nD → PrngReg), Pre_S5Seq m →
    θ_run (Cert.S5Seq.defs (F := Bits)) (onTc (τ := Cert.S5Seq.τ) (Cert.S5Seq.main (F := Bits))) ⟨m, fun _ => 0, g⟩ (fun r => (∀ c : Dev Cert.S5Seq.nD,
      r.2.mem ((c.tc : Thread Cert.S5Seq.nD Cert.S5Seq.τ).loc Cert.S5Seq.main_arg0) = m ((c.tc : Thread Cert.S5Seq.nD Cert.S5Seq.τ).loc Cert.S5Seq.main_arg0)
      ∧ r.2.mem ((c.tc : Thread Cert.S5Seq.nD Cert.S5Seq.τ).loc Cert.S5Seq.main_arg1) = m ((c.tc : Thread Cert.S5Seq.nD Cert.S5Seq.τ).loc Cert.S5Seq.main_arg1)
      ∧ r.2.mem ((c.tc : Thread Cert.S5Seq.nD Cert.S5Seq.τ).loc Cert.S5Seq.main_arg2) = m ((c.tc : Thread Cert.S5Seq.nD Cert.S5Seq.τ).loc Cert.S5Seq.main_arg2)
      ∧ r.2.mem ((c.tc : Thread Cert.S5Seq.nD Cert.S5Seq.τ).loc Cert.S5Seq.main_arg3) = m ((c.tc : Thread Cert.S5Seq.nD Cert.S5Seq.τ).loc Cert.S5Seq.main_arg3)
      ∧ r.2.mem ((c.tc : Thread Cert.S5Seq.nD Cert.S5Seq.τ).loc Cert.S5Seq.main_arg4) = m ((c.tc : Thread Cert.S5Seq.nD Cert.S5Seq.τ).loc Cert.S5Seq.main_arg4)
      ∧ r.2.mem ((c.tc : Thread Cert.S5Seq.nD Cert.S5Seq.τ).loc Cert.S5Seq.main_arg5) = m ((c.tc : Thread Cert.S5Seq.nD Cert.S5Seq.τ).loc Cert.S5Seq.main_arg5))
      ∧ r.2.sem = fun _ => 0)

def quiescent_S5SeqIdeal [hS5SeqIdeal : Cert.S5SeqIdeal.Facts] : Prop :=
  ∀ (m : (ℓ : Loc Cert.S5SeqIdeal.nD Cert.S5SeqIdeal.τ Cert.S5SeqIdeal.sig) → Buf (Elt Ideal) ℓ) (g : Dev Cert.S5SeqIdeal.nD → PrngReg), Pre_S5SeqIdeal m →
    θ_run (Cert.S5SeqIdeal.defs (F := Ideal)) (onTc (τ := Cert.S5SeqIdeal.τ) (Cert.S5SeqIdeal.main (F := Ideal))) ⟨m, fun _ => 0, g⟩ (fun r => (∀ c : Dev Cert.S5SeqIdeal.nD,
      r.2.mem ((c.tc : Thread Cert.S5SeqIdeal.nD Cert.S5SeqIdeal.τ).loc Cert.S5SeqIdeal.main_arg0) = m ((c.tc : Thread Cert.S5SeqIdeal.nD Cert.S5SeqIdeal.τ).loc Cert.S5SeqIdeal.main_arg0)
      ∧ r.2.mem ((c.tc : Thread Cert.S5SeqIdeal.nD Cert.S5SeqIdeal.τ).loc Cert.S5SeqIdeal.main_arg1) = m ((c.tc : Thread Cert.S5SeqIdeal.nD Cert.S5SeqIdeal.τ).loc Cert.S5SeqIdeal.main_arg1)
      ∧ r.2.mem ((c.tc : Thread Cert.S5SeqIdeal.nD Cert.S5SeqIdeal.τ).loc Cert.S5SeqIdeal.main_arg2) = m ((c.tc : Thread Cert.S5SeqIdeal.nD Cert.S5SeqIdeal.τ).loc Cert.S5SeqIdeal.main_arg2)
      ∧ r.2.mem ((c.tc : Thread Cert.S5SeqIdeal.nD Cert.S5SeqIdeal.τ).loc Cert.S5SeqIdeal.main_arg3) = m ((c.tc : Thread Cert.S5SeqIdeal.nD Cert.S5SeqIdeal.τ).loc Cert.S5SeqIdeal.main_arg3)
      ∧ r.2.mem ((c.tc : Thread Cert.S5SeqIdeal.nD Cert.S5SeqIdeal.τ).loc Cert.S5SeqIdeal.main_arg4) = m ((c.tc : Thread Cert.S5SeqIdeal.nD Cert.S5SeqIdeal.τ).loc Cert.S5SeqIdeal.main_arg4)
      ∧ r.2.mem ((c.tc : Thread Cert.S5SeqIdeal.nD Cert.S5SeqIdeal.τ).loc Cert.S5SeqIdeal.main_arg5) = m ((c.tc : Thread Cert.S5SeqIdeal.nD Cert.S5SeqIdeal.τ).loc Cert.S5SeqIdeal.main_arg5))
      ∧ r.2.sem = fun _ => 0)

def quiescent_S5Params [hS5Params : Cert.S5Params.Facts] : Prop :=
  ∀ (m : (ℓ : Loc Cert.S5Params.nD Cert.S5Params.τ Cert.S5Params.sig) → Buf (Elt Bits) ℓ) (g : Dev Cert.S5Params.nD → PrngReg), Pre_S5Params m →
    θ_run (Cert.S5Params.defs (F := Bits)) (onTc (τ := Cert.S5Params.τ) (Cert.S5Params.main (F := Bits))) ⟨m, fun _ => 0, g⟩ (fun r => (∀ c : Dev Cert.S5Params.nD,
      r.2.mem ((c.tc : Thread Cert.S5Params.nD Cert.S5Params.τ).loc Cert.S5Params.main_arg0) = m ((c.tc : Thread Cert.S5Params.nD Cert.S5Params.τ).loc Cert.S5Params.main_arg0)
      ∧ r.2.mem ((c.tc : Thread Cert.S5Params.nD Cert.S5Params.τ).loc Cert.S5Params.main_arg1) = m ((c.tc : Thread Cert.S5Params.nD Cert.S5Params.τ).loc Cert.S5Params.main_arg1)
      ∧ r.2.mem ((c.tc : Thread Cert.S5Params.nD Cert.S5Params.τ).loc Cert.S5Params.main_arg2) = m ((c.tc : Thread Cert.S5Params.nD Cert.S5Params.τ).loc Cert.S5Params.main_arg2)
      ∧ r.2.mem ((c.tc : Thread Cert.S5Params.nD Cert.S5Params.τ).loc Cert.S5Params.main_arg3) = m ((c.tc : Thread Cert.S5Params.nD Cert.S5Params.τ).loc Cert.S5Params.main_arg3)
      ∧ r.2.mem ((c.tc : Thread Cert.S5Params.nD Cert.S5Params.τ).loc Cert.S5Params.main_arg4) = m ((c.tc : Thread Cert.S5Params.nD Cert.S5Params.τ).loc Cert.S5Params.main_arg4)
      ∧ r.2.mem ((c.tc : Thread Cert.S5Params.nD Cert.S5Params.τ).loc Cert.S5Params.main_arg5) = m ((c.tc : Thread Cert.S5Params.nD Cert.S5Params.τ).loc Cert.S5Params.main_arg5)
      ∧ r.2.mem ((c.tc : Thread Cert.S5Params.nD Cert.S5Params.τ).loc Cert.S5Params.main_arg6) = m ((c.tc : Thread Cert.S5Params.nD Cert.S5Params.τ).loc Cert.S5Params.main_arg6)
      ∧ r.2.mem ((c.tc : Thread Cert.S5Params.nD Cert.S5Params.τ).loc Cert.S5Params.main_arg7) = m ((c.tc : Thread Cert.S5Params.nD Cert.S5Params.τ).loc Cert.S5Params.main_arg7)
      ∧ r.2.mem ((c.tc : Thread Cert.S5Params.nD Cert.S5Params.τ).loc Cert.S5Params.main_arg8) = m ((c.tc : Thread Cert.S5Params.nD Cert.S5Params.τ).loc Cert.S5Params.main_arg8))
      ∧ r.2.sem = fun _ => 0)

def quiescent_S5ParamsIdeal [hS5ParamsIdeal : Cert.S5ParamsIdeal.Facts] : Prop :=
  ∀ (m : (ℓ : Loc Cert.S5ParamsIdeal.nD Cert.S5ParamsIdeal.τ Cert.S5ParamsIdeal.sig) → Buf (Elt Ideal) ℓ) (g : Dev Cert.S5ParamsIdeal.nD → PrngReg), Pre_S5ParamsIdeal m →
    θ_run (Cert.S5ParamsIdeal.defs (F := Ideal)) (onTc (τ := Cert.S5ParamsIdeal.τ) (Cert.S5ParamsIdeal.main (F := Ideal))) ⟨m, fun _ => 0, g⟩ (fun r => (∀ c : Dev Cert.S5ParamsIdeal.nD,
      r.2.mem ((c.tc : Thread Cert.S5ParamsIdeal.nD Cert.S5ParamsIdeal.τ).loc Cert.S5ParamsIdeal.main_arg0) = m ((c.tc : Thread Cert.S5ParamsIdeal.nD Cert.S5ParamsIdeal.τ).loc Cert.S5ParamsIdeal.main_arg0)
      ∧ r.2.mem ((c.tc : Thread Cert.S5ParamsIdeal.nD Cert.S5ParamsIdeal.τ).loc Cert.S5ParamsIdeal.main_arg1) = m ((c.tc : Thread Cert.S5ParamsIdeal.nD Cert.S5ParamsIdeal.τ).loc Cert.S5ParamsIdeal.main_arg1)
      ∧ r.2.mem ((c.tc : Thread Cert.S5ParamsIdeal.nD Cert.S5ParamsIdeal.τ).loc Cert.S5ParamsIdeal.main_arg2) = m ((c.tc : Thread Cert.S5ParamsIdeal.nD Cert.S5ParamsIdeal.τ).loc Cert.S5ParamsIdeal.main_arg2)
      ∧ r.2.mem ((c.tc : Thread Cert.S5ParamsIdeal.nD Cert.S5ParamsIdeal.τ).loc Cert.S5ParamsIdeal.main_arg3) = m ((c.tc : Thread Cert.S5ParamsIdeal.nD Cert.S5ParamsIdeal.τ).loc Cert.S5ParamsIdeal.main_arg3)
      ∧ r.2.mem ((c.tc : Thread Cert.S5ParamsIdeal.nD Cert.S5ParamsIdeal.τ).loc Cert.S5ParamsIdeal.main_arg4) = m ((c.tc : Thread Cert.S5ParamsIdeal.nD Cert.S5ParamsIdeal.τ).loc Cert.S5ParamsIdeal.main_arg4)
      ∧ r.2.mem ((c.tc : Thread Cert.S5ParamsIdeal.nD Cert.S5ParamsIdeal.τ).loc Cert.S5ParamsIdeal.main_arg5) = m ((c.tc : Thread Cert.S5ParamsIdeal.nD Cert.S5ParamsIdeal.τ).loc Cert.S5ParamsIdeal.main_arg5)
      ∧ r.2.mem ((c.tc : Thread Cert.S5ParamsIdeal.nD Cert.S5ParamsIdeal.τ).loc Cert.S5ParamsIdeal.main_arg6) = m ((c.tc : Thread Cert.S5ParamsIdeal.nD Cert.S5ParamsIdeal.τ).loc Cert.S5ParamsIdeal.main_arg6)
      ∧ r.2.mem ((c.tc : Thread Cert.S5ParamsIdeal.nD Cert.S5ParamsIdeal.τ).loc Cert.S5ParamsIdeal.main_arg7) = m ((c.tc : Thread Cert.S5ParamsIdeal.nD Cert.S5ParamsIdeal.τ).loc Cert.S5ParamsIdeal.main_arg7)
      ∧ r.2.mem ((c.tc : Thread Cert.S5ParamsIdeal.nD Cert.S5ParamsIdeal.τ).loc Cert.S5ParamsIdeal.main_arg8) = m ((c.tc : Thread Cert.S5ParamsIdeal.nD Cert.S5ParamsIdeal.τ).loc Cert.S5ParamsIdeal.main_arg8))
      ∧ r.2.sem = fun _ => 0)

def quiescent_LruStep [hLruStep : Cert.LruStep.Facts] : Prop :=
  ∀ (m : (ℓ : Loc Cert.LruStep.nD Cert.LruStep.τ Cert.LruStep.sig) → Buf (Elt Bits) ℓ) (g : Dev Cert.LruStep.nD → PrngReg), Pre_LruStep m →
    θ_run (Cert.LruStep.defs (F := Bits)) (onTc (τ := Cert.LruStep.τ) (Cert.LruStep.main (F := Bits))) ⟨m, fun _ => 0, g⟩ (fun r => (∀ c : Dev Cert.LruStep.nD,
      r.2.mem ((c.tc : Thread Cert.LruStep.nD Cert.LruStep.τ).loc Cert.LruStep.main_arg0) = m ((c.tc : Thread Cert.LruStep.nD Cert.LruStep.τ).loc Cert.LruStep.main_arg0)
      ∧ r.2.mem ((c.tc : Thread Cert.LruStep.nD Cert.LruStep.τ).loc Cert.LruStep.main_arg1) = m ((c.tc : Thread Cert.LruStep.nD Cert.LruStep.τ).loc Cert.LruStep.main_arg1)
      ∧ r.2.mem ((c.tc : Thread Cert.LruStep.nD Cert.LruStep.τ).loc Cert.LruStep.main_arg2) = m ((c.tc : Thread Cert.LruStep.nD Cert.LruStep.τ).loc Cert.LruStep.main_arg2)
      ∧ r.2.mem ((c.tc : Thread Cert.LruStep.nD Cert.LruStep.τ).loc Cert.LruStep.main_arg3) = m ((c.tc : Thread Cert.LruStep.nD Cert.LruStep.τ).loc Cert.LruStep.main_arg3)
      ∧ r.2.mem ((c.tc : Thread Cert.LruStep.nD Cert.LruStep.τ).loc Cert.LruStep.main_arg4) = m ((c.tc : Thread Cert.LruStep.nD Cert.LruStep.τ).loc Cert.LruStep.main_arg4)
      ∧ r.2.mem ((c.tc : Thread Cert.LruStep.nD Cert.LruStep.τ).loc Cert.LruStep.main_arg5) = m ((c.tc : Thread Cert.LruStep.nD Cert.LruStep.τ).loc Cert.LruStep.main_arg5)
      ∧ r.2.mem ((c.tc : Thread Cert.LruStep.nD Cert.LruStep.τ).loc Cert.LruStep.main_arg6) = m ((c.tc : Thread Cert.LruStep.nD Cert.LruStep.τ).loc Cert.LruStep.main_arg6)
      ∧ r.2.mem ((c.tc : Thread Cert.LruStep.nD Cert.LruStep.τ).loc Cert.LruStep.main_arg7) = m ((c.tc : Thread Cert.LruStep.nD Cert.LruStep.τ).loc Cert.LruStep.main_arg7)
      ∧ r.2.mem ((c.tc : Thread Cert.LruStep.nD Cert.LruStep.τ).loc Cert.LruStep.main_arg8) = m ((c.tc : Thread Cert.LruStep.nD Cert.LruStep.τ).loc Cert.LruStep.main_arg8)
      ∧ r.2.mem ((c.tc : Thread Cert.LruStep.nD Cert.LruStep.τ).loc Cert.LruStep.main_arg9) = m ((c.tc : Thread Cert.LruStep.nD Cert.LruStep.τ).loc Cert.LruStep.main_arg9)
      ∧ r.2.mem ((c.tc : Thread Cert.LruStep.nD Cert.LruStep.τ).loc Cert.LruStep.main_arg10) = m ((c.tc : Thread Cert.LruStep.nD Cert.LruStep.τ).loc Cert.LruStep.main_arg10))
      ∧ r.2.sem = fun _ => 0)

def quiescent_LruStepIdeal [hLruStepIdeal : Cert.LruStepIdeal.Facts] : Prop :=
  ∀ (m : (ℓ : Loc Cert.LruStepIdeal.nD Cert.LruStepIdeal.τ Cert.LruStepIdeal.sig) → Buf (Elt Ideal) ℓ) (g : Dev Cert.LruStepIdeal.nD → PrngReg), Pre_LruStepIdeal m →
    θ_run (Cert.LruStepIdeal.defs (F := Ideal)) (onTc (τ := Cert.LruStepIdeal.τ) (Cert.LruStepIdeal.main (F := Ideal))) ⟨m, fun _ => 0, g⟩ (fun r => (∀ c : Dev Cert.LruStepIdeal.nD,
      r.2.mem ((c.tc : Thread Cert.LruStepIdeal.nD Cert.LruStepIdeal.τ).loc Cert.LruStepIdeal.main_arg0) = m ((c.tc : Thread Cert.LruStepIdeal.nD Cert.LruStepIdeal.τ).loc Cert.LruStepIdeal.main_arg0)
      ∧ r.2.mem ((c.tc : Thread Cert.LruStepIdeal.nD Cert.LruStepIdeal.τ).loc Cert.LruStepIdeal.main_arg1) = m ((c.tc : Thread Cert.LruStepIdeal.nD Cert.LruStepIdeal.τ).loc Cert.LruStepIdeal.main_arg1)
      ∧ r.2.mem ((c.tc : Thread Cert.LruStepIdeal.nD Cert.LruStepIdeal.τ).loc Cert.LruStepIdeal.main_arg2) = m ((c.tc : Thread Cert.LruStepIdeal.nD Cert.LruStepIdeal.τ).loc Cert.LruStepIdeal.main_arg2)
      ∧ r.2.mem ((c.tc : Thread Cert.LruStepIdeal.nD Cert.LruStepIdeal.τ).loc Cert.LruStepIdeal.main_arg3) = m ((c.tc : Thread Cert.LruStepIdeal.nD Cert.LruStepIdeal.τ).loc Cert.LruStepIdeal.main_arg3)
      ∧ r.2.mem ((c.tc : Thread Cert.LruStepIdeal.nD Cert.LruStepIdeal.τ).loc Cert.LruStepIdeal.main_arg4) = m ((c.tc : Thread Cert.LruStepIdeal.nD Cert.LruStepIdeal.τ).loc Cert.LruStepIdeal.main_arg4)
      ∧ r.2.mem ((c.tc : Thread Cert.LruStepIdeal.nD Cert.LruStepIdeal.τ).loc Cert.LruStepIdeal.main_arg5) = m ((c.tc : Thread Cert.LruStepIdeal.nD Cert.LruStepIdeal.τ).loc Cert.LruStepIdeal.main_arg5)
      ∧ r.2.mem ((c.tc : Thread Cert.LruStepIdeal.nD Cert.LruStepIdeal.τ).loc Cert.LruStepIdeal.main_arg6) = m ((c.tc : Thread Cert.LruStepIdeal.nD Cert.LruStepIdeal.τ).loc Cert.LruStepIdeal.main_arg6)
      ∧ r.2.mem ((c.tc : Thread Cert.LruStepIdeal.nD Cert.LruStepIdeal.τ).loc Cert.LruStepIdeal.main_arg7) = m ((c.tc : Thread Cert.LruStepIdeal.nD Cert.LruStepIdeal.τ).loc Cert.LruStepIdeal.main_arg7)
      ∧ r.2.mem ((c.tc : Thread Cert.LruStepIdeal.nD Cert.LruStepIdeal.τ).loc Cert.LruStepIdeal.main_arg8) = m ((c.tc : Thread Cert.LruStepIdeal.nD Cert.LruStepIdeal.τ).loc Cert.LruStepIdeal.main_arg8)
      ∧ r.2.mem ((c.tc : Thread Cert.LruStepIdeal.nD Cert.LruStepIdeal.τ).loc Cert.LruStepIdeal.main_arg9) = m ((c.tc : Thread Cert.LruStepIdeal.nD Cert.LruStepIdeal.τ).loc Cert.LruStepIdeal.main_arg9)
      ∧ r.2.mem ((c.tc : Thread Cert.LruStepIdeal.nD Cert.LruStepIdeal.τ).loc Cert.LruStepIdeal.main_arg10) = m ((c.tc : Thread Cert.LruStepIdeal.nD Cert.LruStepIdeal.τ).loc Cert.LruStepIdeal.main_arg10))
      ∧ r.2.sem = fun _ => 0)

def quiescent_LruStepRefIdeal [hLruStepRefIdeal : Cert.LruStepRefIdeal.Facts] : Prop :=
  ∀ (m : (ℓ : Loc Cert.LruStepRefIdeal.nD Cert.LruStepRefIdeal.τ Cert.LruStepRefIdeal.sig) → Buf (Elt Ideal) ℓ) (g : Dev Cert.LruStepRefIdeal.nD → PrngReg), Pre_LruStepRefIdeal m →
    θ_run (Cert.LruStepRefIdeal.defs (F := Ideal)) (onTc (τ := Cert.LruStepRefIdeal.τ) (Cert.LruStepRefIdeal.main (F := Ideal))) ⟨m, fun _ => 0, g⟩ (fun r => (∀ c : Dev Cert.LruStepRefIdeal.nD,
      r.2.mem ((c.tc : Thread Cert.LruStepRefIdeal.nD Cert.LruStepRefIdeal.τ).loc Cert.LruStepRefIdeal.main_arg0) = m ((c.tc : Thread Cert.LruStepRefIdeal.nD Cert.LruStepRefIdeal.τ).loc Cert.LruStepRefIdeal.main_arg0)
      ∧ r.2.mem ((c.tc : Thread Cert.LruStepRefIdeal.nD Cert.LruStepRefIdeal.τ).loc Cert.LruStepRefIdeal.main_arg1) = m ((c.tc : Thread Cert.LruStepRefIdeal.nD Cert.LruStepRefIdeal.τ).loc Cert.LruStepRefIdeal.main_arg1)
      ∧ r.2.mem ((c.tc : Thread Cert.LruStepRefIdeal.nD Cert.LruStepRefIdeal.τ).loc Cert.LruStepRefIdeal.main_arg2) = m ((c.tc : Thread Cert.LruStepRefIdeal.nD Cert.LruStepRefIdeal.τ).loc Cert.LruStepRefIdeal.main_arg2)
      ∧ r.2.mem ((c.tc : Thread Cert.LruStepRefIdeal.nD Cert.LruStepRefIdeal.τ).loc Cert.LruStepRefIdeal.main_arg3) = m ((c.tc : Thread Cert.LruStepRefIdeal.nD Cert.LruStepRefIdeal.τ).loc Cert.LruStepRefIdeal.main_arg3)
      ∧ r.2.mem ((c.tc : Thread Cert.LruStepRefIdeal.nD Cert.LruStepRefIdeal.τ).loc Cert.LruStepRefIdeal.main_arg4) = m ((c.tc : Thread Cert.LruStepRefIdeal.nD Cert.LruStepRefIdeal.τ).loc Cert.LruStepRefIdeal.main_arg4)
      ∧ r.2.mem ((c.tc : Thread Cert.LruStepRefIdeal.nD Cert.LruStepRefIdeal.τ).loc Cert.LruStepRefIdeal.main_arg5) = m ((c.tc : Thread Cert.LruStepRefIdeal.nD Cert.LruStepRefIdeal.τ).loc Cert.LruStepRefIdeal.main_arg5)
      ∧ r.2.mem ((c.tc : Thread Cert.LruStepRefIdeal.nD Cert.LruStepRefIdeal.τ).loc Cert.LruStepRefIdeal.main_arg6) = m ((c.tc : Thread Cert.LruStepRefIdeal.nD Cert.LruStepRefIdeal.τ).loc Cert.LruStepRefIdeal.main_arg6)
      ∧ r.2.mem ((c.tc : Thread Cert.LruStepRefIdeal.nD Cert.LruStepRefIdeal.τ).loc Cert.LruStepRefIdeal.main_arg7) = m ((c.tc : Thread Cert.LruStepRefIdeal.nD Cert.LruStepRefIdeal.τ).loc Cert.LruStepRefIdeal.main_arg7)
      ∧ r.2.mem ((c.tc : Thread Cert.LruStepRefIdeal.nD Cert.LruStepRefIdeal.τ).loc Cert.LruStepRefIdeal.main_arg8) = m ((c.tc : Thread Cert.LruStepRefIdeal.nD Cert.LruStepRefIdeal.τ).loc Cert.LruStepRefIdeal.main_arg8)
      ∧ r.2.mem ((c.tc : Thread Cert.LruStepRefIdeal.nD Cert.LruStepRefIdeal.τ).loc Cert.LruStepRefIdeal.main_arg9) = m ((c.tc : Thread Cert.LruStepRefIdeal.nD Cert.LruStepRefIdeal.τ).loc Cert.LruStepRefIdeal.main_arg9)
      ∧ r.2.mem ((c.tc : Thread Cert.LruStepRefIdeal.nD Cert.LruStepRefIdeal.τ).loc Cert.LruStepRefIdeal.main_arg10) = m ((c.tc : Thread Cert.LruStepRefIdeal.nD Cert.LruStepRefIdeal.τ).loc Cert.LruStepRefIdeal.main_arg10))
      ∧ r.2.sem = fun _ => 0)

def quiescent_S5Step [hS5Step : Cert.S5Step.Facts] : Prop :=
  ∀ (m : (ℓ : Loc Cert.S5Step.nD Cert.S5Step.τ Cert.S5Step.sig) → Buf (Elt Bits) ℓ) (g : Dev Cert.S5Step.nD → PrngReg), Pre_S5Step m →
    θ_run (Cert.S5Step.defs (F := Bits)) (onTc (τ := Cert.S5Step.τ) (Cert.S5Step.main (F := Bits))) ⟨m, fun _ => 0, g⟩ (fun r => (∀ c : Dev Cert.S5Step.nD,
      r.2.mem ((c.tc : Thread Cert.S5Step.nD Cert.S5Step.τ).loc Cert.S5Step.main_arg0) = m ((c.tc : Thread Cert.S5Step.nD Cert.S5Step.τ).loc Cert.S5Step.main_arg0)
      ∧ r.2.mem ((c.tc : Thread Cert.S5Step.nD Cert.S5Step.τ).loc Cert.S5Step.main_arg1) = m ((c.tc : Thread Cert.S5Step.nD Cert.S5Step.τ).loc Cert.S5Step.main_arg1)
      ∧ r.2.mem ((c.tc : Thread Cert.S5Step.nD Cert.S5Step.τ).loc Cert.S5Step.main_arg2) = m ((c.tc : Thread Cert.S5Step.nD Cert.S5Step.τ).loc Cert.S5Step.main_arg2)
      ∧ r.2.mem ((c.tc : Thread Cert.S5Step.nD Cert.S5Step.τ).loc Cert.S5Step.main_arg3) = m ((c.tc : Thread Cert.S5Step.nD Cert.S5Step.τ).loc Cert.S5Step.main_arg3)
      ∧ r.2.mem ((c.tc : Thread Cert.S5Step.nD Cert.S5Step.τ).loc Cert.S5Step.main_arg4) = m ((c.tc : Thread Cert.S5Step.nD Cert.S5Step.τ).loc Cert.S5Step.main_arg4)
      ∧ r.2.mem ((c.tc : Thread Cert.S5Step.nD Cert.S5Step.τ).loc Cert.S5Step.main_arg5) = m ((c.tc : Thread Cert.S5Step.nD Cert.S5Step.τ).loc Cert.S5Step.main_arg5)
      ∧ r.2.mem ((c.tc : Thread Cert.S5Step.nD Cert.S5Step.τ).loc Cert.S5Step.main_arg6) = m ((c.tc : Thread Cert.S5Step.nD Cert.S5Step.τ).loc Cert.S5Step.main_arg6))
      ∧ r.2.sem = fun _ => 0)

def quiescent_S5StepIdeal [hS5StepIdeal : Cert.S5StepIdeal.Facts] : Prop :=
  ∀ (m : (ℓ : Loc Cert.S5StepIdeal.nD Cert.S5StepIdeal.τ Cert.S5StepIdeal.sig) → Buf (Elt Ideal) ℓ) (g : Dev Cert.S5StepIdeal.nD → PrngReg), Pre_S5StepIdeal m →
    θ_run (Cert.S5StepIdeal.defs (F := Ideal)) (onTc (τ := Cert.S5StepIdeal.τ) (Cert.S5StepIdeal.main (F := Ideal))) ⟨m, fun _ => 0, g⟩ (fun r => (∀ c : Dev Cert.S5StepIdeal.nD,
      r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
      ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
      ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
      ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
      ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
      ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
      ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6))
      ∧ r.2.sem = fun _ => 0)

def quiescent_S5StepRefIdeal [hS5StepRefIdeal : Cert.S5StepRefIdeal.Facts] : Prop :=
  ∀ (m : (ℓ : Loc Cert.S5StepRefIdeal.nD Cert.S5StepRefIdeal.τ Cert.S5StepRefIdeal.sig) → Buf (Elt Ideal) ℓ) (g : Dev Cert.S5StepRefIdeal.nD → PrngReg), Pre_S5StepRefIdeal m →
    θ_run (Cert.S5StepRefIdeal.defs (F := Ideal)) (onTc (τ := Cert.S5StepRefIdeal.τ) (Cert.S5StepRefIdeal.main (F := Ideal))) ⟨m, fun _ => 0, g⟩ (fun r => (∀ c : Dev Cert.S5StepRefIdeal.nD,
      r.2.mem ((c.tc : Thread Cert.S5StepRefIdeal.nD Cert.S5StepRefIdeal.τ).loc Cert.S5StepRefIdeal.main_arg0) = m ((c.tc : Thread Cert.S5StepRefIdeal.nD Cert.S5StepRefIdeal.τ).loc Cert.S5StepRefIdeal.main_arg0)
      ∧ r.2.mem ((c.tc : Thread Cert.S5StepRefIdeal.nD Cert.S5StepRefIdeal.τ).loc Cert.S5StepRefIdeal.main_arg1) = m ((c.tc : Thread Cert.S5StepRefIdeal.nD Cert.S5StepRefIdeal.τ).loc Cert.S5StepRefIdeal.main_arg1)
      ∧ r.2.mem ((c.tc : Thread Cert.S5StepRefIdeal.nD Cert.S5StepRefIdeal.τ).loc Cert.S5StepRefIdeal.main_arg2) = m ((c.tc : Thread Cert.S5StepRefIdeal.nD Cert.S5StepRefIdeal.τ).loc Cert.S5StepRefIdeal.main_arg2)
      ∧ r.2.mem ((c.tc : Thread Cert.S5StepRefIdeal.nD Cert.S5StepRefIdeal.τ).loc Cert.S5StepRefIdeal.main_arg3) = m ((c.tc : Thread Cert.S5StepRefIdeal.nD Cert.S5StepRefIdeal.τ).loc Cert.S5StepRefIdeal.main_arg3)
      ∧ r.2.mem ((c.tc : Thread Cert.S5StepRefIdeal.nD Cert.S5StepRefIdeal.τ).loc Cert.S5StepRefIdeal.main_arg4) = m ((c.tc : Thread Cert.S5StepRefIdeal.nD Cert.S5StepRefIdeal.τ).loc Cert.S5StepRefIdeal.main_arg4)
      ∧ r.2.mem ((c.tc : Thread Cert.S5StepRefIdeal.nD Cert.S5StepRefIdeal.τ).loc Cert.S5StepRefIdeal.main_arg5) = m ((c.tc : Thread Cert.S5StepRefIdeal.nD Cert.S5StepRefIdeal.τ).loc Cert.S5StepRefIdeal.main_arg5)
      ∧ r.2.mem ((c.tc : Thread Cert.S5StepRefIdeal.nD Cert.S5StepRefIdeal.τ).loc Cert.S5StepRefIdeal.main_arg6) = m ((c.tc : Thread Cert.S5StepRefIdeal.nD Cert.S5StepRefIdeal.τ).loc Cert.S5StepRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def preserves_LruSeq_LruSeqIdeal : Prop :=
  True

def preserves_S5Seq_S5SeqIdeal : Prop :=
  True

def preserves_S5Params_S5ParamsIdeal : Prop :=
  True

def preserves_LruStep_LruStepIdeal : Prop :=
  True

def algebraic_LruStepIdeal_LruStepRefIdeal [hLruStepIdeal : Cert.LruStepIdeal.Facts] [hLruStepRefIdeal : Cert.LruStepRefIdeal.Facts] : Prop :=
  ∀ (m : (ℓ : Loc Cert.LruStepIdeal.nD Cert.LruStepIdeal.τ Cert.LruStepIdeal.sig) → Buf (Elt Ideal) ℓ) (g : Dev Cert.LruStepIdeal.nD → PrngReg)
    (m' : (ℓ : Loc Cert.LruStepRefIdeal.nD Cert.LruStepRefIdeal.τ Cert.LruStepRefIdeal.sig) → Buf (Elt Ideal) ℓ) (g' : Dev Cert.LruStepRefIdeal.nD → PrngReg), Pre_LruStepIdeal m →
    (∀ c : Dev Cert.LruStepIdeal.nD,
      m' ((c.tc : Thread Cert.LruStepRefIdeal.nD Cert.LruStepRefIdeal.τ).loc Cert.LruStepRefIdeal.main_arg0) = m ((c.tc : Thread Cert.LruStepIdeal.nD Cert.LruStepIdeal.τ).loc Cert.LruStepIdeal.main_arg0)
      ∧ m' ((c.tc : Thread Cert.LruStepRefIdeal.nD Cert.LruStepRefIdeal.τ).loc Cert.LruStepRefIdeal.main_arg1) = m ((c.tc : Thread Cert.LruStepIdeal.nD Cert.LruStepIdeal.τ).loc Cert.LruStepIdeal.main_arg1)
      ∧ m' ((c.tc : Thread Cert.LruStepRefIdeal.nD Cert.LruStepRefIdeal.τ).loc Cert.LruStepRefIdeal.main_arg2) = m ((c.tc : Thread Cert.LruStepIdeal.nD Cert.LruStepIdeal.τ).loc Cert.LruStepIdeal.main_arg2)
      ∧ m' ((c.tc : Thread Cert.LruStepRefIdeal.nD Cert.LruStepRefIdeal.τ).loc Cert.LruStepRefIdeal.main_arg3) = m ((c.tc : Thread Cert.LruStepIdeal.nD Cert.LruStepIdeal.τ).loc Cert.LruStepIdeal.main_arg3)
      ∧ m' ((c.tc : Thread Cert.LruStepRefIdeal.nD Cert.LruStepRefIdeal.τ).loc Cert.LruStepRefIdeal.main_arg4) = m ((c.tc : Thread Cert.LruStepIdeal.nD Cert.LruStepIdeal.τ).loc Cert.LruStepIdeal.main_arg4)
      ∧ m' ((c.tc : Thread Cert.LruStepRefIdeal.nD Cert.LruStepRefIdeal.τ).loc Cert.LruStepRefIdeal.main_arg5) = m ((c.tc : Thread Cert.LruStepIdeal.nD Cert.LruStepIdeal.τ).loc Cert.LruStepIdeal.main_arg5)
      ∧ m' ((c.tc : Thread Cert.LruStepRefIdeal.nD Cert.LruStepRefIdeal.τ).loc Cert.LruStepRefIdeal.main_arg6) = m ((c.tc : Thread Cert.LruStepIdeal.nD Cert.LruStepIdeal.τ).loc Cert.LruStepIdeal.main_arg6)
      ∧ m' ((c.tc : Thread Cert.LruStepRefIdeal.nD Cert.LruStepRefIdeal.τ).loc Cert.LruStepRefIdeal.main_arg7) = m ((c.tc : Thread Cert.LruStepIdeal.nD Cert.LruStepIdeal.τ).loc Cert.LruStepIdeal.main_arg7)
      ∧ m' ((c.tc : Thread Cert.LruStepRefIdeal.nD Cert.LruStepRefIdeal.τ).loc Cert.LruStepRefIdeal.main_arg8) = m ((c.tc : Thread Cert.LruStepIdeal.nD Cert.LruStepIdeal.τ).loc Cert.LruStepIdeal.main_arg8)
      ∧ m' ((c.tc : Thread Cert.LruStepRefIdeal.nD Cert.LruStepRefIdeal.τ).loc Cert.LruStepRefIdeal.main_arg9) = m ((c.tc : Thread Cert.LruStepIdeal.nD Cert.LruStepIdeal.τ).loc Cert.LruStepIdeal.main_arg9)
      ∧ m' ((c.tc : Thread Cert.LruStepRefIdeal.nD Cert.LruStepRefIdeal.τ).loc Cert.LruStepRefIdeal.main_arg10) = m ((c.tc : Thread Cert.LruStepIdeal.nD Cert.LruStepIdeal.τ).loc Cert.LruStepIdeal.main_arg10)) →
    ∃ (v0 : (c : Dev Cert.LruStepIdeal.nD) → Buf (Elt Ideal) ((c.tc : Thread Cert.LruStepIdeal.nD Cert.LruStepIdeal.τ).loc Cert.LruStepIdeal.main_v8_0)) (v1 : (c : Dev Cert.LruStepIdeal.nD) → Buf (Elt Ideal) ((c.tc : Thread Cert.LruStepIdeal.nD Cert.LruStepIdeal.τ).loc Cert.LruStepIdeal.main_v8_1)) (v2 : (c : Dev Cert.LruStepIdeal.nD) → Buf (Elt Ideal) ((c.tc : Thread Cert.LruStepIdeal.nD Cert.LruStepIdeal.τ).loc Cert.LruStepIdeal.main_v8_2)),
      θ_run (Cert.LruStepIdeal.defs (F := Ideal)) (onTc (τ := Cert.LruStepIdeal.τ) (Cert.LruStepIdeal.main (F := Ideal))) ⟨m, fun _ => 0, g⟩ (fun r => ∀ c : Dev Cert.LruStepIdeal.nD,
          r.2.mem ((c.tc : Thread Cert.LruStepIdeal.nD Cert.LruStepIdeal.τ).loc Cert.LruStepIdeal.main_v8_0) = v0 c
          ∧ r.2.mem ((c.tc : Thread Cert.LruStepIdeal.nD Cert.LruStepIdeal.τ).loc Cert.LruStepIdeal.main_v8_1) = v1 c
          ∧ r.2.mem ((c.tc : Thread Cert.LruStepIdeal.nD Cert.LruStepIdeal.τ).loc Cert.LruStepIdeal.main_v8_2) = v2 c
          ∧ r.2.mem ((c.tc : Thread Cert.LruStepIdeal.nD Cert.LruStepIdeal.τ).loc Cert.LruStepIdeal.main_arg0) = m ((c.tc : Thread Cert.LruStepIdeal.nD Cert.LruStepIdeal.τ).loc Cert.LruStepIdeal.main_arg0)
          ∧ r.2.mem ((c.tc : Thread Cert.LruStepIdeal.nD Cert.LruStepIdeal.τ).loc Cert.LruStepIdeal.main_arg1) = m ((c.tc : Thread Cert.LruStepIdeal.nD Cert.LruStepIdeal.τ).loc Cert.LruStepIdeal.main_arg1)
          ∧ r.2.mem ((c.tc : Thread Cert.LruStepIdeal.nD Cert.LruStepIdeal.τ).loc Cert.LruStepIdeal.main_arg2) = m ((c.tc : Thread Cert.LruStepIdeal.nD Cert.LruStepIdeal.τ).loc Cert.LruStepIdeal.main_arg2)
          ∧ r.2.mem ((c.tc : Thread Cert.LruStepIdeal.nD Cert.LruStepIdeal.τ).loc Cert.LruStepIdeal.main_arg3) = m ((c.tc : Thread Cert.LruStepIdeal.nD Cert.LruStepIdeal.τ).loc Cert.LruStepIdeal.main_arg3)
          ∧ r.2.mem ((c.tc : Thread Cert.LruStepIdeal.nD Cert.LruStepIdeal.τ).loc Cert.LruStepIdeal.main_arg4) = m ((c.tc : Thread Cert.LruStepIdeal.nD Cert.LruStepIdeal.τ).loc Cert.LruStepIdeal.main_arg4)
          ∧ r.2.mem ((c.tc : Thread Cert.LruStepIdeal.nD Cert.LruStepIdeal.τ).loc Cert.LruStepIdeal.main_arg5) = m ((c.tc : Thread Cert.LruStepIdeal.nD Cert.LruStepIdeal.τ).loc Cert.LruStepIdeal.main_arg5)
          ∧ r.2.mem ((c.tc : Thread Cert.LruStepIdeal.nD Cert.LruStepIdeal.τ).loc Cert.LruStepIdeal.main_arg6) = m ((c.tc : Thread Cert.LruStepIdeal.nD Cert.LruStepIdeal.τ).loc Cert.LruStepIdeal.main_arg6)
          ∧ r.2.mem ((c.tc : Thread Cert.LruStepIdeal.nD Cert.LruStepIdeal.τ).loc Cert.LruStepIdeal.main_arg7) = m ((c.tc : Thread Cert.LruStepIdeal.nD Cert.LruStepIdeal.τ).loc Cert.LruStepIdeal.main_arg7)
          ∧ r.2.mem ((c.tc : Thread Cert.LruStepIdeal.nD Cert.LruStepIdeal.τ).loc Cert.LruStepIdeal.main_arg8) = m ((c.tc : Thread Cert.LruStepIdeal.nD Cert.LruStepIdeal.τ).loc Cert.LruStepIdeal.main_arg8)
          ∧ r.2.mem ((c.tc : Thread Cert.LruStepIdeal.nD Cert.LruStepIdeal.τ).loc Cert.LruStepIdeal.main_arg9) = m ((c.tc : Thread Cert.LruStepIdeal.nD Cert.LruStepIdeal.τ).loc Cert.LruStepIdeal.main_arg9)
          ∧ r.2.mem ((c.tc : Thread Cert.LruStepIdeal.nD Cert.LruStepIdeal.τ).loc Cert.LruStepIdeal.main_arg10) = m ((c.tc : Thread Cert.LruStepIdeal.nD Cert.LruStepIdeal.τ).loc Cert.LruStepIdeal.main_arg10))
      ∧ θ_run (Cert.LruStepRefIdeal.defs (F := Ideal)) (onTc (τ := Cert.LruStepRefIdeal.τ) (Cert.LruStepRefIdeal.main (F := Ideal))) ⟨m', fun _ => 0, g'⟩ (fun r => ∀ c : Dev Cert.LruStepRefIdeal.nD,
          r.2.mem ((c.tc : Thread Cert.LruStepRefIdeal.nD Cert.LruStepRefIdeal.τ).loc Cert.LruStepRefIdeal.main_v109) = v0 c
          ∧ r.2.mem ((c.tc : Thread Cert.LruStepRefIdeal.nD Cert.LruStepRefIdeal.τ).loc Cert.LruStepRefIdeal.main_v110) = v1 c
          ∧ r.2.mem ((c.tc : Thread Cert.LruStepRefIdeal.nD Cert.LruStepRefIdeal.τ).loc Cert.LruStepRefIdeal.main_v111) = v2 c
          ∧ r.2.mem ((c.tc : Thread Cert.LruStepRefIdeal.nD Cert.LruStepRefIdeal.τ).loc Cert.LruStepRefIdeal.main_arg0) = m' ((c.tc : Thread Cert.LruStepRefIdeal.nD Cert.LruStepRefIdeal.τ).loc Cert.LruStepRefIdeal.main_arg0)
          ∧ r.2.mem ((c.tc : Thread Cert.LruStepRefIdeal.nD Cert.LruStepRefIdeal.τ).loc Cert.LruStepRefIdeal.main_arg1) = m' ((c.tc : Thread Cert.LruStepRefIdeal.nD Cert.LruStepRefIdeal.τ).loc Cert.LruStepRefIdeal.main_arg1)
          ∧ r.2.mem ((c.tc : Thread Cert.LruStepRefIdeal.nD Cert.LruStepRefIdeal.τ).loc Cert.LruStepRefIdeal.main_arg2) = m' ((c.tc : Thread Cert.LruStepRefIdeal.nD Cert.LruStepRefIdeal.τ).loc Cert.LruStepRefIdeal.main_arg2)
          ∧ r.2.mem ((c.tc : Thread Cert.LruStepRefIdeal.nD Cert.LruStepRefIdeal.τ).loc Cert.LruStepRefIdeal.main_arg3) = m' ((c.tc : Thread Cert.LruStepRefIdeal.nD Cert.LruStepRefIdeal.τ).loc Cert.LruStepRefIdeal.main_arg3)
          ∧ r.2.mem ((c.tc : Thread Cert.LruStepRefIdeal.nD Cert.LruStepRefIdeal.τ).loc Cert.LruStepRefIdeal.main_arg4) = m' ((c.tc : Thread Cert.LruStepRefIdeal.nD Cert.LruStepRefIdeal.τ).loc Cert.LruStepRefIdeal.main_arg4)
          ∧ r.2.mem ((c.tc : Thread Cert.LruStepRefIdeal.nD Cert.LruStepRefIdeal.τ).loc Cert.LruStepRefIdeal.main_arg5) = m' ((c.tc : Thread Cert.LruStepRefIdeal.nD Cert.LruStepRefIdeal.τ).loc Cert.LruStepRefIdeal.main_arg5)
          ∧ r.2.mem ((c.tc : Thread Cert.LruStepRefIdeal.nD Cert.LruStepRefIdeal.τ).loc Cert.LruStepRefIdeal.main_arg6) = m' ((c.tc : Thread Cert.LruStepRefIdeal.nD Cert.LruStepRefIdeal.τ).loc Cert.LruStepRefIdeal.main_arg6)
          ∧ r.2.mem ((c.tc : Thread Cert.LruStepRefIdeal.nD Cert.LruStepRefIdeal.τ).loc Cert.LruStepRefIdeal.main_arg7) = m' ((c.tc : Thread Cert.LruStepRefIdeal.nD Cert.LruStepRefIdeal.τ).loc Cert.LruStepRefIdeal.main_arg7)
          ∧ r.2.mem ((c.tc : Thread Cert.LruStepRefIdeal.nD Cert.LruStepRefIdeal.τ).loc Cert.LruStepRefIdeal.main_arg8) = m' ((c.tc : Thread Cert.LruStepRefIdeal.nD Cert.LruStepRefIdeal.τ).loc Cert.LruStepRefIdeal.main_arg8)
          ∧ r.2.mem ((c.tc : Thread Cert.LruStepRefIdeal.nD Cert.LruStepRefIdeal.τ).loc Cert.LruStepRefIdeal.main_arg9) = m' ((c.tc : Thread Cert.LruStepRefIdeal.nD Cert.LruStepRefIdeal.τ).loc Cert.LruStepRefIdeal.main_arg9)
          ∧ r.2.mem ((c.tc : Thread Cert.LruStepRefIdeal.nD Cert.LruStepRefIdeal.τ).loc Cert.LruStepRefIdeal.main_arg10) = m' ((c.tc : Thread Cert.LruStepRefIdeal.nD Cert.LruStepRefIdeal.τ).loc Cert.LruStepRefIdeal.main_arg10))

def preserves_S5Step_S5StepIdeal : Prop :=
  True

def algebraic_S5StepIdeal_S5StepRefIdeal [hS5StepIdeal : Cert.S5StepIdeal.Facts] [hS5StepRefIdeal : Cert.S5StepRefIdeal.Facts] : Prop :=
  ∀ (m : (ℓ : Loc Cert.S5StepIdeal.nD Cert.S5StepIdeal.τ Cert.S5StepIdeal.sig) → Buf (Elt Ideal) ℓ) (g : Dev Cert.S5StepIdeal.nD → PrngReg)
    (m' : (ℓ : Loc Cert.S5StepRefIdeal.nD Cert.S5StepRefIdeal.τ Cert.S5StepRefIdeal.sig) → Buf (Elt Ideal) ℓ) (g' : Dev Cert.S5StepRefIdeal.nD → PrngReg), Pre_S5StepIdeal m →
    (∀ c : Dev Cert.S5StepIdeal.nD,
      m' ((c.tc : Thread Cert.S5StepRefIdeal.nD Cert.S5StepRefIdeal.τ).loc Cert.S5StepRefIdeal.main_arg0) = m ((c.tc : Thread Cert.S5StepIdeal.nD Cert.S5StepIdeal.τ).loc Cert.S5StepIdeal.main_arg0)
      ∧ m' ((c.tc : Thread Cert.S5StepRefIdeal.nD Cert.S5StepRefIdeal.τ).loc Cert.S5StepRefIdeal.main_arg1) = m ((c.tc : Thread Cert.S5StepIdeal.nD Cert.S5StepIdeal.τ).loc Cert.S5StepIdeal.main_arg1)
      ∧ m' ((c.tc : Thread Cert.S5StepRefIdeal.nD Cert.S5StepRefIdeal.τ).loc Cert.S5StepRefIdeal.main_arg2) = m ((c.tc : Thread Cert.S5StepIdeal.nD Cert.S5StepIdeal.τ).loc Cert.S5StepIdeal.main_arg2)
      ∧ m' ((c.tc : Thread Cert.S5StepRefIdeal.nD Cert.S5StepRefIdeal.τ).loc Cert.S5StepRefIdeal.main_arg3) = m ((c.tc : Thread Cert.S5StepIdeal.nD Cert.S5StepIdeal.τ).loc Cert.S5StepIdeal.main_arg3)
      ∧ m' ((c.tc : Thread Cert.S5StepRefIdeal.nD Cert.S5StepRefIdeal.τ).loc Cert.S5StepRefIdeal.main_arg4) = m ((c.tc : Thread Cert.S5StepIdeal.nD Cert.S5StepIdeal.τ).loc Cert.S5StepIdeal.main_arg4)
      ∧ m' ((c.tc : Thread Cert.S5StepRefIdeal.nD Cert.S5StepRefIdeal.τ).loc Cert.S5StepRefIdeal.main_arg5) = m ((c.tc : Thread Cert.S5StepIdeal.nD Cert.S5StepIdeal.τ).loc Cert.S5StepIdeal.main_arg5)
      ∧ m' ((c.tc : Thread Cert.S5StepRefIdeal.nD Cert.S5StepRefIdeal.τ).loc Cert.S5StepRefIdeal.main_arg6) = m ((c.tc : Thread Cert.S5StepIdeal.nD Cert.S5StepIdeal.τ).loc Cert.S5StepIdeal.main_arg6)) →
    ∃ (v0 : (c : Dev Cert.S5StepIdeal.nD) → Buf (Elt Ideal) ((c.tc : Thread Cert.S5StepIdeal.nD Cert.S5StepIdeal.τ).loc Cert.S5StepIdeal.main_v0_0)) (v1 : (c : Dev Cert.S5StepIdeal.nD) → Buf (Elt Ideal) ((c.tc : Thread Cert.S5StepIdeal.nD Cert.S5StepIdeal.τ).loc Cert.S5StepIdeal.main_v0_1)) (v2 : (c : Dev Cert.S5StepIdeal.nD) → Buf (Elt Ideal) ((c.tc : Thread Cert.S5StepIdeal.nD Cert.S5StepIdeal.τ).loc Cert.S5StepIdeal.main_v0_2)),
      θ_run (Cert.S5StepIdeal.defs (F := Ideal)) (onTc (τ := Cert.S5StepIdeal.τ) (Cert.S5StepIdeal.main (F := Ideal))) ⟨m, fun _ => 0, g⟩ (fun r => ∀ c : Dev Cert.S5StepIdeal.nD,
          r.2.mem ((c.tc : Thread Cert.S5StepIdeal.nD Cert.S5StepIdeal.τ).loc Cert.S5StepIdeal.main_v0_0) = v0 c
          ∧ r.2.mem ((c.tc : Thread Cert.S5StepIdeal.nD Cert.S5StepIdeal.τ).loc Cert.S5StepIdeal.main_v0_1) = v1 c
          ∧ r.2.mem ((c.tc : Thread Cert.S5StepIdeal.nD Cert.S5StepIdeal.τ).loc Cert.S5StepIdeal.main_v0_2) = v2 c
          ∧ r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
          ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
          ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
          ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
          ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
          ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
          ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6))
      ∧ θ_run (Cert.S5StepRefIdeal.defs (F := Ideal)) (onTc (τ := Cert.S5StepRefIdeal.τ) (Cert.S5StepRefIdeal.main (F := Ideal))) ⟨m', fun _ => 0, g'⟩ (fun r => ∀ c : Dev Cert.S5StepRefIdeal.nD,
          r.2.mem ((c.tc : Thread Cert.S5StepRefIdeal.nD Cert.S5StepRefIdeal.τ).loc Cert.S5StepRefIdeal.main_v62) = v0 c
          ∧ r.2.mem ((c.tc : Thread Cert.S5StepRefIdeal.nD Cert.S5StepRefIdeal.τ).loc Cert.S5StepRefIdeal.main_v22) = v1 c
          ∧ r.2.mem ((c.tc : Thread Cert.S5StepRefIdeal.nD Cert.S5StepRefIdeal.τ).loc Cert.S5StepRefIdeal.main_v33) = v2 c
          ∧ r.2.mem ((c.tc : Thread Cert.S5StepRefIdeal.nD Cert.S5StepRefIdeal.τ).loc Cert.S5StepRefIdeal.main_arg0) = m' ((c.tc : Thread Cert.S5StepRefIdeal.nD Cert.S5StepRefIdeal.τ).loc Cert.S5StepRefIdeal.main_arg0)
          ∧ r.2.mem ((c.tc : Thread Cert.S5StepRefIdeal.nD Cert.S5StepRefIdeal.τ).loc Cert.S5StepRefIdeal.main_arg1) = m' ((c.tc : Thread Cert.S5StepRefIdeal.nD Cert.S5StepRefIdeal.τ).loc Cert.S5StepRefIdeal.main_arg1)
          ∧ r.2.mem ((c.tc : Thread Cert.S5StepRefIdeal.nD Cert.S5StepRefIdeal.τ).loc Cert.S5StepRefIdeal.main_arg2) = m' ((c.tc : Thread Cert.S5StepRefIdeal.nD Cert.S5StepRefIdeal.τ).loc Cert.S5StepRefIdeal.main_arg2)
          ∧ r.2.mem ((c.tc : Thread Cert.S5StepRefIdeal.nD Cert.S5StepRefIdeal.τ).loc Cert.S5StepRefIdeal.main_arg3) = m' ((c.tc : Thread Cert.S5StepRefIdeal.nD Cert.S5StepRefIdeal.τ).loc Cert.S5StepRefIdeal.main_arg3)
          ∧ r.2.mem ((c.tc : Thread Cert.S5StepRefIdeal.nD Cert.S5StepRefIdeal.τ).loc Cert.S5StepRefIdeal.main_arg4) = m' ((c.tc : Thread Cert.S5StepRefIdeal.nD Cert.S5StepRefIdeal.τ).loc Cert.S5StepRefIdeal.main_arg4)
          ∧ r.2.mem ((c.tc : Thread Cert.S5StepRefIdeal.nD Cert.S5StepRefIdeal.τ).loc Cert.S5StepRefIdeal.main_arg5) = m' ((c.tc : Thread Cert.S5StepRefIdeal.nD Cert.S5StepRefIdeal.τ).loc Cert.S5StepRefIdeal.main_arg5)
          ∧ r.2.mem ((c.tc : Thread Cert.S5StepRefIdeal.nD Cert.S5StepRefIdeal.τ).loc Cert.S5StepRefIdeal.main_arg6) = m' ((c.tc : Thread Cert.S5StepRefIdeal.nD Cert.S5StepRefIdeal.τ).loc Cert.S5StepRefIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v1_0)) (v1 : (c : Dev Cert.MlpIdeal.nD) → Buf (Elt Ideal) ((c.tc : Thread Cert.MlpIdeal.nD Cert.MlpIdeal.τ).loc Cert.MlpIdeal.main_v1_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1_0) = v0 c
          ∧ r.2.mem ((c.tc : Thread Cert.MlpIdeal.nD Cert.MlpIdeal.τ).loc Cert.MlpIdeal.main_v1_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v19) = v0 c
          ∧ r.2.mem ((c.tc : Thread Cert.MlpRefIdeal.nD Cert.MlpRefIdeal.τ).loc Cert.MlpRefIdeal.main_v37) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v1_0)) (v1 : (c : Dev Cert.NormInIdeal.nD) → Buf (Elt Ideal) ((c.tc : Thread Cert.NormInIdeal.nD Cert.NormInIdeal.τ).loc Cert.NormInIdeal.main_v1_1)) (v2 : (c : Dev Cert.NormInIdeal.nD) → Buf (Elt Ideal) ((c.tc : Thread Cert.NormInIdeal.nD Cert.NormInIdeal.τ).loc Cert.NormInIdeal.main_v3)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1_0) = v0 c
          ∧ r.2.mem ((c.tc : Thread Cert.NormInIdeal.nD Cert.NormInIdeal.τ).loc Cert.NormInIdeal.main_v1_1) = v1 c
          ∧ r.2.mem ((c.tc : Thread Cert.NormInIdeal.nD Cert.NormInIdeal.τ).loc Cert.NormInIdeal.main_v3) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v14) = v0 c
          ∧ r.2.mem ((c.tc : Thread Cert.NormInRefIdeal.nD Cert.NormInRefIdeal.τ).loc Cert.NormInRefIdeal.main_v28) = v1 c
          ∧ r.2.mem ((c.tc : Thread Cert.NormInRefIdeal.nD Cert.NormInRefIdeal.τ).loc Cert.NormInRefIdeal.main_v30) = v2 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_v71) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v9) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v3_0)) (v1 : (c : Dev Cert.GluIdeal.nD) → Buf (Elt Ideal) ((c.tc : Thread Cert.GluIdeal.nD Cert.GluIdeal.τ).loc Cert.GluIdeal.main_v3_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3_0) = v0 c
          ∧ r.2.mem ((c.tc : Thread Cert.GluIdeal.nD Cert.GluIdeal.τ).loc Cert.GluIdeal.main_v3_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v24) = v0 c
          ∧ r.2.mem ((c.tc : Thread Cert.GluRefIdeal.nD Cert.GluRefIdeal.τ).loc Cert.GluRefIdeal.main_v50) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def Claim : Prop :=
  ∃ (hLruSeq : Cert.LruSeq.Facts) (hLruSeqIdeal : Cert.LruSeqIdeal.Facts) (hLruSeqRefIdeal : Cert.LruSeqRefIdeal.Facts) (hS5Seq : Cert.S5Seq.Facts) (hS5SeqIdeal : Cert.S5SeqIdeal.Facts) (hS5Params : Cert.S5Params.Facts) (hS5ParamsIdeal : Cert.S5ParamsIdeal.Facts) (hLruStep : Cert.LruStep.Facts) (hLruStepIdeal : Cert.LruStepIdeal.Facts) (hLruStepRefIdeal : Cert.LruStepRefIdeal.Facts) (hS5Step : Cert.S5Step.Facts) (hS5StepIdeal : Cert.S5StepIdeal.Facts) (hS5StepRefIdeal : Cert.S5StepRefIdeal.Facts) (hMlp : Cert.Mlp.Facts) (hMlpIdeal : Cert.MlpIdeal.Facts) (hMlpRefIdeal : Cert.MlpRefIdeal.Facts) (hNormIn : Cert.NormIn.Facts) (hNormInIdeal : Cert.NormInIdeal.Facts) (hNormInRefIdeal : Cert.NormInRefIdeal.Facts) (hPle : Cert.Ple.Facts) (hPleIdeal : Cert.PleIdeal.Facts) (hPleRefIdeal : Cert.PleRefIdeal.Facts) (hOutProj : Cert.OutProj.Facts) (hOutProjIdeal : Cert.OutProjIdeal.Facts) (hOutProjRefIdeal : Cert.OutProjRefIdeal.Facts) (hGlu : Cert.Glu.Facts) (hGluIdeal : Cert.GluIdeal.Facts) (hGluRefIdeal : Cert.GluRefIdeal.Facts),
    quiescent_LruSeq (hLruSeq := hLruSeq)
    ∧ quiescent_LruSeqIdeal (hLruSeqIdeal := hLruSeqIdeal)
    ∧ quiescent_LruSeqRefIdeal (hLruSeqRefIdeal := hLruSeqRefIdeal)
    ∧ quiescent_S5Seq (hS5Seq := hS5Seq)
    ∧ quiescent_S5SeqIdeal (hS5SeqIdeal := hS5SeqIdeal)
    ∧ quiescent_S5Params (hS5Params := hS5Params)
    ∧ quiescent_S5ParamsIdeal (hS5ParamsIdeal := hS5ParamsIdeal)
    ∧ quiescent_LruStep (hLruStep := hLruStep)
    ∧ quiescent_LruStepIdeal (hLruStepIdeal := hLruStepIdeal)
    ∧ quiescent_LruStepRefIdeal (hLruStepRefIdeal := hLruStepRefIdeal)
    ∧ quiescent_S5Step (hS5Step := hS5Step)
    ∧ quiescent_S5StepIdeal (hS5StepIdeal := hS5StepIdeal)
    ∧ quiescent_S5StepRefIdeal (hS5StepRefIdeal := hS5StepRefIdeal)
    ∧ quiescent_Mlp (hMlp := hMlp)
    ∧ quiescent_MlpIdeal (hMlpIdeal := hMlpIdeal)
    ∧ quiescent_MlpRefIdeal (hMlpRefIdeal := hMlpRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_Ple (hPle := hPle)
    ∧ quiescent_PleIdeal (hPleIdeal := hPleIdeal)
    ∧ quiescent_PleRefIdeal (hPleRefIdeal := hPleRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Glu (hGlu := hGlu)
    ∧ quiescent_GluIdeal (hGluIdeal := hGluIdeal)
    ∧ quiescent_GluRefIdeal (hGluRefIdeal := hGluRefIdeal)
    ∧ preserves_LruSeq_LruSeqIdeal
    ∧ preserves_S5Seq_S5SeqIdeal
    ∧ preserves_S5Params_S5ParamsIdeal
    ∧ preserves_LruStep_LruStepIdeal
    ∧ algebraic_LruStepIdeal_LruStepRefIdeal (hLruStepIdeal := hLruStepIdeal) (hLruStepRefIdeal := hLruStepRefIdeal)
    ∧ preserves_S5Step_S5StepIdeal
    ∧ algebraic_S5StepIdeal_S5StepRefIdeal (hS5StepIdeal := hS5StepIdeal) (hS5StepRefIdeal := hS5StepRefIdeal)
    ∧ preserves_Mlp_MlpIdeal
    ∧ algebraic_MlpIdeal_MlpRefIdeal (hMlpIdeal := hMlpIdeal) (hMlpRefIdeal := hMlpRefIdeal)
    ∧ preserves_NormIn_NormInIdeal
    ∧ algebraic_NormInIdeal_NormInRefIdeal (hNormInIdeal := hNormInIdeal) (hNormInRefIdeal := hNormInRefIdeal)
    ∧ preserves_Ple_PleIdeal
    ∧ algebraic_PleIdeal_PleRefIdeal (hPleIdeal := hPleIdeal) (hPleRefIdeal := hPleRefIdeal)
    ∧ preserves_OutProj_OutProjIdeal
    ∧ algebraic_OutProjIdeal_OutProjRefIdeal (hOutProjIdeal := hOutProjIdeal) (hOutProjRefIdeal := hOutProjRefIdeal)
    ∧ preserves_Glu_GluIdeal
    ∧ algebraic_GluIdeal_GluRefIdeal (hGluIdeal := hGluIdeal) (hGluRefIdeal := hGluRefIdeal)
-- ==== LruSeq.lean ====
abbrev S4x2048x3072 : Shape := ⟨3, ![4, 2048, 3072]⟩
abbrev S4x1024 : Shape := ⟨2, ![4, 1024]⟩
abbrev S1024 : Shape := ⟨1, ![1024]⟩
abbrev S4x256x256 : Shape := ⟨3, ![4, 256, 256]⟩
abbrev S2048x8192 : Shape := ⟨2, ![2048, 8192]⟩
abbrev S1x1024 : Shape := ⟨2, ![1, 1024]⟩
abbrev S4x2048x1024 : Shape := ⟨3, ![4, 2048, 1024]⟩
abbrev S8x4x128 : Shape := ⟨3, ![8, 4, 128]⟩
abbrev S4x64x1024 : Shape := ⟨3, ![4, 64, 1024]⟩
abbrev S64x8192 : Shape := ⟨2, ![64, 8192]⟩
abbrev S4x72x1024 : Shape := ⟨3, ![4, 72, 1024]⟩
abbrev S8x288x128 : Shape := ⟨3, ![8, 288, 128]⟩
abbrev S4x8x1024 : Shape := ⟨3, ![4, 8, 1024]⟩
abbrev S4x256 : Shape := ⟨2, ![4, 256]⟩
abbrev S1x256 : Shape := ⟨2, ![1, 256]⟩
abbrev S4x64x256 : Shape := ⟨3, ![4, 64, 256]⟩
abbrev S1x1x256 : Shape := ⟨3, ![1, 1, 256]⟩
abbrev S256x256 : Shape := ⟨2, ![256, 256]⟩
abbrev S1x256x256 : Shape := ⟨3, ![1, 256, 256]⟩
abbrev S64x128 : Shape := ⟨2, ![64, 128]⟩
abbrev S1x64x128 : Shape := ⟨3, ![1, 64, 128]⟩
abbrev S1x4x128 : Shape := ⟨3, ![1, 4, 128]⟩
abbrev S4x128 : Shape := ⟨2, ![4, 128]⟩
abbrev S64x1024 : Shape := ⟨2, ![64, 1024]⟩
abbrev S1x64x1024 : Shape := ⟨3, ![1, 64, 1024]⟩
abbrev S4x64 : Shape := ⟨2, ![4, 64]⟩
abbrev S4x64x1 : Shape := ⟨3, ![4, 64, 1]⟩
abbrev S1x1x1024 : Shape := ⟨3, ![1, 1, 1024]⟩

abbrev nBuf : Space → Nat
  | .hbm => 20
  | .vmem => 23
  | .smem => 0
  | _ => 0

abbrev bufTy : (tb : Table) → Fin (tcTables nBuf tb) → BufTy
  | .hbm, ⟨0, _⟩ => ⟨S4x2048x3072, .f32⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2048x8192, .f32⟩
  | .hbm, ⟨10, _⟩ => ⟨S4x256x256, .bf16⟩
  | .hbm, ⟨11, _⟩ => ⟨S4x256x256, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4x2048x1024, .bf16⟩
  | .hbm, ⟨18, _⟩ => ⟨S8x4x128, .f32⟩
  | .hbm, ⟨19, _⟩ => ⟨S2048x8192, .bf16⟩
  | .local _ .vmem, ⟨0, _⟩ => ⟨S4x64x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S64x8192, .f32⟩
  | .local _ .vmem, ⟨13, _⟩ => ⟨S64x8192, .f32⟩
  | .local _ .vmem, ⟨14, _⟩ => ⟨S4x64x1024, .bf16⟩
  | .local _ .vmem, ⟨15, _⟩ => ⟨S4x64x1024, .bf16⟩
  | .local _ .vmem, ⟨16, _⟩ => ⟨S8x4x128, .f32⟩
  | .local _ .vmem, ⟨17, _⟩ => ⟨S64x8192, .bf16⟩
  | .local _ .vmem, ⟨18, _⟩ => ⟨S64x8192, .bf16⟩
  | .local _ .vmem, ⟨19, _⟩ => ⟨S4x72x1024, .f32⟩
  | .local _ .vmem, ⟨20, _⟩ => ⟨S8x288x128, .f32⟩
  | .local _ .vmem, ⟨21, _⟩ => ⟨S8x288x128, .f32⟩
  | .local _ .vmem, ⟨22, _⟩ => ⟨S8x4x128, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_356 : BitVec 32 := 0#32
  let c8_i32 : BitVec 32 := 8#32
  let v590 : BitVec 32 := Scalar.addi c0_i32_356 c8_i32
  let c1_i32 : BitVec 32 := 1#32
  ⟨c0_i32_356, v590, c1_i32⟩
def k0_mult1 (k0_t1 : Fin k0_t1_loop.trips) : BitVec 32 :=
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  v745
def k0_off1 (k0_t1 : Fin k0_t1_loop.trips) (c0_i32_518 : BitVec 32) : Fin 3 → Nat :=
  let c0_519 : Index := 0#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v748 : Index := Scalar.indexCast v747
  let c0_520 : Index := 0#32
  ![0, v748.toNat, 0]
def k0_off2 (k0_t1 : Fin k0_t1_loop.trips) (c0_i32_518 : BitVec 32) : Fin 3 → Nat :=
  let c1_525 : Index := 1#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v760 : Index := Scalar.indexCast v747
  let c0_526 : Index := 0#32
  ![1, v760.toNat, 0]
def k0_off3 (k0_t1 : Fin k0_t1_loop.trips) (c0_i32_518 : BitVec 32) : Fin 3 → Nat :=
  let c2_531 : Index := 2#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v772 : Index := Scalar.indexCast v747
  let c0_532 : Index := 0#32
  ![2, v772.toNat, 0]
def k0_off4 (k0_t1 : Fin k0_t1_loop.trips) (c0_i32_518 : BitVec 32) : Fin 3 → Nat :=
  let c3_537 : Index := 3#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v784 : Index := Scalar.indexCast v747
  let c0_538 : Index := 0#32
  ![3, v784.toNat, 0]
def k0_off5 (k0_t1 : Fin k0_t1_loop.trips) (c0_i32_518 : BitVec 32) : Fin 3 → Nat :=
  let c4_543 : Index := 4#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v796 : Index := Scalar.indexCast v747
  let c0_544 : Index := 0#32
  ![4, v796.toNat, 0]
def k0_off6 (k0_t1 : Fin k0_t1_loop.trips) (c0_i32_518 : BitVec 32) : Fin 3 → Nat :=
  let c5_549 : Index := 5#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v808 : Index := Scalar.indexCast v747
  let c0_550 : Index := 0#32
  ![5, v808.toNat, 0]
def k0_off7 (k0_t1 : Fin k0_t1_loop.trips) (c0_i32_518 : BitVec 32) : Fin 3 → Nat :=
  let c6_555 : Index := 6#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v820 : Index := Scalar.indexCast v747
  let c0_556 : Index := 0#32
  ![6, v820.toNat, 0]
def k0_off8 (k0_t1 : Fin k0_t1_loop.trips) (c0_i32_518 : BitVec 32) : Fin 3 → Nat :=
  let c7_561 : Index := 7#32
  let c0_i32_356 : BitVec 32 := 0#32
  let c1_i32 : BitVec 32 := 1#32
  let arg19 : BitVec 32 := Scf.iv c0_i32_356 c1_i32 k0_t1
  let c8_i32_517 : BitVec 32 := 8#32
  let v745 : BitVec 32 := Scalar.muli arg19 c8_i32_517
  let v746 : BitVec 32 := v745
  let v747 : BitVec 32 := Scalar.addi v746 c0_i32_518
  let v832 : Index := Scalar.indexCast v747
  let c0_562 : Index := 0#32
  ![7, v832.toNat, 0]
def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_1 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x4x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LruSeqRefIdeal.lean ====
abbrev S4x2048x3072 : Shape := ⟨3, ![4, 2048, 3072]⟩
abbrev S4x1024 : Shape := ⟨2, ![4, 1024]⟩
abbrev S1024 : Shape := ⟨1, ![1024]⟩
abbrev S4x256x256 : Shape := ⟨3, ![4, 256, 256]⟩
abbrev S2048x8192 : Shape := ⟨2, ![2048, 8192]⟩
abbrev S4x2048x1024 : Shape := ⟨3, ![4, 2048, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1x1x1024 : Shape := ⟨3, ![1, 1, 1024]⟩
abbrev S4x2048x4x256 : Shape := ⟨4, ![4, 2048, 4, 256]⟩
abbrev S4x256x4x2048 : Shape := ⟨4, ![4, 256, 4, 2048]⟩
abbrev S2048x4x1024 : Shape := ⟨3, ![2048, 4, 1024]⟩
abbrev S1x4x1024 : Shape := ⟨3, ![1, 4, 1024]⟩
abbrev S4x2048 : Shape := ⟨2, ![4, 2048]⟩
abbrev S4x2048x1 : Shape := ⟨3, ![4, 2048, 1]⟩
abbrev S4x8x128 : Shape := ⟨3, ![4, 8, 128]⟩
abbrev S8x4x128 : Shape := ⟨3, ![8, 4, 128]⟩

abbrev nBuf : Space → Nat
  | .hbm => 177
  | .vmem => 0
  | .smem => 0
  | _ => 0

abbrev hbmTy0_0 (i : Nat) : BufTy := match i % 128 with
  | 0 => ⟨S4x2048x3072, .f32⟩
  | 1 => ⟨S4x1024, .f32⟩
  | 2 => ⟨S1024, .f32⟩
  | 3 => ⟨S4x256x256, .f32⟩
  | 4 => ⟨S1024, .f32⟩
  | 5 => ⟨S4x256x256, .f32⟩
  | 6 => ⟨S1024, .f32⟩
  | 7 => ⟨S1024, .f32⟩
  | 8 => ⟨S1024, .f32⟩
  | 9 => ⟨S2048x8192, .f32⟩
  | 10 => ⟨S4x2048x1024, .f32⟩
  | 11 => ⟨S4x2048x1024, .f32⟩
  | 12 => ⟨S_, .f32⟩
  | 13 => ⟨S4x3x1024, .f32⟩
  | 14 => ⟨S4x2051x1024, .f32⟩
  | 15 => ⟨S4x2048x1024, .f32⟩
  | 16 => ⟨S1x1024, .f32⟩
  | 17 => ⟨S1024, .f32⟩
  | 18 => ⟨S1x1x1024, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S4x2048x1024, .f32⟩
  | 25 => ⟨S1x1024, .f32⟩
  | 26 => ⟨S1024, .f32⟩
  | 27 => ⟨S1x1x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S1x1024, .f32⟩
  | 33 => ⟨S1024, .f32⟩
  | 34 => ⟨S1x1x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S1x1024, .f32⟩
  | 40 => ⟨S1024, .f32⟩
  | 41 => ⟨S1x1x1024, .f32⟩
  | 42 => ⟨S4x2048x1024, .f32⟩
  | 43 => ⟨S4x2048x1024, .f32⟩
  | 44 => ⟨S4x2048x1024, .f32⟩
  | 45 => ⟨S1x1x1024, .f32⟩
  | 46 => ⟨S4x2048x1024, .f32⟩
  | 47 => ⟨S4x2048x1024, .f32⟩
  | 48 => ⟨S4x3x1024, .f32⟩
  | 49 => ⟨S4x2048x4x256, .f32⟩
  | 50 => ⟨S4x256x4x2048, .f32⟩
  | 51 => ⟨S4x2048x4x256, .f32⟩
  | 52 => ⟨S4x2048x1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S_, .f32⟩
  | 59 => ⟨S4x2048x1024, .f32⟩
  | 60 => ⟨S4x2048x1024, .f32⟩
  | 61 => ⟨S_, .f32⟩
  | 62 => ⟨S4x2048x1024, .f32⟩
  | 63 => ⟨S4x2048x1024, .f32⟩
  | 64 => ⟨S4x256x4x2048, .f32⟩
  | 65 => ⟨S4x2048x4x256, .f32⟩
  | 66 => ⟨S4x2048x1024, .f32⟩
  | 67 => ⟨S1x1x1024, .f32⟩
  | 68 => ⟨S4x2048x1024, .f32⟩
  | 69 => ⟨S4x2048x1024, .f32⟩
  | 70 => ⟨S4x2048x1024, .f32⟩
  | 71 => ⟨S4x2048x1024, .f32⟩
  | 72 => ⟨S_, .f32⟩
  | 73 => ⟨S4x2048x1024, .f32⟩
  | 74 => ⟨S4x2048x1024, .f32⟩
  | 75 => ⟨S_, .f32⟩
  | 76 => ⟨S4x2048x1024, .f32⟩
  | 77 => ⟨S4x2048x1024, .f32⟩
  | 78 => ⟨S_, .f32⟩
  | 79 => ⟨S4x2048x1024, .f32⟩
  | 80 => ⟨S4x2048x1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S1024, .f32⟩
  | 87 => ⟨S1024, .i1⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1x1x1024, .f32⟩
  | 97 => ⟨S4x2048x1024, .f32⟩
  | 98 => ⟨S4x2048x1024, .f32⟩
  | 99 => ⟨S4x2048x1024, .f32⟩
  | 100 => ⟨S_, .f32⟩
  | 101 => ⟨S4x2048x1024, .f32⟩
  | 102 => ⟨S4x2048x1024, .f32⟩
  | 103 => ⟨S4x2048x1024, .f32⟩
  | 104 => ⟨S4x2048x1024, .f32⟩
  | 105 => ⟨S4x2048x1024, .f32⟩
  | 106 => ⟨S4x2048x1024, .f32⟩
  | 107 => ⟨S4x2048x1024, .f32⟩
  | 108 => ⟨S_, .f32⟩
  | 109 => ⟨S4x1024, .f32⟩
  | 110 => ⟨S2048x4x1024, .f32⟩
  | 111 => ⟨S2048x4x1024, .f32⟩
  | 112 => ⟨S_, .f32⟩
  | 113 => ⟨S2048x4x1024, .f32⟩
  | 114 => ⟨S_, .i32⟩
  | 115 => ⟨S2048x4x1024, .f32⟩
  | 116 => ⟨S2048x4x1024, .f32⟩
  | 117 => ⟨S_, .i32⟩
  | 118 => ⟨S4x1024, .f32⟩
  | 119 => ⟨S2048x4x1024, .f32⟩
  | 120 => ⟨S_, .i32⟩
  | 121 => ⟨S_, .i1⟩
  | 122 => ⟨S_, .i32⟩
  | 123 => ⟨S_, .i32⟩
  | 124 => ⟨S1x4x1024, .f32⟩
  | 125 => ⟨S4x1024, .f32⟩
  | 126 => ⟨S_, .i32⟩
  | 127 => ⟨S_, .i32⟩
  | _ => ⟨S4x2048x3072, .f32⟩

abbrev hbmTy0_1 (i : Nat) : BufTy := match i % 128 with
  | 0 => ⟨S1x4x1024, .f32⟩
  | 1 => ⟨S4x1024, .f32⟩
  | 2 => ⟨S4x1024, .f32⟩
  | 3 => ⟨S4x1024, .f32⟩
  | 4 => ⟨S1x4x1024, .f32⟩
  | 5 => ⟨S_, .i32⟩
  | 6 => ⟨S_, .i32⟩
  | 7 => ⟨S2048x4x1024, .f32⟩
  | 8 => ⟨S_, .i32⟩
  | 9 => ⟨S_, .i32⟩
  | 10 => ⟨S4x2048x1024, .f32⟩
  | 11 => ⟨S4x2048x1024, .f32⟩
  | 12 => ⟨S4x2048x1024, .f32⟩
  | 13 => ⟨S_, .f32⟩
  | 14 => ⟨S4x2048x1024, .f32⟩
  | 15 => ⟨S4x2048x1024, .f32⟩
  | 16 => ⟨S4x2048x1024, .f32⟩
  | 17 => ⟨S_, .f32⟩
  | 18 => ⟨S4x2048x1024, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S_, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048x1, .f32⟩
  | 38 => ⟨S4x2048x1, .f32⟩
  | 39 => ⟨S4x2048x1, .f32⟩
  | 40 => ⟨S4x2048x1024, .f32⟩
  | 41 => ⟨S4x2048x1024, .f32⟩
  | 42 => ⟨S1x1x1024, .f32⟩
  | 43 => ⟨S4x2048x1024, .f32⟩
  | 44 => ⟨S4x2048x1024, .f32⟩
  | 45 => ⟨S4x2048x1024, .bf16⟩
  | 46 => ⟨S4x8x128, .f32⟩
  | 47 => ⟨S8x4x128, .f32⟩
  | 48 => ⟨S2048x8192, .bf16⟩
  | _ => ⟨S4x2048x3072, .f32⟩

abbrev hbmTy (i : Nat) : BufTy := match i / 128 with
  | 0 => hbmTy0_0 i
  | 1 => hbmTy0_1 i
  | _ => ⟨S4x2048x3072, .f32⟩

abbrev bufTy : (tb : Table) → Fin (tcTables nBuf tb) → BufTy
  | .hbm, ⟨i, _⟩ => hbmTy i
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_6 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_8 : Ref sig .tc := ⟨.hbm, 112, rfl⟩
abbrev main_v80 : Ref sig .tc := ⟨.hbm, 113, rfl⟩
abbrev main_c : Ref sig .tc := ⟨.hbm, 114, rfl⟩
abbrev main_v81_0 : Ref sig .tc := ⟨.hbm, 115, rfl⟩
abbrev main_v81_1 : Ref sig .tc := ⟨.hbm, 116, rfl⟩
abbrev main_v81_2 : Ref sig .tc := ⟨.hbm, 117, rfl⟩
abbrev main_v81_3 : Ref sig .tc := ⟨.hbm, 118, rfl⟩
abbrev main_v81_4 : Ref sig .tc := ⟨.hbm, 119, rfl⟩
abbrev main_while0c_c_20 : Ref sig .tc := ⟨.hbm, 120, rfl⟩
abbrev main_while0c_v114 : Ref sig .tc := ⟨.hbm, 121, rfl⟩
abbrev main_while0b_call1_c : Ref sig .tc := ⟨.hbm, 122, rfl⟩
abbrev main_while0b_call1_c_0 : Ref sig .tc := ⟨.hbm, 123, rfl⟩
abbrev main_while0b_call1_v0 : Ref sig .tc := ⟨.hbm, 124, rfl⟩
abbrev main_while0b_v114 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_v0 : Ref sig .tc := ⟨.hbm, 128, rfl⟩
abbrev main_while0b_v115 : Ref sig .tc := ⟨.hbm, 129, rfl⟩
abbrev main_while0b_v116 : Ref sig .tc := ⟨.hbm, 130, rfl⟩
abbrev main_while0b_v117 : Ref sig .tc := ⟨.hbm, 131, rfl⟩
abbrev main_while0b_call3_v0 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_v118 : Ref sig .tc := ⟨.hbm, 135, rfl⟩
abbrev main_while0b_c_20 : Ref sig .tc := ⟨.hbm, 136, rfl⟩
abbrev main_while0b_v119 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_9 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_10 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_11 : Ref sig .tc := ⟨.hbm, 149, rfl⟩
abbrev main_v91 : Ref sig .tc := ⟨.hbm, 150, rfl⟩
abbrev main_v92 : Ref sig .tc := ⟨.hbm, 151, rfl⟩
abbrev main_cst_12 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_13 : Ref sig .tc := ⟨.hbm, 158, rfl⟩
abbrev main_v98 : Ref sig .tc := ⟨.hbm, 159, rfl⟩
abbrev main_v99 : Ref sig .tc := ⟨.hbm, 160, rfl⟩
abbrev main_cst_14 : Ref sig .tc := ⟨.hbm, 161, rfl⟩
abbrev main_v100 : Ref sig .tc := ⟨.hbm, 162, rfl⟩
abbrev main_v101 : Ref sig .tc := ⟨.hbm, 163, rfl⟩
abbrev main_cst_15 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩

abbrev nD : Nat := 1
abbrev τ : Topo := Topo.v7x

variable {F : FTy → Type} [FloatOps F]

abbrev main_while0_count : Scf.Loop 32 := ⟨0#32, 2048#32, 1#32⟩
-- ==== S5Seq.lean ====
abbrev S4x2048x3072 : Shape := ⟨3, ![4, 2048, 3072]⟩
abbrev S64x256x256 : Shape := ⟨3, ![64, 256, 256]⟩
abbrev S64x128x256 : Shape := ⟨3, ![64, 128, 256]⟩
abbrev S64x256x128 : Shape := ⟨3, ![64, 256, 128]⟩
abbrev S32x2x128x128 : Shape := ⟨4, ![32, 2, 128, 128]⟩
abbrev S8192x2048 : Shape := ⟨2, ![8192, 2048]⟩
abbrev S4x2048x1024 : Shape := ⟨3, ![4, 2048, 1024]⟩
abbrev S64x2x64x128 : Shape := ⟨4, ![64, 2, 64, 128]⟩
abbrev S4x2048x128 : Shape := ⟨3, ![4, 2048, 128]⟩
abbrev S8x256x256 : Shape := ⟨3, ![8, 256, 256]⟩
abbrev S8x128x256 : Shape := ⟨3, ![8, 128, 256]⟩
abbrev S8x256x128 : Shape := ⟨3, ![8, 256, 128]⟩
abbrev S4x2x128x128 : Shape := ⟨4, ![4, 2, 128, 128]⟩
abbrev S1024x2048 : Shape := ⟨2, ![1024, 2048]⟩
abbrev S8x2x64x128 : Shape := ⟨4, ![8, 2, 64, 128]⟩
abbrev S8x256x512 : Shape := ⟨3, ![8, 256, 512]⟩
abbrev S512x512 : Shape := ⟨2, ![512, 512]⟩
abbrev S1x128x128 : Shape := ⟨3, ![1, 128, 128]⟩
abbrev S128x128 : Shape := ⟨2, ![128, 128]⟩
abbrev S8x16x128 : Shape := ⟨3, ![8, 16, 128]⟩
abbrev S1x128x256 : Shape := ⟨3, ![1, 128, 256]⟩
abbrev S128x256 : Shape := ⟨2, ![128, 256]⟩
abbrev S1x256x512 : Shape := ⟨3, ![1, 256, 512]⟩
abbrev S256x512 : Shape := ⟨2, ![256, 512]⟩
abbrev S128x512 : Shape := ⟨2, ![128, 512]⟩
abbrev S64x512 : Shape := ⟨2, ![64, 512]⟩
abbrev S512x128 : Shape := ⟨2, ![512, 128]⟩
abbrev S1x1x128x128 : Shape := ⟨4, ![1, 1, 128, 128]⟩
abbrev S512x1 : Shape := ⟨2, ![512, 1]⟩
abbrev S64x128 : Shape := ⟨2, ![64, 128]⟩
abbrev S1x1x64x128 : Shape := ⟨4, ![1, 1, 64, 128]⟩
abbrev S1x256x128 : Shape := ⟨3, ![1, 256, 128]⟩
abbrev S256x128 : Shape := ⟨2, ![256, 128]⟩
abbrev S1x256x256 : Shape := ⟨3, ![1, 256, 256]⟩
abbrev S256x256 : Shape := ⟨2, ![256, 256]⟩

abbrev nBuf : Space → Nat
  | .hbm => 9
  | .vmem => 22
  | .smem => 0
  | _ => 0

abbrev bufTy : (tb : Table) → Fin (tcTables nBuf tb) → BufTy
  | .hbm, ⟨0, _⟩ => ⟨S4x2048x3072, .f32⟩
  | .hbm, ⟨1, _⟩ => ⟨S64x256x256, .bf16⟩
  | .hbm, ⟨2, _⟩ => ⟨S64x128x256, .bf16⟩
  | .hbm, ⟨3, _⟩ => ⟨S64x256x128, .bf16⟩
  | .hbm, ⟨4, _⟩ => ⟨S32x2x128x128, .f32⟩
  | .hbm, ⟨5, _⟩ => ⟨S8192x2048, .f32⟩
  | .hbm, ⟨6, _⟩ => ⟨S4x2048x1024, .f32⟩
  | .hbm, ⟨7, _⟩ => ⟨S64x2x64x128, .f32⟩
  | .hbm, ⟨8, _⟩ => ⟨S8192x2048, .bf16⟩
  | .local _ .vmem, ⟨0, _⟩ => ⟨S4x2048x128, .f32⟩
  | .local _ .vmem, ⟨1, _⟩ => ⟨S4x2048x128, .f32⟩
  | .local _ .vmem, ⟨2, _⟩ => ⟨S8x256x256, .bf16⟩
  | .local _ .vmem, ⟨3, _⟩ => ⟨S8x256x256, .bf16⟩
  | .local _ .vmem, ⟨4, _⟩ => ⟨S8x128x256, .bf16⟩
  | .local _ .vmem, ⟨5, _⟩ => ⟨S8x128x256, .bf16⟩
  | .local _ .vmem, ⟨6, _⟩ => ⟨S8x256x128, .bf16⟩
  | .local _ .vmem, ⟨7, _⟩ => ⟨S8x256x128, .bf16⟩
  | .local _ .vmem, ⟨8, _⟩ => ⟨S4x2x128x128, .f32⟩
  | .local _ .vmem, ⟨9, _⟩ => ⟨S4x2x128x128, .f32⟩
  | .local _ .vmem, ⟨10, _⟩ => ⟨S1024x2048, .f32⟩
  | .local _ .vmem, ⟨11, _⟩ => ⟨S1024x2048, .f32⟩
  | .local _ .vmem, ⟨12, _⟩ => ⟨S4x2048x128, .f32⟩
  | .local _ .vmem, ⟨13, _⟩ => ⟨S4x2048x128, .f32⟩
  | .local _ .vmem, ⟨14, _⟩ => ⟨S8x2x64x128, .f32⟩
  | .local _ .vmem, ⟨15, _⟩ => ⟨S8x2x64x128, .f32⟩
  | .local _ .vmem, ⟨16, _⟩ => ⟨S1024x2048, .bf16⟩
  | .local _ .vmem, ⟨17, _⟩ => ⟨S1024x2048, .bf16⟩
  | .local _ .vmem, ⟨18, _⟩ => ⟨S8x256x512, .bf16⟩
  | .local _ .vmem, ⟨19, _⟩ => ⟨S8x256x512, .f32⟩
  | .local _ .vmem, ⟨20, _⟩ => ⟨S512x512, .f32⟩
  | .local _ .vmem, ⟨21, _⟩ => ⟨S512x512, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== S5Params.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S2048x3072 : Shape := ⟨2, ![2048, 3072]⟩
abbrev S64x1 : Shape := ⟨2, ![64, 1]⟩
abbrev S1x64x64 : Shape := ⟨3, ![1, 64, 64]⟩
abbrev S3x64x64 : Shape := ⟨3, ![3, 64, 64]⟩
abbrev S3x32x1x128 : Shape := ⟨4, ![3, 32, 1, 128]⟩
abbrev S1x64x16x64 : Shape := ⟨4, ![1, 64, 16, 64]⟩
abbrev S4x64x16x64 : Shape := ⟨4, ![4, 64, 16, 64]⟩
abbrev S4x32x2x16x64 : Shape := ⟨5, ![4, 32, 2, 16, 64]⟩
abbrev S4x32x16x2x64 : Shape := ⟨5, ![4, 32, 16, 2, 64]⟩
abbrev S4x32x16x128 : Shape := ⟨4, ![4, 32, 16, 128]⟩
abbrev S64x1x16 : Shape := ⟨3, ![64, 1, 16]⟩
abbrev S_ : Shape := ⟨0, ![]⟩
abbrev S64x1x128 : Shape := ⟨3, ![64, 1, 128]⟩
abbrev S64x256x256 : Shape := ⟨3, ![64, 256, 256]⟩
abbrev S64x128x256 : Shape := ⟨3, ![64, 128, 256]⟩
abbrev S64x256x128 : Shape := ⟨3, ![64, 256, 128]⟩
abbrev S32x2x128x128 : Shape := ⟨4, ![32, 2, 128, 128]⟩
abbrev S8x128x1024 : Shape := ⟨3, ![8, 128, 1024]⟩
abbrev S8x4x128x256 : Shape := ⟨4, ![8, 4, 128, 256]⟩
abbrev S32x2x8x128 : Shape := ⟨4, ![32, 2, 8, 128]⟩
abbrev S3x4x1x128 : Shape := ⟨4, ![3, 4, 1, 128]⟩
abbrev S4x4x16x128 : Shape := ⟨4, ![4, 4, 16, 128]⟩
abbrev S8x1x128 : Shape := ⟨3, ![8, 1, 128]⟩
abbrev S256x3072 : Shape := ⟨2, ![256, 3072]⟩
abbrev S8x256x256 : Shape := ⟨3, ![8, 256, 256]⟩
abbrev S8x128x256 : Shape := ⟨3, ![8, 128, 256]⟩
abbrev S8x256x128 : Shape := ⟨3, ![8, 256, 128]⟩
abbrev S4x2x128x128 : Shape := ⟨4, ![4, 2, 128, 128]⟩
abbrev S1x128x1024 : Shape := ⟨3, ![1, 128, 1024]⟩
abbrev S1x4x128x256 : Shape := ⟨4, ![1, 4, 128, 256]⟩
abbrev S4x2x8x128 : Shape := ⟨4, ![4, 2, 8, 128]⟩
abbrev S32x128 : Shape := ⟨2, ![32, 128]⟩
abbrev S256x128 : Shape := ⟨2, ![256, 128]⟩
abbrev S16x128 : Shape := ⟨2, ![16, 128]⟩
abbrev S128x1024 : Shape := ⟨2, ![128, 1024]⟩
abbrev S4x128x256 : Shape := ⟨3, ![4, 128, 256]⟩
abbrev S1x1x1x128 : Shape := ⟨4, ![1, 1, 1, 128]⟩
abbrev S1x128 : Shape := ⟨2, ![1, 128]⟩
abbrev S1x1x16x128 : Shape := ⟨4, ![1, 1, 16, 128]⟩
abbrev S8x128 : Shape := ⟨2, ![8, 128]⟩
abbrev S88x128 : Shape := ⟨2, ![88, 128]⟩
abbrev S128x128 : Shape := ⟨2, ![128, 128]⟩
abbrev S1x1x128x128 : Shape := ⟨4, ![1, 1, 128, 128]⟩
abbrev S1x1x8x128 : Shape := ⟨4, ![1, 1, 8, 128]⟩
abbrev S128x256 : Shape := ⟨2, ![128, 256]⟩
abbrev S64x256 : Shape := ⟨2, ![64, 256]⟩
abbrev S1x128x256 : Shape := ⟨3, ![1, 128, 256]⟩
abbrev S1x256x128 : Shape := ⟨3, ![1, 256, 128]⟩
abbrev S16x256 : Shape := ⟨2, ![16, 256]⟩
abbrev S1x1x128 : Shape := ⟨3, ![1, 1, 128]⟩
abbrev S256x256 : Shape := ⟨2, ![256, 256]⟩
abbrev S1x256x256 : Shape := ⟨3, ![1, 256, 256]⟩
abbrev S1x16x128 : Shape := ⟨3, ![1, 16, 128]⟩

abbrev nBuf : Space → Nat
  | .hbm => 38
  | .vmem => 24
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S1024, .f32⟩
  | .hbm, ⟨8, _⟩ => ⟨S2048x3072, .f32⟩
  | .hbm, ⟨9, _⟩ => ⟨S64x1, .f32⟩
  | .hbm, ⟨10, _⟩ => ⟨S64x64, .f32⟩
  | .hbm, ⟨11, _⟩ => ⟨S1x64x64, .f32⟩
  | .hbm, ⟨12, _⟩ => ⟨S1x64x64, .f32⟩
  | .hbm, ⟨13, _⟩ => ⟨S1x64x64, .f32⟩
  | .hbm, ⟨14, _⟩ => ⟨S3x64x64, .f32⟩
  | .hbm, ⟨15, _⟩ => ⟨S3x32x1x128, .f32⟩
  | .hbm, ⟨16, _⟩ => ⟨S64x16x64, .f32⟩
  | .hbm, ⟨17, _⟩ => ⟨S64x16x64, .f32⟩
  | .hbm, ⟨18, _⟩ => ⟨S1x64x16x64, .f32⟩
  | .hbm, ⟨19, _⟩ => ⟨S1x64x16x64, .f32⟩
  | .hbm, ⟨20, _⟩ => ⟨S1x64x16x64, .f32⟩
  | .hbm, ⟨21, _⟩ => ⟨S1x64x16x64, .f32⟩
  | .hbm, ⟨22, _⟩ => ⟨S4x64x16x64, .f32⟩
  | .hbm, ⟨23, _⟩ => ⟨S4x32x2x16x64, .f32⟩
  | .hbm, ⟨24, _⟩ => ⟨S4x32x16x2x64, .f32⟩
  | .hbm, ⟨25, _⟩ => ⟨S4x32x16x128, .f32⟩
  | .hbm, ⟨26, _⟩ => ⟨S64x1x16, .f32⟩
  | .hbm, ⟨27, _⟩ => ⟨S_, .i32⟩
  | .hbm, ⟨28, _⟩ => ⟨S_, .f32⟩
  | .hbm, ⟨29, _⟩ => ⟨S64x1x128, .f32⟩
  | .hbm, ⟨30, _⟩ => ⟨S64x256x256, .bf16⟩
  | .hbm, ⟨31, _⟩ => ⟨S64x128x256, .bf16⟩
  | .hbm, ⟨32, _⟩ => ⟨S64x256x128, .bf16⟩
  | .hbm, ⟨33, _⟩ => ⟨S32x2x128x128, .f32⟩
  | .hbm, ⟨34, _⟩ => ⟨S8x128x1024, .bf16⟩
  | .hbm, ⟨35, _⟩ => ⟨S8x4x128x256, .bf16⟩
  | .hbm, ⟨36, _⟩ => ⟨S32x2x8x128, .f32⟩
  | .hbm, ⟨37, _⟩ => ⟨S2048x3072, .bf16⟩
  | .local _ .vmem, ⟨0, _⟩ => ⟨S3x4x1x128, .f32⟩
  | .local _ .vmem, ⟨1, _⟩ => ⟨S3x4x1x128, .f32⟩
  | .local _ .vmem, ⟨2, _⟩ => ⟨S4x4x16x128, .f32⟩
  | .local _ .vmem, ⟨3, _⟩ => ⟨S4x4x16x128, .f32⟩
  | .local _ .vmem, ⟨4, _⟩ => ⟨S8x1x128, .f32⟩
  | .local _ .vmem, ⟨5, _⟩ => ⟨S8x1x128, .f32⟩
  | .local _ .vmem, ⟨6, _⟩ => ⟨S256x3072, .f32⟩
  | .local _ .vmem, ⟨7, _⟩ => ⟨S256x3072, .f32⟩
  | .local _ .vmem, ⟨8, _⟩ => ⟨S8x256x256, .bf16⟩
  | .local _ .vmem, ⟨9, _⟩ => ⟨S8x256x256, .bf16⟩
  | .local _ .vmem, ⟨10, _⟩ => ⟨S8x128x256, .bf16⟩
  | .local _ .vmem, ⟨11, _⟩ => ⟨S8x128x256, .bf16⟩
  | .local _ .vmem, ⟨12, _⟩ => ⟨S8x256x128, .bf16⟩
  | .local _ .vmem, ⟨13, _⟩ => ⟨S8x256x128, .bf16⟩
  | .local _ .vmem, ⟨14, _⟩ => ⟨S4x2x128x128, .f32⟩
  | .local _ .vmem, ⟨15, _⟩ => ⟨S4x2x128x128, .f32⟩
  | .local _ .vmem, ⟨16, _⟩ => ⟨S1x128x1024, .bf16⟩
  | .local _ .vmem, ⟨17, _⟩ => ⟨S1x128x1024, .bf16⟩
  | .local _ .vmem, ⟨18, _⟩ => ⟨S1x4x128x256, .bf16⟩
  | .local _ .vmem, ⟨19, _⟩ => ⟨S1x4x128x256, .bf16⟩
  | .local _ .vmem, ⟨20, _⟩ => ⟨S4x2x8x128, .f32⟩
  | .local _ .vmem, ⟨21, _⟩ => ⟨S4x2x8x128, .f32⟩
  | .local _ .vmem, ⟨22, _⟩ => ⟨S256x3072, .bf16⟩
  | .local _ .vmem, ⟨23, _⟩ => ⟨S256x3072, .bf16⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LruStep.lean ====
abbrev S128x3072 : Shape := ⟨2, ![128, 3072]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S4x256x256 : Shape := ⟨3, ![4, 256, 256]⟩
abbrev S1x1024 : Shape := ⟨2, ![1, 1024]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩
abbrev S128 : Shape := ⟨1, ![128]⟩
abbrev S128x1 : Shape := ⟨2, ![128, 1]⟩

abbrev nBuf : Space → Nat
  | .hbm => 22
  | .vmem => 17
  | .smem => 0
  | _ => 0

abbrev bufTy : (tb : Table) → Fin (tcTables nBuf tb) → BufTy
  | .hbm, ⟨0, _⟩ => ⟨S128x3072, .f32⟩
  | .hbm, ⟨1, _⟩ => ⟨S128x3x1024, .f32⟩
  | .hbm, ⟨2, _⟩ => ⟨S128x1024, .f32⟩
  | .hbm, ⟨3, _⟩ => ⟨S4x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S4x256x256, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S128x3072, .f32⟩
  | .hbm, ⟨12, _⟩ => ⟨S1x1024, .f32⟩
  | .hbm, ⟨13, _⟩ => ⟨S4x256x256, .bf16⟩
  | .hbm, ⟨14, _⟩ => ⟨S1x1024, .f32⟩
  | .hbm, ⟨15, _⟩ => ⟨S4x256x256, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S128x1024, .bf16⟩
  | .hbm, ⟨20, _⟩ => ⟨S128x1024, .f32⟩
  | .hbm, ⟨21, _⟩ => ⟨S128x3072, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4x1024, .f32⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S4x256x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S128x1024, .bf16⟩
  | .local _ .vmem, ⟨15, _⟩ => ⟨S128x1024, .f32⟩
  | .local _ .vmem, ⟨16, _⟩ => ⟨S128x3072, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== LruStepRefIdeal.lean ====
abbrev S128x3072 : Shape := ⟨2, ![128, 3072]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S4x256x256 : Shape := ⟨3, ![4, 256, 256]⟩
abbrev S128x1x1024 : Shape := ⟨3, ![128, 1, 1024]⟩
abbrev S128x4x1024 : Shape := ⟨3, ![128, 4, 1024]⟩
abbrev S1x1024 : Shape := ⟨2, ![1, 1024]⟩
abbrev S1x1x1024 : Shape := ⟨3, ![1, 1, 1024]⟩
abbrev S_ : Shape := ⟨0, ![]⟩
abbrev S128x1x4x256 : Shape := ⟨4, ![128, 1, 4, 256]⟩
abbrev S4x256x128x1 : Shape := ⟨4, ![4, 256, 128, 1]⟩
abbrev S128x1 : Shape := ⟨2, ![128, 1]⟩
abbrev S128x1x1 : Shape := ⟨3, ![128, 1, 1]⟩

abbrev nBuf : Space → Nat
  | .hbm => 150
  | .vmem => 0
  | .smem => 0
  | _ => 0

abbrev hbmTy0_0 (i : Nat) : BufTy := match i % 128 with
  | 0 => ⟨S128x3072, .f32⟩
  | 1 => ⟨S128x3x1024, .f32⟩
  | 2 => ⟨S128x1024, .f32⟩
  | 3 => ⟨S4x1024, .f32⟩
  | 4 => ⟨S1024, .f32⟩
  | 5 => ⟨S4x256x256, .f32⟩
  | 6 => ⟨S1024, .f32⟩
  | 7 => ⟨S4x256x256, .f32⟩
  | 8 => ⟨S1024, .f32⟩
  | 9 => ⟨S1024, .f32⟩
  | 10 => ⟨S1024, .f32⟩
  | 11 => ⟨S128x1024, .f32⟩
  | 12 => ⟨S128x1x1024, .f32⟩
  | 13 => ⟨S128x1024, .f32⟩
  | 14 => ⟨S128x1x1024, .f32⟩
  | 15 => ⟨S128x4x1024, .f32⟩
  | 16 => ⟨S128x1x1024, .f32⟩
  | 17 => ⟨S1x1024, .f32⟩
  | 18 => ⟨S1024, .f32⟩
  | 19 => ⟨S1x1x1024, .f32⟩
  | 20 => ⟨S128x1x1024, .f32⟩
  | 21 => ⟨S128x1x1024, .f32⟩
  | 22 => ⟨S_, .f32⟩
  | 23 => ⟨S128x1x1024, .f32⟩
  | 24 => ⟨S128x1x1024, .f32⟩
  | 25 => ⟨S128x1x1024, .f32⟩
  | 26 => ⟨S1x1024, .f32⟩
  | 27 => ⟨S1024, .f32⟩
  | 28 => ⟨S1x1x1024, .f32⟩
  | 29 => ⟨S128x1x1024, .f32⟩
  | 30 => ⟨S128x1x1024, .f32⟩
  | 31 => ⟨S128x1x1024, .f32⟩
  | 32 => ⟨S128x1x1024, .f32⟩
  | 33 => ⟨S1x1024, .f32⟩
  | 34 => ⟨S1024, .f32⟩
  | 35 => ⟨S1x1x1024, .f32⟩
  | 36 => ⟨S128x1x1024, .f32⟩
  | 37 => ⟨S128x1x1024, .f32⟩
  | 38 => ⟨S128x1x1024, .f32⟩
  | 39 => ⟨S128x1x1024, .f32⟩
  | 40 => ⟨S1x1024, .f32⟩
  | 41 => ⟨S1024, .f32⟩
  | 42 => ⟨S1x1x1024, .f32⟩
  | 43 => ⟨S128x1x1024, .f32⟩
  | 44 => ⟨S128x1x1024, .f32⟩
  | 45 => ⟨S128x1x1024, .f32⟩
  | 46 => ⟨S1x1x1024, .f32⟩
  | 47 => ⟨S128x1x1024, .f32⟩
  | 48 => ⟨S128x1x1024, .f32⟩
  | 49 => ⟨S128x3x1024, .f32⟩
  | 50 => ⟨S128x1x4x256, .f32⟩
  | 51 => ⟨S4x256x128x1, .f32⟩
  | 52 => ⟨S128x1x4x256, .f32⟩
  | 53 => ⟨S128x1x1024, .f32⟩
  | 54 => ⟨S1x1x1024, .f32⟩
  | 55 => ⟨S128x1x1024, .f32⟩
  | 56 => ⟨S128x1x1024, .f32⟩
  | 57 => ⟨S128x1x1024, .f32⟩
  | 58 => ⟨S128x1x1024, .f32⟩
  | 59 => ⟨S_, .f32⟩
  | 60 => ⟨S128x1x1024, .f32⟩
  | 61 => ⟨S128x1x1024, .f32⟩
  | 62 => ⟨S_, .f32⟩
  | 63 => ⟨S128x1x1024, .f32⟩
  | 64 => ⟨S128x1x1024, .f32⟩
  | 65 => ⟨S4x256x128x1, .f32⟩
  | 66 => ⟨S128x1x4x256, .f32⟩
  | 67 => ⟨S128x1x1024, .f32⟩
  | 68 => ⟨S1x1x1024, .f32⟩
  | 69 => ⟨S128x1x1024, .f32⟩
  | 70 => ⟨S128x1x1024, .f32⟩
  | 71 => ⟨S128x1x1024, .f32⟩
  | 72 => ⟨S128x1x1024, .f32⟩
  | 73 => ⟨S_, .f32⟩
  | 74 => ⟨S128x1x1024, .f32⟩
  | 75 => ⟨S128x1x1024, .f32⟩
  | 76 => ⟨S_, .f32⟩
  | 77 => ⟨S128x1x1024, .f32⟩
  | 78 => ⟨S128x1x1024, .f32⟩
  | 79 => ⟨S_, .f32⟩
  | 80 => ⟨S128x1x1024, .f32⟩
  | 81 => ⟨S128x1x1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S1024, .f32⟩
  | 88 => ⟨S1024, .i1⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1x1x1024, .f32⟩
  | 98 => ⟨S128x1x1024, .f32⟩
  | 99 => ⟨S128x1x1024, .f32⟩
  | 100 => ⟨S128x1x1024, .f32⟩
  | 101 => ⟨S_, .f32⟩
  | 102 => ⟨S128x1x1024, .f32⟩
  | 103 => ⟨S128x1x1024, .f32⟩
  | 104 => ⟨S128x1x1024, .f32⟩
  | 105 => ⟨S128x1x1024, .f32⟩
  | 106 => ⟨S128x1x1024, .f32⟩
  | 107 => ⟨S128x1x1024, .f32⟩
  | 108 => ⟨S128x1x1024, .f32⟩
  | 109 => ⟨S128x1x1024, .f32⟩
  | 110 => ⟨S128x1x1024, .f32⟩
  | 111 => ⟨S128x1x1024, .f32⟩
  | 112 => ⟨S128x1x1024, .f32⟩
  | 113 => ⟨S128x1x1024, .f32⟩
  | 114 => ⟨S_, .f32⟩
  | 115 => ⟨S128x1x1024, .f32⟩
  | 116 => ⟨S128x1x1024, .f32⟩
  | 117 => ⟨S128x1x1024, .f32⟩
  | 118 => ⟨S_, .f32⟩
  | 119 => ⟨S128x1x1024, .f32⟩
  | 120 => ⟨S128x1x1024, .f32⟩
  | 121 => ⟨S128x1x1024, .f32⟩
  | 122 => ⟨S_, .f32⟩
  | 123 => ⟨S128x1x1024, .f32⟩
  | 124 => ⟨S128x1x1024, .f32⟩
  | 125 => ⟨S_, .f32⟩
  | 126 => ⟨S128x1x1024, .f32⟩
  | 127 => ⟨S128x1x1024, .f32⟩
  | _ => ⟨S128x3072, .f32⟩

abbrev hbmTy0_1 (i : Nat) : BufTy := match i % 128 with
  | 0 => ⟨S128x1x1024, .f32⟩
  | 1 => ⟨S128x1x1024, .f32⟩
  | 2 => ⟨S128x1x1024, .f32⟩
  | 3 => ⟨S_, .f32⟩
  | 4 => ⟨S128x1, .f32⟩
  | 5 => ⟨S128x1x1, .f32⟩
  | 6 => ⟨S_, .f32⟩
  | 7 => ⟨S128x1x1, .f32⟩
  | 8 => ⟨S128x1x1, .f32⟩
  | 9 => ⟨S_, .f32⟩
  | 10 => ⟨S128x1x1, .f32⟩
  | 11 => ⟨S128x1x1, .f32⟩
  | 12 => ⟨S128x1x1, .f32⟩
  | 13 => ⟨S128x1x1024, .f32⟩
  | 14 => ⟨S128x1x1024, .f32⟩
  | 15 => ⟨S1x1x1024, .f32⟩
  | 16 => ⟨S128x1x1024, .f32⟩
  | 17 => ⟨S128x1x1024, .f32⟩
  | 18 => ⟨S128x1024, .f32⟩
  | 19 => ⟨S128x1024, .bf16⟩
  | 20 => ⟨S128x1024, .f32⟩
  | 21 => ⟨S128x3072, .f32⟩
  | _ => ⟨S128x3072, .f32⟩

abbrev hbmTy (i : Nat) : BufTy := match i / 128 with
  | 0 => hbmTy0_0 i
  | 1 => hbmTy0_1 i
  | _ => ⟨S128x3072, .f32⟩

abbrev bufTy : (tb : Table) → Fin (tcTables nBuf tb) → BufTy
  | .hbm, ⟨i, _⟩ => hbmTy i
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_0 : Ref sig .tc := ⟨.hbm, 59, rfl⟩
abbrev main_v47 : Ref sig .tc := ⟨.hbm, 60, rfl⟩
abbrev main_v48 : Ref sig .tc := ⟨.hbm, 61, rfl⟩
abbrev main_cst_1 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_2 : Ref sig .tc := ⟨.hbm, 73, rfl⟩
abbrev main_v59 : Ref sig .tc := ⟨.hbm, 74, rfl⟩
abbrev main_v60 : Ref sig .tc := ⟨.hbm, 75, rfl⟩
abbrev main_cst_3 : Ref sig .tc := ⟨.hbm, 76, rfl⟩
abbrev main_v61 : Ref sig .tc := ⟨.hbm, 77, rfl⟩
abbrev main_v62 : Ref sig .tc := ⟨.hbm, 78, rfl⟩
abbrev main_cst_4 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_6 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_7 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_8 : Ref sig .tc := ⟨.hbm, 122, rfl⟩
abbrev main_v89 : Ref sig .tc := ⟨.hbm, 123, rfl⟩
abbrev main_v90 : Ref sig .tc := ⟨.hbm, 124, rfl⟩
abbrev main_cst_9 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_10 : Ref sig .tc := ⟨.hbm, 131, rfl⟩
abbrev main_v96 : Ref sig .tc := ⟨.hbm, 132, rfl⟩
abbrev main_v97 : Ref sig .tc := ⟨.hbm, 133, rfl⟩
abbrev main_cst_11 : Ref sig .tc := ⟨.hbm, 134, rfl⟩
abbrev main_v98 : Ref sig .tc := ⟨.hbm, 135, rfl⟩
abbrev main_v99 : Ref sig .tc := ⟨.hbm, 136, rfl⟩
abbrev main_cst_12 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩

abbrev nD : Nat := 1
abbrev τ : Topo := Topo.v7x

variable {F : FTy → Type} [FloatOps F]
-- ==== S5Step.lean ====
abbrev S128x3072 : Shape := ⟨2, ![128, 3072]⟩
abbrev S128x4096 : Shape := ⟨2, ![128, 4096]⟩
abbrev S8x128x1024 : Shape := ⟨3, ![8, 128, 1024]⟩
abbrev S8x4x128x256 : Shape := ⟨4, ![8, 4, 128, 256]⟩
abbrev S32x2x8x128 : Shape := ⟨4, ![32, 2, 8, 128]⟩
abbrev S1x1024 : Shape := ⟨2, ![1, 1024]⟩
abbrev S128x1024 : Shape := ⟨2, ![128, 1024]⟩
abbrev S128x128 : Shape := ⟨2, ![128, 128]⟩
abbrev S128x512 : Shape := ⟨2, ![128, 512]⟩
abbrev S1x128x1024 : Shape := ⟨3, ![1, 128, 1024]⟩
abbrev S1x4x128x256 : Shape := ⟨4, ![1, 4, 128, 256]⟩
abbrev S4x2x8x128 : Shape := ⟨4, ![4, 2, 8, 128]⟩
abbrev S1x128 : Shape := ⟨2, ![1, 128]⟩
abbrev S1x1x1x128 : Shape := ⟨4, ![1, 1, 1, 128]⟩
abbrev S128x256 : Shape := ⟨2, ![128, 256]⟩
abbrev S1x1x128x256 : Shape := ⟨4, ![1, 1, 128, 256]⟩

abbrev nBuf : Space → Nat
  | .hbm => 10
  | .vmem => 20
  | .smem => 0
  | _ => 0

abbrev bufTy : (tb : Table) → Fin (tcTables nBuf tb) → BufTy
  | .hbm, ⟨0, _⟩ => ⟨S128x3072, .f32⟩
  | .hbm, ⟨1, _⟩ => ⟨S128x4096, .f32⟩
  | .hbm, ⟨2, _⟩ => ⟨S128x4096, .f32⟩
  | .hbm, ⟨3, _⟩ => ⟨S8x128x1024, .bf16⟩
  | .hbm, ⟨4, _⟩ => ⟨S8x4x128x256, .bf16⟩
  | .hbm, ⟨5, _⟩ => ⟨S32x2x8x128, .f32⟩
  | .hbm, ⟨6, _⟩ => ⟨S1x1024, .f32⟩
  | .hbm, ⟨7, _⟩ => ⟨S128x1024, .bf16⟩
  | .hbm, ⟨8, _⟩ => ⟨S128x4096, .f32⟩
  | .hbm, ⟨9, _⟩ => ⟨S128x4096, .f32⟩
  | .local _ .vmem, ⟨0, _⟩ => ⟨S128x128, .f32⟩
  | .local _ .vmem, ⟨1, _⟩ => ⟨S128x128, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x128x1024, .bf16⟩
  | .local _ .vmem, ⟨7, _⟩ => ⟨S1x128x1024, .bf16⟩
  | .local _ .vmem, ⟨8, _⟩ => ⟨S1x4x128x256, .bf16⟩
  | .local _ .vmem, ⟨9, _⟩ => ⟨S1x4x128x256, .bf16⟩
  | .local _ .vmem, ⟨10, _⟩ => ⟨S4x2x8x128, .f32⟩
  | .local _ .vmem, ⟨11, _⟩ => ⟨S4x2x8x128, .f32⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S128x128, .bf16⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== S5StepRefIdeal.lean ====
abbrev S128x3072 : Shape := ⟨2, ![128, 3072]⟩
abbrev S128x4096 : Shape := ⟨2, ![128, 4096]⟩
abbrev S8x128x1024 : Shape := ⟨3, ![8, 128, 1024]⟩
abbrev S8x4x128x256 : Shape := ⟨4, ![8, 4, 128, 256]⟩
abbrev S32x2x8x128 : Shape := ⟨4, ![32, 2, 8, 128]⟩
abbrev S1x1024 : Shape := ⟨2, ![1, 1024]⟩
abbrev S128x1024 : Shape := ⟨2, ![128, 1024]⟩
abbrev S32x1x1x128 : Shape := ⟨4, ![32, 1, 1, 128]⟩
abbrev S32x128 : Shape := ⟨2, ![32, 128]⟩
abbrev S4096 : Shape := ⟨1, ![4096]⟩
abbrev S128x8x128 : Shape := ⟨3, ![128, 8, 128]⟩
abbrev S8x1024x128 : Shape := ⟨3, ![8, 1024, 128]⟩
abbrev S128x8x1024 : Shape := ⟨3, ![128, 8, 1024]⟩
abbrev S128x32x2x128 : Shape := ⟨4, ![128, 32, 2, 128]⟩
abbrev S1x4096 : Shape := ⟨2, ![1, 4096]⟩
abbrev S128x32x1x128 : Shape := ⟨4, ![128, 32, 1, 128]⟩
abbrev S128x32x128 : Shape := ⟨3, ![128, 32, 128]⟩
abbrev S8x128x4x256 : Shape := ⟨4, ![8, 128, 4, 256]⟩
abbrev S8x128x128 : Shape := ⟨3, ![8, 128, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S128x3072, .f32⟩
  | .hbm, ⟨1, _⟩ => ⟨S128x4096, .f32⟩
  | .hbm, ⟨2, _⟩ => ⟨S128x4096, .f32⟩
  | .hbm, ⟨3, _⟩ => ⟨S8x128x1024, .bf16⟩
  | .hbm, ⟨4, _⟩ => ⟨S8x4x128x256, .bf16⟩
  | .hbm, ⟨5, _⟩ => ⟨S32x2x8x128, .f32⟩
  | .hbm, ⟨6, _⟩ => ⟨S1x1024, .f32⟩
  | .hbm, ⟨7, _⟩ => ⟨S128x1024, .f32⟩
  | .hbm, ⟨8, _⟩ => ⟨S32x1x1x128, .f32⟩
  | .hbm, ⟨9, _⟩ => ⟨S32x128, .f32⟩
  | .hbm, ⟨10, _⟩ => ⟨S4096, .f32⟩
  | .hbm, ⟨11, _⟩ => ⟨S32x1x1x128, .f32⟩
  | .hbm, ⟨12, _⟩ => ⟨S32x128, .f32⟩
  | .hbm, ⟨13, _⟩ => ⟨S4096, .f32⟩
  | .hbm, ⟨14, _⟩ => ⟨S128x8x128, .f32⟩
  | .hbm, ⟨15, _⟩ => ⟨S8x128x1024, .f32⟩
  | .hbm, ⟨16, _⟩ => ⟨S8x1024x128, .f32⟩
  | .hbm, ⟨17, _⟩ => ⟨S128x8x1024, .f32⟩
  | .hbm, ⟨18, _⟩ => ⟨S128x32x2x128, .f32⟩
  | .hbm, ⟨19, _⟩ => ⟨S1x4096, .f32⟩
  | .hbm, ⟨20, _⟩ => ⟨S128x4096, .f32⟩
  | .hbm, ⟨21, _⟩ => ⟨S128x4096, .f32⟩
  | .hbm, ⟨22, _⟩ => ⟨S1x4096, .f32⟩
  | .hbm, ⟨23, _⟩ => ⟨S128x4096, .f32⟩
  | .hbm, ⟨24, _⟩ => ⟨S128x4096, .f32⟩
  | .hbm, ⟨25, _⟩ => ⟨S128x4096, .f32⟩
  | .hbm, ⟨26, _⟩ => ⟨S128x32x1x128, .f32⟩
  | .hbm, ⟨27, _⟩ => ⟨S128x32x128, .f32⟩
  | .hbm, ⟨28, _⟩ => ⟨S128x4096, .f32⟩
  | .hbm, ⟨29, _⟩ => ⟨S128x4096, .f32⟩
  | .hbm, ⟨30, _⟩ => ⟨S1x4096, .f32⟩
  | .hbm, ⟨31, _⟩ => ⟨S128x4096, .f32⟩
  | .hbm, ⟨32, _⟩ => ⟨S128x4096, .f32⟩
  | .hbm, ⟨33, _⟩ => ⟨S1x4096, .f32⟩
  | .hbm, ⟨34, _⟩ => ⟨S128x4096, .f32⟩
  | .hbm, ⟨35, _⟩ => ⟨S128x4096, .f32⟩
  | .hbm, ⟨36, _⟩ => ⟨S128x4096, .f32⟩
  | .hbm, ⟨37, _⟩ => ⟨S128x32x1x128, .f32⟩
  | .hbm, ⟨38, _⟩ => ⟨S128x32x128, .f32⟩
  | .hbm, ⟨39, _⟩ => ⟨S128x4096, .f32⟩
  | .hbm, ⟨40, _⟩ => ⟨S128x4096, .f32⟩
  | .hbm, ⟨41, _⟩ => ⟨S128x32x128, .f32⟩
  | .hbm, ⟨42, _⟩ => ⟨S128x32x128, .f32⟩
  | .hbm, ⟨43, _⟩ => ⟨S128x32x1x128, .f32⟩
  | .hbm, ⟨44, _⟩ => ⟨S128x32x1x128, .f32⟩
  | .hbm, ⟨45, _⟩ => ⟨S128x32x2x128, .f32⟩
  | .hbm, ⟨46, _⟩ => ⟨S128x8x1024, .f32⟩
  | .hbm, ⟨47, _⟩ => ⟨S8x4x128x256, .f32⟩
  | .hbm, ⟨48, _⟩ => ⟨S8x128x4x256, .f32⟩
  | .hbm, ⟨49, _⟩ => ⟨S8x128x1024, .f32⟩
  | .hbm, ⟨50, _⟩ => ⟨S8x128x128, .f32⟩
  | .hbm, ⟨51, _⟩ => ⟨S128x8x128, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S128x1024, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S_, .f32⟩
  | .hbm, ⟨67, _⟩ => ⟨S128x1024, .f32⟩
  | .hbm, ⟨68, _⟩ => ⟨S128x1024, .f32⟩
  | .hbm, ⟨69, _⟩ => ⟨S_, .f32⟩
  | .hbm, ⟨70, _⟩ => ⟨S128x1024, .f32⟩
  | .hbm, ⟨71, _⟩ => ⟨S128x1024, .f32⟩
  | .hbm, ⟨72, _⟩ => ⟨S128x1024, .f32⟩
  | .hbm, ⟨73, _⟩ => ⟨S128x1024, .bf16⟩
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_0 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_1 : Ref sig .tc := ⟨.hbm, 66, rfl⟩
abbrev main_v57 : Ref sig .tc := ⟨.hbm, 67, rfl⟩
abbrev main_v58 : Ref sig .tc := ⟨.hbm, 68, rfl⟩
abbrev main_cst_2 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩

abbrev nD : Nat := 1
abbrev τ : Topo := Topo.v7x

variable {F : FTy → Type} [FloatOps F]
-- ==== Mlp.lean ====
abbrev S8192x2048 : Shape := ⟨2, ![8192, 2048]⟩
abbrev S128x2048 : Shape := ⟨2, ![128, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S128 : Shape := ⟨1, ![128]⟩
abbrev S128x1 : Shape := ⟨2, ![128, 1]⟩
abbrev S128x1024 : Shape := ⟨2, ![128, 1024]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x8192, .bf16⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S128x2048, .f32⟩
  | .local _ .vmem, ⟨0, _⟩ => ⟨S512x2048, .f32⟩
  | .local _ .vmem, ⟨1, _⟩ => ⟨S512x2048, .f32⟩
  | .local _ .vmem, ⟨2, _⟩ => ⟨S128x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S128x2048, .f32⟩
  | .local _ .vmem, ⟨11, _⟩ => ⟨S512x2048, .bf16⟩
  | .local _ .vmem, ⟨12, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c15_i32 : BitVec 32 := 15#32
  let v6 : BitVec 1 := Scalar.cmpi .eq arg0 c15_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c0_i32_3 : BitVec 32 := 0#32
  let v9 : BitVec 1 := Scalar.cmpi .eq arg1 c0_i32_3
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c0_i32_3 : BitVec 32 := 0#32
  let v9 : BitVec 1 := Scalar.cmpi .eq arg1 c0_i32_3
  let true_5 : BitVec 1 := 1#1
  let v12 : BitVec 1 := Scalar.xori v9 true_5
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MlpRefIdeal.lean ====
abbrev S8192x2048 : Shape := ⟨2, ![8192, 2048]⟩
abbrev S128x2048 : Shape := ⟨2, ![128, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩
abbrev S128 : Shape := ⟨1, ![128]⟩
abbrev S128x1 : Shape := ⟨2, ![128, 1]⟩
abbrev S128x8192 : Shape := ⟨2, ![128, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x8192, .bf16⟩
  | .hbm, ⟨4, _⟩ => ⟨S8192x2048, .bf16⟩
  | .hbm, ⟨5, _⟩ => ⟨S2048x8192, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S128x2048, .f32⟩
  | .hbm, ⟨31, _⟩ => ⟨S_, .f32⟩
  | .hbm, ⟨32, _⟩ => ⟨S128, .f32⟩
  | .hbm, ⟨33, _⟩ => ⟨S128x1, .f32⟩
  | .hbm, ⟨34, _⟩ => ⟨S_, .f32⟩
  | .hbm, ⟨35, _⟩ => ⟨S128x1, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x2048, .f32⟩
  | .hbm, ⟨42, _⟩ => ⟨S128x2048, .f32⟩
  | .hbm, ⟨43, _⟩ => ⟨S1x2048, .f32⟩
  | .hbm, ⟨44, _⟩ => ⟨S128x2048, .f32⟩
  | .hbm, ⟨45, _⟩ => ⟨S128x2048, .f32⟩
  | .hbm, ⟨46, _⟩ => ⟨S128x8192, .f32⟩
  | .hbm, ⟨47, _⟩ => ⟨S_, .f32⟩
  | .hbm, ⟨48, _⟩ => ⟨S128x8192, .f32⟩
  | .hbm, ⟨49, _⟩ => ⟨S128x8192, .f32⟩
  | .hbm, ⟨50, _⟩ => ⟨S128x8192, .f32⟩
  | .hbm, ⟨51, _⟩ => ⟨S128x2048, .f32⟩
  | .hbm, ⟨52, _⟩ => ⟨S128x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call1_cst : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== NormIn.lean ====
abbrev S8192x2048 : Shape := ⟨2, ![8192, 2048]⟩
abbrev S128x2048 : Shape := ⟨2, ![128, 2048]⟩
abbrev S2048 : Shape := ⟨1, ![2048]⟩
abbrev S2048x3072 : Shape := ⟨2, ![2048, 3072]⟩
abbrev S1x2048 : Shape := ⟨2, ![1, 2048]⟩
abbrev S8192x3072 : Shape := ⟨2, ![8192, 3072]⟩
abbrev S128x3072 : Shape := ⟨2, ![128, 3072]⟩
abbrev S1024x2048 : Shape := ⟨2, ![1024, 2048]⟩
abbrev S1024x1536 : Shape := ⟨2, ![1024, 1536]⟩
abbrev S128x1536 : Shape := ⟨2, ![128, 1536]⟩
abbrev S2048x1536 : Shape := ⟨2, ![2048, 1536]⟩
abbrev S128 : Shape := ⟨1, ![128]⟩
abbrev S128x1 : Shape := ⟨2, ![128, 1]⟩
abbrev S4x2048x3072 : Shape := ⟨3, ![4, 2048, 3072]⟩
abbrev S4x3x1024 : Shape := ⟨3, ![4, 3, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x3072, .bf16⟩
  | .hbm, ⟨4, _⟩ => ⟨S1x2048, .f32⟩
  | .hbm, ⟨5, _⟩ => ⟨S8192x3072, .f32⟩
  | .hbm, ⟨6, _⟩ => ⟨S128x3072, .f32⟩
  | .hbm, ⟨7, _⟩ => ⟨S4x2048x3072, .f32⟩
  | .hbm, ⟨8, _⟩ => ⟨S4x3x1024, .f32⟩
  | .local _ .vmem, ⟨0, _⟩ => ⟨S1024x2048, .f32⟩
  | .local _ .vmem, ⟨1, _⟩ => ⟨S1024x2048, .f32⟩
  | .local _ .vmem, ⟨2, _⟩ => ⟨S128x2048, .f32⟩
  | .local _ .vmem, ⟨3, _⟩ => ⟨S1x2048, .f32⟩
  | .local _ .vmem, ⟨4, _⟩ => ⟨S2048x3072, .bf16⟩
  | .local _ .vmem, ⟨5, _⟩ => ⟨S1024x1536, .f32⟩
  | .local _ .vmem, ⟨6, _⟩ => ⟨S1024x1536, .f32⟩
  | .local _ .vmem, ⟨7, _⟩ => ⟨S128x1536, .f32⟩
  | .local _ .vmem, ⟨8, _⟩ => ⟨S128x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1536_i32 : BitVec 32 := 1536#32
  let v0 : BitVec 32 := Scalar.muli arg1 c1536_i32
  v0
def k0_off1 (i : grid0.Coords) : Fin 2 → Nat :=
  let c0 : Index := 0#32
  let arg1 : BitVec 32 := BitVec.ofNat 32 (i 1).val
  let c1536_i32 : BitVec 32 := 1536#32
  let v0 : BitVec 32 := Scalar.muli arg1 c1536_i32
  let v1 : BitVec 32 := v0
  let v2 : Index := Scalar.indexCast v1
  ![0, v2.toNat]
def k0_cond1 (i : grid0.Coords) : BitVec 1 :=
  let arg0 : BitVec 32 := BitVec.ofNat 32 (i 0).val
  let c7_i32 : BitVec 32 := 7#32
  let v148 : BitVec 1 := Scalar.cmpi .eq arg0 c7_i32
  let v149 : BitVec 32 := Scalar.extui v148
  let c0_i32 : BitVec 32 := 0#32
  let v150 : BitVec 1 := Scalar.cmpi .ne v149 c0_i32
  v150

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NormInRefIdeal.lean ====
abbrev S8192x2048 : Shape := ⟨2, ![8192, 2048]⟩
abbrev S128x2048 : Shape := ⟨2, ![128, 2048]⟩
abbrev S2048 : Shape := ⟨1, ![2048]⟩
abbrev S2048x3072 : Shape := ⟨2, ![2048, 3072]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩
abbrev S128 : Shape := ⟨1, ![128]⟩
abbrev S128x1 : Shape := ⟨2, ![128, 1]⟩
abbrev S128x3072 : Shape := ⟨2, ![128, 3072]⟩
abbrev S4x2048x3072 : Shape := ⟨3, ![4, 2048, 3072]⟩
abbrev S4x3x1024 : Shape := ⟨3, ![4, 3, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x3072, .bf16⟩
  | .hbm, ⟨4, _⟩ => ⟨S2048x3072, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x3072, .f32⟩
  | .hbm, ⟨22, _⟩ => ⟨S128x2048, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x2048, .f32⟩
  | .hbm, ⟨34, _⟩ => ⟨S128x2048, .f32⟩
  | .hbm, ⟨35, _⟩ => ⟨S1x2048, .f32⟩
  | .hbm, ⟨36, _⟩ => ⟨S128x2048, .f32⟩
  | .hbm, ⟨37, _⟩ => ⟨S128x2048, .f32⟩
  | .hbm, ⟨38, _⟩ => ⟨S128x3072, .f32⟩
  | .hbm, ⟨39, _⟩ => ⟨S4x2048x3072, .f32⟩
  | .hbm, ⟨40, _⟩ => ⟨S4x3x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S128x2048 : Shape := ⟨2, ![128, 2048]⟩
abbrev S128x256 : Shape := ⟨2, ![128, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S128 : Shape := ⟨1, ![128]⟩
abbrev S128x1 : Shape := ⟨2, ![128, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S128x2048, .f32⟩
  | .hbm, ⟨3, _⟩ => ⟨S128x256, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S128x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S128x2048, .f32⟩
  | .local _ .vmem, ⟨5, _⟩ => ⟨S128x256, .f32⟩
  | .local _ .vmem, ⟨6, _⟩ => ⟨S1x2048, .f32⟩
  | .local _ .vmem, ⟨7, _⟩ => ⟨S2048x2048, .f32⟩
  | .local _ .vmem, ⟨8, _⟩ => ⟨S256x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S128x2048, .f32⟩
  | .local _ .vmem, ⟨13, _⟩ => ⟨S2048x2048, .bf16⟩
  | .local _ .vmem, ⟨14, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v83 : BitVec 1 := Scalar.cmpi .eq arg0 c15_i32
  let v84 : BitVec 32 := Scalar.extui v83
  let c0_i32_42 : BitVec 32 := 0#32
  let v85 : BitVec 1 := Scalar.cmpi .ne v84 c0_i32_42
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleRefIdeal.lean ====
abbrev S8192x2048 : Shape := ⟨2, ![8192, 2048]⟩
abbrev S8192x256 : Shape := ⟨2, ![8192, 256]⟩
abbrev S128x2048 : Shape := ⟨2, ![128, 2048]⟩
abbrev S128x256 : Shape := ⟨2, ![128, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S128 : Shape := ⟨1, ![128]⟩
abbrev S128x1 : Shape := ⟨2, ![128, 1]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S128x2048, .f32⟩
  | .hbm, ⟨3, _⟩ => ⟨S128x256, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S128x2048, .f32⟩
  | .hbm, ⟨53, _⟩ => ⟨S_, .f32⟩
  | .hbm, ⟨54, _⟩ => ⟨S128, .f32⟩
  | .hbm, ⟨55, _⟩ => ⟨S128x1, .f32⟩
  | .hbm, ⟨56, _⟩ => ⟨S_, .f32⟩
  | .hbm, ⟨57, _⟩ => ⟨S128x1, .f32⟩
  | .hbm, ⟨58, _⟩ => ⟨S128x1, .f32⟩
  | .hbm, ⟨59, _⟩ => ⟨S_, .f32⟩
  | .hbm, ⟨60, _⟩ => ⟨S128x1, .f32⟩
  | .hbm, ⟨61, _⟩ => ⟨S128x1, .f32⟩
  | .hbm, ⟨62, _⟩ => ⟨S128x1, .f32⟩
  | .hbm, ⟨63, _⟩ => ⟨S128x2048, .f32⟩
  | .hbm, ⟨64, _⟩ => ⟨S128x2048, .f32⟩
  | .hbm, ⟨65, _⟩ => ⟨S1x2048, .f32⟩
  | .hbm, ⟨66, _⟩ => ⟨S128x2048, .f32⟩
  | .hbm, ⟨67, _⟩ => ⟨S128x2048, .f32⟩
  | .hbm, ⟨68, _⟩ => ⟨S128x2048, .f32⟩
  | .hbm, ⟨69, _⟩ => ⟨S128x2048, .f32⟩
  | .hbm, ⟨70, _⟩ => ⟨S128x2048, .f32⟩
  | .hbm, ⟨71, _⟩ => ⟨S_, .f32⟩
  | .hbm, ⟨72, _⟩ => ⟨S128x2048, .f32⟩
  | .hbm, ⟨73, _⟩ => ⟨S128x2048, .f32⟩
  | .hbm, ⟨74, _⟩ => ⟨S_, .f32⟩
  | .hbm, ⟨75, _⟩ => ⟨S128x2048, .f32⟩
  | .hbm, ⟨76, _⟩ => ⟨S128x2048, .f32⟩
  | .hbm, ⟨77, _⟩ => ⟨S128x2048, .f32⟩
  | .hbm, ⟨78, _⟩ => ⟨S128x2048, .f32⟩
  | .hbm, ⟨79, _⟩ => ⟨S128x2048, .f32⟩
  | .hbm, ⟨80, _⟩ => ⟨S128x2048, .f32⟩
  | .hbm, ⟨81, _⟩ => ⟨S_, .f32⟩
  | .hbm, ⟨82, _⟩ => ⟨S128, .f32⟩
  | .hbm, ⟨83, _⟩ => ⟨S128x1, .f32⟩
  | .hbm, ⟨84, _⟩ => ⟨S_, .f32⟩
  | .hbm, ⟨85, _⟩ => ⟨S128x1, .f32⟩
  | .hbm, ⟨86, _⟩ => ⟨S128x1, .f32⟩
  | .hbm, ⟨87, _⟩ => ⟨S_, .f32⟩
  | .hbm, ⟨88, _⟩ => ⟨S128x1, .f32⟩
  | .hbm, ⟨89, _⟩ => ⟨S128x1, .f32⟩
  | .hbm, ⟨90, _⟩ => ⟨S128x1, .f32⟩
  | .hbm, ⟨91, _⟩ => ⟨S128x2048, .f32⟩
  | .hbm, ⟨92, _⟩ => ⟨S128x2048, .f32⟩
  | .hbm, ⟨93, _⟩ => ⟨S1x2048, .f32⟩
  | .hbm, ⟨94, _⟩ => ⟨S128x2048, .f32⟩
  | .hbm, ⟨95, _⟩ => ⟨S128x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S128x2048 : Shape := ⟨2, ![128, 2048]⟩
abbrev S128x1024 : Shape := ⟨2, ![128, 1024]⟩
abbrev S2048x2048 : Shape := ⟨2, ![2048, 2048]⟩
abbrev S512x2048 : Shape := ⟨2, ![512, 2048]⟩
abbrev S512x1024 : Shape := ⟨2, ![512, 1024]⟩
abbrev S256x2048 : Shape := ⟨2, ![256, 2048]⟩
abbrev S256x1024 : Shape := ⟨2, ![256, 1024]⟩
abbrev S1024x2048 : Shape := ⟨2, ![1024, 2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S128x2048, .f32⟩
  | .hbm, ⟨4, _⟩ => ⟨S128x1024, .bf16⟩
  | .hbm, ⟨5, _⟩ => ⟨S128x1024, .bf16⟩
  | .hbm, ⟨6, _⟩ => ⟨S2048x2048, .f32⟩
  | .hbm, ⟨7, _⟩ => ⟨S8192x2048, .f32⟩
  | .hbm, ⟨8, _⟩ => ⟨S128x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S128x2048, .f32⟩
  | .local _ .vmem, ⟨7, _⟩ => ⟨S128x1024, .bf16⟩
  | .local _ .vmem, ⟨8, _⟩ => ⟨S128x1024, .bf16⟩
  | .local _ .vmem, ⟨9, _⟩ => ⟨S2048x2048, .f32⟩
  | .local _ .vmem, ⟨10, _⟩ => ⟨S512x2048, .f32⟩
  | .local _ .vmem, ⟨11, _⟩ => ⟨S512x2048, .f32⟩
  | .local _ .vmem, ⟨12, _⟩ => ⟨S128x2048, .f32⟩
  | .local _ .vmem, ⟨13, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_25 : BitVec 32 := 0#32
  let v25 : BitVec 1 := Scalar.cmpi .ne v24 c0_i32_25
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutProjRefIdeal.lean ====
abbrev S8192x2048 : Shape := ⟨2, ![8192, 2048]⟩
abbrev S8192x1024 : Shape := ⟨2, ![8192, 1024]⟩
abbrev S128x2048 : Shape := ⟨2, ![128, 2048]⟩
abbrev S128x1024 : Shape := ⟨2, ![128, 1024]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S128x2048, .f32⟩
  | .hbm, ⟨4, _⟩ => ⟨S128x1024, .bf16⟩
  | .hbm, ⟨5, _⟩ => ⟨S128x1024, .bf16⟩
  | .hbm, ⟨6, _⟩ => ⟨S2048x2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S128x1024, .f32⟩
  | .hbm, ⟨13, _⟩ => ⟨S128x1024, .f32⟩
  | .hbm, ⟨14, _⟩ => ⟨S128x2048, .f32⟩
  | .hbm, ⟨15, _⟩ => ⟨S128x2048, .f32⟩
  | .hbm, ⟨16, _⟩ => ⟨S128x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Glu.lean ====
abbrev S8192x1024 : Shape := ⟨2, ![8192, 1024]⟩
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S128 : Shape := ⟨1, ![128]⟩
abbrev S128x1 : Shape := ⟨2, ![128, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S128x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S128x1024, .bf16⟩
  | .local _ .vmem, ⟨0, _⟩ => ⟨S1024x1024, .f32⟩
  | .local _ .vmem, ⟨1, _⟩ => ⟨S1024x1024, .f32⟩
  | .local _ .vmem, ⟨2, _⟩ => ⟨S128x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S128x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c7_i32 : BitVec 32 := 7#32
  let v108 : BitVec 1 := Scalar.cmpi .eq arg0 c7_i32
  let v109 : BitVec 32 := Scalar.extui v108
  let c0_i32 : BitVec 32 := 0#32
  let v110 : BitVec 1 := Scalar.cmpi .ne v109 c0_i32
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluRefIdeal.lean ====
abbrev S8192x1024 : Shape := ⟨2, ![8192, 1024]⟩
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S128 : Shape := ⟨1, ![128]⟩
abbrev S128x1 : Shape := ⟨2, ![128, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S128x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S128x1024, .f32⟩
  | .hbm, ⟨36, _⟩ => ⟨S128x1024, .f32⟩
  | .hbm, ⟨37, _⟩ => ⟨S1x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S_, .f32⟩
  | .hbm, ⟨57, _⟩ => ⟨S128x1, .f32⟩
  | .hbm, ⟨58, _⟩ => ⟨S128x1, .f32⟩
  | .hbm, ⟨59, _⟩ => ⟨S128x1, .f32⟩
  | .hbm, ⟨60, _⟩ => ⟨S128x1024, .f32⟩
  | .hbm, ⟨61, _⟩ => ⟨S128x1024, .f32⟩
  | .hbm, ⟨62, _⟩ => ⟨S1x1024, .f32⟩
  | .hbm, ⟨63, _⟩ => ⟨S128x1024, .f32⟩
  | .hbm, ⟨64, _⟩ => ⟨S128x1024, .f32⟩
  | .hbm, ⟨65, _⟩ => ⟨S128x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Proof.LruSeq.Keeps.lean ====
module

public import proofs.«01_k».proof.Proof.Gen.LruSeqIdeal.Skeleton
public import proofs.«01_k».proof.Proof.Gen.LruSeqIdeal.Frame
public import Idealize.ShloMosaic.Lib.Exec

@[expose] public section

set_option maxRecDepth 16384

noncomputable section

namespace Cert.LruSeqFrame

open Cert.LruSeqIdeal Cert.LruSeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A buffer that may be read while `P` is held: it is owned within `P` at some contents, and given back unchanged. -/
def Readable (c : Dev nD) (P : sProp 𝕄) {s : Shape} {e : EltTy} (a : Memref sig .tc .vmem s e) : Prop :=
  P ⊢ iprop(∃ X, owns (c : Thread nD τ) a fullShare X ∗ (owns (c : Thread nD τ) a fullShare X -∗ P))

/-- A buffer that may be written while `P` is held: it is owned within `P`, and given back at any contents. -/
def Writable (c : Dev nD) (P : sProp 𝕄) {s : Shape} {e : EltTy} (a : Memref sig .tc .vmem s e) : Prop :=
  P ⊢ iprop(∃ X, owns (c : Thread nD τ) a fullShare X ∗ (∀ Y, owns (c : Thread nD τ) a fullShare Y -∗ P))

/-- A piece of the body that runs without fault while `P` is held and hands `P` back, whatever it returns. -/
def Keeps (c : Dev nD) (P : sProp 𝕄) {α : Type} (p : Prog (TpuEff nD τ sig (Elt F) Λ₀ .tc) α) : Prop :=
  P ⊢ wp frame (wpE (defs₀ (F := F)) Variants.none (c : Thread nD τ) none) Set.univ p (fun _ => P)

variable {c : Dev nD} {P : sProp (MT nD τ sig Unit (Elt F) ℕ (UR sig nD τ) ℕ)}

theorem Writable.read {s : Shape} {e : EltTy} {a : Memref sig .tc .vmem s e} (h : Writable c P a) : Readable c P a := by
  unfold Writable at h; unfold Readable
  refine h.trans ?_
  iintro ⟨%X, H, K⟩
  iexists X
  isplitl [H]; · iexact H
  iintro H
  iapply K
  iexact H

/-- Returning keeps anything. -/
theorem keeps_pure {α : Type} (x : α) : Keeps (F := F) c P (pure x) := by
  unfold Keeps; rw [wp_pure]
  iintro H; imodintro; iexact H

/-- Two pieces in a row. -/
theorem keeps_bind {α β : Type} {p : Prog (TpuEff nD τ sig (Elt F) Λ₀ .tc) α} {k : α → Prog (TpuEff nD τ sig (Elt F) Λ₀ .tc) β}
    (hp : Keeps c P p) (hk : ∀ x, Keeps c P (k x)) : Keeps c P (p >>= k) := by
  unfold Keeps; rw [wp_bind]
  exact BIBase.Entails.trans hp (wp_mono _ _ _ fun x => hk x)

/-- A load from a readable buffer. -/
theorem keeps_load {s : Shape} {e : EltTy} {a : Memref sig .tc .vmem s e} (h : Readable c P a) (r : LoadRect s) (hl : a.view.LoadsAt r) :
    Keeps c P (Prog.lift (.load a r hl)) := by
  unfold Keeps
  refine BIBase.Entails.trans h ?_
  unfold owns
  iintro ⟨%X, ⟨%f, %hf, H⟩, K⟩
  iapply (wp_load Variants.none (c : Thread nD τ) none Set.univ (m := a) (a.view.setOn_subset_set _)) $$ H
  iintro H
  rw [wp_ret]; imodintro
  iapply K
  iexists f
  isplitr
  · ipureintro; exact hf
  iexact H

/-- A store to a writable buffer. -/
theorem keeps_store {s : Shape} {e : EltTy} {a : Memref sig .tc .vmem s e} (h : Writable c P a) (r : Rect s) (w : r.shape.Idx → Elt F e)
    (hx : (a.access r).Stores Finset.univ) (hm : (Finset.univ : Finset r.shape.Idx) = Finset.univ ∨ ∀ i, r.stride i = 1) :
    Keeps c P (Prog.lift (.store a r w Finset.univ hx hm)) := by
  unfold Keeps
  refine BIBase.Entails.trans h ?_
  unfold owns
  iintro ⟨%X, ⟨%f, %hf, H⟩, K⟩
  iapply (wp_store Variants.none (c : Thread nD τ) none Set.univ (m := a) (((a.view.slice r).setOn_subset_set _).trans (a.view.set_slice_subset r))) $$ H
  iintro H
  rw [wp_ret]; imodintro
  iapply K
  iexists _
  isplitr
  swap; · iexact H
  ipureintro; rfl

/-- A branch. -/
theorem keeps_dite {α : Type} {q : Prop} [Decidable q] {p : q → Prog (TpuEff nD τ sig (Elt F) Λ₀ .tc) α} {p' : ¬q → Prog (TpuEff nD τ sig (Elt F) Λ₀ .tc) α}
    (h : ∀ x, Keeps c P (p x)) (h' : ∀ x, Keeps c P (p' x)) : Keeps c P (dite q p p') := by
  by_cases hq : q
  · rw [dif_pos hq]; exact h hq
  · rw [dif_neg hq]; exact h' hq

/-- A counted loop keeps what each of its trips keeps. -/
theorem keeps_for {w : Nat} {σ : Type} (l : Scf.Loop w) (hok : l.OK) (init : σ) (body : Fin l.trips → σ → Prog (TpuEff nD τ sig (Elt F) Λ₀ .tc) σ)
    (h : ∀ k x, Keeps c P (body k x)) : Keeps c P (Scf.Loop.for l hok init body) := by
  unfold Keeps
  refine BIBase.Entails.trans ?_ (Scf.wp_for _ _ _ l.lb l.ub l.st hok init body (fun _ _ => P) h)
  iintro H
  isplitl [H]; · iexact H
  iintro %x H
  iexact H

/-- The body's eighteen buffers, as a piece of it needs them while `P` is held: the eleven inputs may be read, the three
    outputs and the four scratch buffers written. -/
structure Room (c : Dev nD) (P : sProp 𝕄) (arg1 : Memref sig .tc .vmem S4x64x1024 .f32) (arg2 : Memref sig .tc .vmem S4x64x1024 .f32) (arg3 : Memref sig .tc .vmem S4x1024 .f32) (arg4 : Memref sig .tc .vmem S1x1024 .f32) (arg5 : Memref sig .tc .vmem S4x256x256 .bf16) (arg6 : Memref sig .tc .vmem S1x1024 .f32) (arg7 : Memref sig .tc .vmem S4x256x256 .bf16) (arg8 : Memref sig .tc .vmem S1x1024 .f32) (arg9 : Memref sig .tc .vmem S1x1024 .f32) (arg10 : Memref sig .tc .vmem S1x1024 .f32) (arg11 : Memref sig .tc .vmem S64x8192 .f32) (arg12 : Memref sig .tc .vmem S4x64x1024 .bf16) (arg13 : Memref sig .tc .vmem S8x4x128 .f32) (arg14 : Memref sig .tc .vmem S64x8192 .bf16) (arg15 : Memref sig .tc .vmem S4x72x1024 .f32) (arg16 : Memref sig .tc .vmem S8x288x128 .f32) (arg17 : Memref sig .tc .vmem S8x288x128 .f32) (arg18 : Memref sig .tc .vmem S8x4x128 .f32) : Prop where
  h1 : Readable c P arg1
  h2 : Readable c P arg2
  h3 : Readable c P arg3
  h4 : Readable c P arg4
  h5 : Readable c P arg5
  h6 : Readable c P arg6
  h7 : Readable c P arg7
  h8 : Readable c P arg8
  h9 : Readable c P arg9
  h10 : Readable c P arg10
  h11 : Readable c P arg11
  w12 : Writable c P arg12
  w13 : Writable c P arg13
  w14 : Writable c P arg14
  w15 : Writable c P arg15
  w16 : Writable c P arg16
  w17 : Writable c P arg17
  w18 : Writable c P arg18

end Cert.LruSeqFrame

end
-- ==== Proof.LruSeq.Parts.lean ====
module

public import proofs.«01_k».proof.Proof.LruSeq.Keeps

@[expose] public section

set_option maxRecDepth 16384

noncomputable section

namespace Cert.LruSeqFrame

open Cert.LruSeqIdeal Cert.LruSeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {c : Dev nD} {P : sProp (MT nD τ sig Unit (Elt F) ℕ (UR sig nD τ) ℕ)} {i : grid0.Coords}
  {arg1 : Memref sig .tc .vmem S4x64x1024 .f32} {h1 : arg1.IsWhole}
  {arg2 : Memref sig .tc .vmem S4x64x1024 .f32} {h2 : arg2.IsWhole}
  {arg3 : Memref sig .tc .vmem S4x1024 .f32} {h3 : arg3.IsWhole}
  {arg4 : Memref sig .tc .vmem S1x1024 .f32} {h4 : arg4.IsWhole}
  {arg5 : Memref sig .tc .vmem S4x256x256 .bf16} {h5 : arg5.IsWhole}
  {arg6 : Memref sig .tc .vmem S1x1024 .f32} {h6 : arg6.IsWhole}
  {arg7 : Memref sig .tc .vmem S4x256x256 .bf16} {h7 : arg7.IsWhole}
  {arg8 : Memref sig .tc .vmem S1x1024 .f32} {h8 : arg8.IsWhole}
  {arg9 : Memref sig .tc .vmem S1x1024 .f32} {h9 : arg9.IsWhole}
  {arg10 : Memref sig .tc .vmem S1x1024 .f32} {h10 : arg10.IsWhole}
  {arg11 : Memref sig .tc .vmem S64x8192 .f32} {h11 : arg11.IsWhole}
  {arg12 : Memref sig .tc .vmem S4x64x1024 .bf16} {h12 : arg12.IsWhole}
  {arg13 : Memref sig .tc .vmem S8x4x128 .f32} {h13 : arg13.IsWhole}
  {arg14 : Memref sig .tc .vmem S64x8192 .bf16} {h14 : arg14.IsWhole}
  {arg15 : Memref sig .tc .vmem S4x72x1024 .f32} {h15 : arg15.IsWhole}
  {arg16 : Memref sig .tc .vmem S8x288x128 .f32} {h16 : arg16.IsWhole}
  {arg17 : Memref sig .tc .vmem S8x288x128 .f32} {h17 : arg17.IsWhole}
  {arg18 : Memref sig .tc .vmem S8x4x128 .f32} {h18 : arg18.IsWhole}
variable (R : Room c P arg1 arg2 arg3 arg4 arg5 arg6 arg7 arg8 arg9 arg10 arg11 arg12 arg13 arg14 arg15 arg16 arg17 arg18)
include R

theorem part1 : ∀ c0_i32_356 c1_i32 k0_t1 arg20 arg21 arg22, Keeps c P (k0_part1 (F := F) i _ h1 _ h2 _ h3 _ h4 _ h5 _ h6 _ h7 _ h8 _ h9 _ h10 _ h11 _ h12 _ h13 _ h14 _ h15 _ h16 _ h17 _ h18 c0_i32_356 c1_i32 k0_t1 arg20 arg21 arg22) := by
  cases R; intros; rw [k0_part1_eq_skeleton]; unfold k0_part1_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part2 : ∀ k0_t1 arg23 arg24 arg25 v747 v779 v781, Keeps c P (k0_part2 (F := F) i _ h1 _ h2 _ h3 _ h4 _ h5 _ h6 _ h7 _ h8 _ h9 _ h10 _ h11 _ h12 _ h13 _ h14 _ h15 _ h16 _ h17 _ h18 k0_t1 arg23 arg24 arg25 v747 v779 v781) := by
  cases R; intros; rw [k0_part2_eq_skeleton]; unfold k0_part2_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part3 : ∀ k0_t1 arg26 arg27 v746 v747 v755, Keeps c P (k0_part3 (F := F) i _ h1 _ h2 _ h3 _ h4 _ h5 _ h6 _ h7 _ h8 _ h9 _ h10 _ h11 _ h12 _ h13 _ h14 _ h15 _ h16 _ h17 _ h18 k0_t1 arg26 arg27 v746 v747 v755) := by
  cases R; intros; rw [k0_part3_eq_skeleton]; unfold k0_part3_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part4 : ∀ k0_t1 v767 v779 v791 v844, Keeps c P (k0_part4 (F := F) i _ h1 _ h2 _ h3 _ h4 _ h5 _ h6 _ h7 _ h8 _ h9 _ h10 _ h11 _ h12 _ h13 _ h14 _ h15 _ h16 _ h17 _ h18 k0_t1 v767 v779 v791 v844) := by
  cases R; intros; rw [k0_part4_eq_skeleton]; unfold k0_part4_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part5 : ∀ k0_t1 v803 v815 v827 v839 v844 v894, Keeps c P (k0_part5 (F := F) i _ h1 _ h2 _ h3 _ h4 _ h5 _ h6 _ h7 _ h8 _ h9 _ h10 _ h11 _ h12 _ h13 _ h14 _ h15 _ h16 _ h17 _ h18 k0_t1 v803 v815 v827 v839 v844 v894) := by
  cases R; intros; rw [k0_part5_eq_skeleton]; unfold k0_part5_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part6 : ∀ k0_t1 v746 v844 v852 v864 v876 v932, Keeps c P (k0_part6 (F := F) i _ h1 _ h2 _ h3 _ h4 _ h5 _ h6 _ h7 _ h8 _ h9 _ h10 _ h11 _ h12 _ h13 _ h14 _ h15 _ h16 _ h17 _ h18 k0_t1 v746 v844 v852 v864 v876 v932) := by
  cases R; intros; rw [k0_part6_eq_skeleton]; unfold k0_part6_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part7 : ∀ k0_t1 v888 v900 v912 v941 v969, Keeps c P (k0_part7 (F := F) i _ h1 _ h2 _ h3 _ h4 _ h5 _ h6 _ h7 _ h8 _ h9 _ h10 _ h11 _ h12 _ h13 _ h14 _ h15 _ h16 _ h17 _ h18 k0_t1 v888 v900 v912 v941 v969) := by
  cases R; intros; rw [k0_part7_eq_skeleton]; unfold k0_part7_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part8 : ∀ k0_t1 v746 v924 v936 v941 v949 v1005 v1008, Keeps c P (k0_part8 (F := F) i _ h1 _ h2 _ h3 _ h4 _ h5 _ h6 _ h7 _ h8 _ h9 _ h10 _ h11 _ h12 _ h13 _ h14 _ h15 _ h16 _ h17 _ h18 k0_t1 v746 v924 v936 v941 v949 v1005 v1008) := by
  cases R; intros; rw [k0_part8_eq_skeleton]; unfold k0_part8_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part9 : ∀ k0_t1 v961 v973 v985 v1038 v1046, Keeps c P (k0_part9 (F := F) i _ h1 _ h2 _ h3 _ h4 _ h5 _ h6 _ h7 _ h8 _ h9 _ h10 _ h11 _ h12 _ h13 _ h14 _ h15 _ h16 _ h17 _ h18 k0_t1 v961 v973 v985 v1038 v1046) := by
  cases R; intros; rw [k0_part9_eq_skeleton]; unfold k0_part9_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part10 : ∀ k0_t1 v997 v1009 v1021 v1038 v1082, Keeps c P (k0_part10 (F := F) i _ h1 _ h2 _ h3 _ h4 _ h5 _ h6 _ h7 _ h8 _ h9 _ h10 _ h11 _ h12 _ h13 _ h14 _ h15 _ h16 _ h17 _ h18 k0_t1 v997 v1009 v1021 v1038 v1082) := by
  cases R; intros; rw [k0_part10_eq_skeleton]; unfold k0_part10_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part11 : ∀ k0_t1 v746 v1033 v1038 v1046 v1058 v1122, Keeps c P (k0_part11 (F := F) i _ h1 _ h2 _ h3 _ h4 _ h5 _ h6 _ h7 _ h8 _ h9 _ h10 _ h11 _ h12 _ h13 _ h14 _ h15 _ h16 _ h17 _ h18 k0_t1 v746 v1033 v1038 v1046 v1058 v1122) := by
  cases R; intros; rw [k0_part11_eq_skeleton]; unfold k0_part11_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part12 : ∀ k0_t1 v1070 v1082 v1094 v1135, Keeps c P (k0_part12 (F := F) i _ h1 _ h2 _ h3 _ h4 _ h5 _ h6 _ h7 _ h8 _ h9 _ h10 _ h11 _ h12 _ h13 _ h14 _ h15 _ h16 _ h17 _ h18 k0_t1 v1070 v1082 v1094 v1135) := by
  cases R; intros; rw [k0_part12_eq_skeleton]; unfold k0_part12_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part13 : ∀ k0_t1 v746 v1106 v1118 v1130 v1135, Keeps c P (k0_part13 (F := F) i _ h1 _ h2 _ h3 _ h4 _ h5 _ h6 _ h7 _ h8 _ h9 _ h10 _ h11 _ h12 _ h13 _ h14 _ h15 _ h16 _ h17 _ h18 k0_t1 v746 v1106 v1118 v1130 v1135) := by
  cases R; intros; rw [k0_part13_eq_skeleton]; unfold k0_part13_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part14 : ∀ k0_t1 v1143 v1155 v1167 v1179 v1232 v1234, Keeps c P (k0_part14 (F := F) i _ h1 _ h2 _ h3 _ h4 _ h5 _ h6 _ h7 _ h8 _ h9 _ h10 _ h11 _ h12 _ h13 _ h14 _ h15 _ h16 _ h17 _ h18 k0_t1 v1143 v1155 v1167 v1179 v1232 v1234) := by
  cases R; intros; rw [k0_part14_eq_skeleton]; unfold k0_part14_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part15 : ∀ k0_t1 v1191 v1203 v1215 v1232 v1272, Keeps c P (k0_part15 (F := F) i _ h1 _ h2 _ h3 _ h4 _ h5 _ h6 _ h7 _ h8 _ h9 _ h10 _ h11 _ h12 _ h13 _ h14 _ h15 _ h16 _ h17 _ h18 k0_t1 v1191 v1203 v1215 v1232 v1272) := by
  cases R; intros; rw [k0_part15_eq_skeleton]; unfold k0_part15_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part16 : ∀ k0_t1 v746 v1227 v1232 v1240 v1252 v1308 v1310, Keeps c P (k0_part16 (F := F) i _ h1 _ h2 _ h3 _ h4 _ h5 _ h6 _ h7 _ h8 _ h9 _ h10 _ h11 _ h12 _ h13 _ h14 _ h15 _ h16 _ h17 _ h18 k0_t1 v746 v1227 v1232 v1240 v1252 v1308 v1310) := by
  cases R; intros; rw [k0_part16_eq_skeleton]; unfold k0_part16_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part17 : ∀ k0_t1 v1264 v1276 v1288 v1329 v1345 v1348, Keeps c P (k0_part17 (F := F) i _ h1 _ h2 _ h3 _ h4 _ h5 _ h6 _ h7 _ h8 _ h9 _ h10 _ h11 _ h12 _ h13 _ h14 _ h15 _ h16 _ h17 _ h18 k0_t1 v1264 v1276 v1288 v1329 v1345 v1348) := by
  cases R; intros; rw [k0_part17_eq_skeleton]; unfold k0_part17_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part18 : ∀ k0_t1 v1300 v1312 v1324 v1329 v1385, Keeps c P (k0_part18 (F := F) i _ h1 _ h2 _ h3 _ h4 _ h5 _ h6 _ h7 _ h8 _ h9 _ h10 _ h11 _ h12 _ h13 _ h14 _ h15 _ h16 _ h17 _ h18 k0_t1 v1300 v1312 v1324 v1329 v1385) := by
  cases R; intros; rw [k0_part18_eq_skeleton]; unfold k0_part18_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part19 : ∀ k0_t1 v746 v1337 v1349 v1361 v1421, Keeps c P (k0_part19 (F := F) i _ h1 _ h2 _ h3 _ h4 _ h5 _ h6 _ h7 _ h8 _ h9 _ h10 _ h11 _ h12 _ h13 _ h14 _ h15 _ h16 _ h17 _ h18 k0_t1 v746 v1337 v1349 v1361 v1421) := by
  cases R; intros; rw [k0_part19_eq_skeleton]; unfold k0_part19_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part20 : ∀ k0_t1 v1373 v1385 v1397 v1426 v1462, Keeps c P (k0_part20 (F := F) i _ h1 _ h2 _ h3 _ h4 _ h5 _ h6 _ h7 _ h8 _ h9 _ h10 _ h11 _ h12 _ h13 _ h14 _ h15 _ h16 _ h17 _ h18 k0_t1 v1373 v1385 v1397 v1426 v1462) := by
  cases R; intros; rw [k0_part20_eq_skeleton]; unfold k0_part20_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part21 : Keeps c P (k0_part21 (F := F) i _ h1 _ h2 _ h3 _ h4 _ h5 _ h6 _ h7 _ h8 _ h9 _ h10 _ h11 _ h12 _ h13 _ h14 _ h15 _ h16 _ h17 _ h18) := by
  cases R; intros; rw [k0_part21_eq_skeleton]; unfold k0_part21_skel
  with_reducible repeat' first
    | refine keeps_bind ?_ fun _ => ?_
    | exact keeps_load (by assumption) _ _
    | exact keeps_load (Writable.read (by assumption)) _ _
    | exact keeps_store (by assumption) _ _ _ _
    | exact keeps_pure _
    | refine keeps_dite (fun _ => ?_) fun _ => ?_
    | dsimp only

theorem part22 : ∀ v10 v26 v27 v30, Keeps c P (k0_part22 (F := F) i _ h1 _ h2 _ h3 _ h4 _ h5 _ h6 _ h7 _ h8 _ h9 _ h10 _ h11 _ h12 _ h13 _ h14 _ h15 _ h16 _ h17 _ h18 v10 v26 v27 v30) := by
  cases R; intros; rw [k0_part22_eq_skeleton]; unfold k0_part22_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part23 : ∀ v39 v58 v60 v64 v67 v69 v70, Keeps c P (k0_part23 (F := F) i _ h1 _ h2 _ h3 _ h4 _ h5 _ h6 _ h7 _ h8 _ h9 _ h10 _ h11 _ h12 _ h13 _ h14 _ h15 _ h16 _ h17 _ h18 v39 v58 v60 v64 v67 v69 v70) := by
  cases R; intros; rw [k0_part23_eq_skeleton]; unfold k0_part23_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part24 : ∀ v79 v85 v106, Keeps c P (k0_part24 (F := F) i _ h1 _ h2 _ h3 _ h4 _ h5 _ h6 _ h7 _ h8 _ h9 _ h10 _ h11 _ h12 _ h13 _ h14 _ h15 _ h16 _ h17 _ h18 v79 v85 v106) := by
  cases R; intros; rw [k0_part24_eq_skeleton]; unfold k0_part24_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part25 : ∀ v79 v85 v137, Keeps c P (k0_part25 (F := F) i _ h1 _ h2 _ h3 _ h4 _ h5 _ h6 _ h7 _ h8 _ h9 _ h10 _ h11 _ h12 _ h13 _ h14 _ h15 _ h16 _ h17 _ h18 v79 v85 v137) := by
  cases R; intros; rw [k0_part25_eq_skeleton]; unfold k0_part25_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part26 : ∀ v150 v166 v171, Keeps c P (k0_part26 (F := F) i _ h1 _ h2 _ h3 _ h4 _ h5 _ h6 _ h7 _ h8 _ h9 _ h10 _ h11 _ h12 _ h13 _ h14 _ h15 _ h16 _ h17 _ h18 v150 v166 v171) := by
  cases R; intros; rw [k0_part26_eq_skeleton]; unfold k0_part26_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part27 : ∀ v179 v198 v200 v204 v207 v209 v210 cst_116, Keeps c P (k0_part27 (F := F) i _ h1 _ h2 _ h3 _ h4 _ h5 _ h6 _ h7 _ h8 _ h9 _ h10 _ h11 _ h12 _ h13 _ h14 _ h15 _ h16 _ h17 _ h18 v179 v198 v200 v204 v207 v209 v210 cst_116) := by
  cases R; intros; rw [k0_part27_eq_skeleton]; unfold k0_part27_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part28 : ∀ v219 v225 v246, Keeps c P (k0_part28 (F := F) i _ h1 _ h2 _ h3 _ h4 _ h5 _ h6 _ h7 _ h8 _ h9 _ h10 _ h11 _ h12 _ h13 _ h14 _ h15 _ h16 _ h17 _ h18 v219 v225 v246) := by
  cases R; intros; rw [k0_part28_eq_skeleton]; unfold k0_part28_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part29 : ∀ v219 v225, Keeps c P (k0_part29 (F := F) i _ h1 _ h2 _ h3 _ h4 _ h5 _ h6 _ h7 _ h8 _ h9 _ h10 _ h11 _ h12 _ h13 _ h14 _ h15 _ h16 _ h17 _ h18 v219 v225) := by
  cases R; intros; rw [k0_part29_eq_skeleton]; unfold k0_part29_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part30 : ∀ v290 v312, Keeps c P (k0_part30 (F := F) i _ h1 _ h2 _ h3 _ h4 _ h5 _ h6 _ h7 _ h8 _ h9 _ h10 _ h11 _ h12 _ h13 _ h14 _ h15 _ h16 _ h17 _ h18 v290 v312) := by
  cases R; intros; rw [k0_part30_eq_skeleton]; unfold k0_part30_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part31 : ∀ v319 v338 v340 v344 v347 v349 v350 v351, Keeps c P (k0_part31 (F := F) i _ h1 _ h2 _ h3 _ h4 _ h5 _ h6 _ h7 _ h8 _ h9 _ h10 _ h11 _ h12 _ h13 _ h14 _ h15 _ h16 _ h17 _ h18 v319 v338 v340 v344 v347 v349 v350 v351) := by
  cases R; intros; rw [k0_part31_eq_skeleton]; unfold k0_part31_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part32 : ∀ v359 v365 v386 v387, Keeps c P (k0_part32 (F := F) i _ h1 _ h2 _ h3 _ h4 _ h5 _ h6 _ h7 _ h8 _ h9 _ h10 _ h11 _ h12 _ h13 _ h14 _ h15 _ h16 _ h17 _ h18 v359 v365 v386 v387) := by
  cases R; intros; rw [k0_part32_eq_skeleton]; unfold k0_part32_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part33 : ∀ v359 v365 v418, Keeps c P (k0_part33 (F := F) i _ h1 _ h2 _ h3 _ h4 _ h5 _ h6 _ h7 _ h8 _ h9 _ h10 _ h11 _ h12 _ h13 _ h14 _ h15 _ h16 _ h17 _ h18 v359 v365 v418) := by
  cases R; intros; rw [k0_part33_eq_skeleton]; unfold k0_part33_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part34 : ∀ v430 v452, Keeps c P (k0_part34 (F := F) i _ h1 _ h2 _ h3 _ h4 _ h5 _ h6 _ h7 _ h8 _ h9 _ h10 _ h11 _ h12 _ h13 _ h14 _ h15 _ h16 _ h17 _ h18 v430 v452) := by
  cases R; intros; rw [k0_part34_eq_skeleton]; unfold k0_part34_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part35 : ∀ v459 v478 v480 v484 v487 v489 v492, Keeps c P (k0_part35 (F := F) i _ h1 _ h2 _ h3 _ h4 _ h5 _ h6 _ h7 _ h8 _ h9 _ h10 _ h11 _ h12 _ h13 _ h14 _ h15 _ h16 _ h17 _ h18 v459 v478 v480 v484 v487 v489 v492) := by
  cases R; intros; rw [k0_part35_eq_skeleton]; unfold k0_part35_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part36 : ∀ v499 v505 v526, Keeps c P (k0_part36 (F := F) i _ h1 _ h2 _ h3 _ h4 _ h5 _ h6 _ h7 _ h8 _ h9 _ h10 _ h11 _ h12 _ h13 _ h14 _ h15 _ h16 _ h17 _ h18 v499 v505 v526) := by
  cases R; intros; rw [k0_part36_eq_skeleton]; unfold k0_part36_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part37 : ∀ v499 v505 v558, Keeps c P (k0_part37 (F := F) i _ h1 _ h2 _ h3 _ h4 _ h5 _ h6 _ h7 _ h8 _ h9 _ h10 _ h11 _ h12 _ h13 _ h14 _ h15 _ h16 _ h17 _ h18 v499 v505 v558) := by
  cases R; intros; rw [k0_part37_eq_skeleton]; unfold k0_part37_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part39 : ∀ v591_3 v591_4 v591_5 v591_6 v609, Keeps c P (k0_part39 (F := F) i _ h1 _ h2 _ h3 _ h4 _ h5 _ h6 _ h7 _ h8 _ h9 _ h10 _ h11 _ h12 _ h13 _ h14 _ h15 _ h16 _ h17 _ h18 v591_3 v591_4 v591_5 v591_6 v609) := by
  cases R; intros; rw [k0_part39_eq_skeleton]; unfold k0_part39_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part40 : ∀ v591_7, Keeps c P (k0_part40 (F := F) i _ h1 _ h2 _ h3 _ h4 _ h5 _ h6 _ h7 _ h8 _ h9 _ h10 _ h11 _ h12 _ h13 _ h14 _ h15 _ h16 _ h17 _ h18 v591_7) := by
  cases R; intros; rw [k0_part40_eq_skeleton]; unfold k0_part40_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part41 : ∀ v658, Keeps c P (k0_part41 (F := F) i _ h1 _ h2 _ h3 _ h4 _ h5 _ h6 _ h7 _ h8 _ h9 _ h10 _ h11 _ h12 _ h13 _ h14 _ h15 _ h16 _ h17 _ h18 v658) := by
  cases R; intros; rw [k0_part41_eq_skeleton]; unfold k0_part41_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part42 : ∀ v656 v673 v675 v677 v679 v681 v683, Keeps c P (k0_part42 (F := F) i _ h1 _ h2 _ h3 _ h4 _ h5 _ h6 _ h7 _ h8 _ h9 _ h10 _ h11 _ h12 _ h13 _ h14 _ h15 _ h16 _ h17 _ h18 v656 v673 v675 v677 v679 v681 v683) := by
  cases R; intros; rw [k0_part42_eq_skeleton]; unfold k0_part42_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

end Cert.LruSeqFrame

end
-- ==== Proof.LruSeq.Body.lean ====
module

public import proofs.«01_k».proof.Proof.LruSeq.Parts

@[expose] public section

set_option maxRecDepth 16384

noncomputable section

namespace Cert.LruSeqFrame

open Cert.LruSeqIdeal Cert.LruSeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {c : Dev nD} {P : sProp (MT nD τ sig Unit (Elt F) ℕ (UR sig nD τ) ℕ)} {i : grid0.Coords}
  {arg1 : Memref sig .tc .vmem S4x64x1024 .f32} {harg1 : arg1.IsWhole}
  {arg2 : Memref sig .tc .vmem S4x64x1024 .f32} {harg2 : arg2.IsWhole}
  {arg3 : Memref sig .tc .vmem S4x1024 .f32} {harg3 : arg3.IsWhole}
  {arg4 : Memref sig .tc .vmem S1x1024 .f32} {harg4 : arg4.IsWhole}
  {arg5 : Memref sig .tc .vmem S4x256x256 .bf16} {harg5 : arg5.IsWhole}
  {arg6 : Memref sig .tc .vmem S1x1024 .f32} {harg6 : arg6.IsWhole}
  {arg7 : Memref sig .tc .vmem S4x256x256 .bf16} {harg7 : arg7.IsWhole}
  {arg8 : Memref sig .tc .vmem S1x1024 .f32} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S64x8192 .f32} {harg11 : arg11.IsWhole}
  {arg12 : Memref sig .tc .vmem S4x64x1024 .bf16} {harg12 : arg12.IsWhole}
  {arg13 : Memref sig .tc .vmem S8x4x128 .f32} {harg13 : arg13.IsWhole}
  {arg14 : Memref sig .tc .vmem S64x8192 .bf16} {harg14 : arg14.IsWhole}
  {arg15 : Memref sig .tc .vmem S4x72x1024 .f32} {harg15 : arg15.IsWhole}
  {arg16 : Memref sig .tc .vmem S8x288x128 .f32} {harg16 : arg16.IsWhole}
  {arg17 : Memref sig .tc .vmem S8x288x128 .f32} {harg17 : arg17.IsWhole}
  {arg18 : Memref sig .tc .vmem S8x4x128 .f32} {harg18 : arg18.IsWhole}

/-- One trip of the recurrence's loop. -/
theorem trip (R : Room c P arg1 arg2 arg3 arg4 arg5 arg6 arg7 arg8 arg9 arg10 arg11 arg12 arg13 arg14 arg15 arg16 arg17 arg18) : ∀ v575 v577 v579 v581 v583 k x, Keeps c P (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v575 v577 v579 v581 v583 k x) := by
  intro v575 v577 v579 v581 v583 k x
  unfold k0_t1_body
  dsimp only
  repeat' first
    | with_reducible refine keeps_bind ?_ fun _ => ?_
    | with_reducible exact part1 R _ _ _ _ _ _
    | with_reducible exact part2 R _ _ _ _ _ _ _
    | with_reducible exact part3 R _ _ _ _ _ _
    | with_reducible exact part4 R _ _ _ _ _
    | with_reducible exact part5 R _ _ _ _ _ _ _
    | with_reducible exact part6 R _ _ _ _ _ _ _
    | with_reducible exact part7 R _ _ _ _ _ _
    | with_reducible exact part8 R _ _ _ _ _ _ _ _
    | with_reducible exact part9 R _ _ _ _ _ _
    | with_reducible exact part10 R _ _ _ _ _ _
    | with_reducible exact part11 R _ _ _ _ _ _ _
    | with_reducible exact part12 R _ _ _ _ _
    | with_reducible exact part13 R _ _ _ _ _ _
    | with_reducible exact part14 R _ _ _ _ _ _ _
    | with_reducible exact part15 R _ _ _ _ _ _
    | with_reducible exact part16 R _ _ _ _ _ _ _ _
    | with_reducible exact part17 R _ _ _ _ _ _ _
    | with_reducible exact part18 R _ _ _ _ _ _
    | with_reducible exact part19 R _ _ _ _ _ _
    | with_reducible exact part20 R _ _ _ _ _ _
    | with_reducible exact keeps_load R.w16.read _ _
    | with_reducible exact keeps_load R.w17.read _ _
    | with_reducible exact keeps_store R.w16 _ _ _ _
    | with_reducible exact keeps_store R.w17 _ _ _ _
    | with_reducible exact keeps_pure _
    | dsimp only

/-- The part that runs the loop. -/
theorem part38 (R : Room c P arg1 arg2 arg3 arg4 arg5 arg6 arg7 arg8 arg9 arg10 arg11 arg12 arg13 arg14 arg15 arg16 arg17 arg18) : ∀ v575 v577 v579 v581 v583, Keeps c P (k0_part38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v575 v577 v579 v581 v583) := by
  intro v575 v577 v579 v581 v583
  have ht := @trip F _ c P i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 R
  obtain ⟨h1, h2, h3, h4, h5, h6, h7, h8, h9, h10, h11, w12, w13, w14, w15, w16, w17, w18⟩ := R
  have h12 := w12.read
  have h13 := w13.read
  have h14 := w14.read
  have h15 := w15.read
  have h16 := w16.read
  have h17 := w17.read
  have h18 := w18.read
  rw [k0_part38_eq_skeleton]; unfold k0_part38_skel
  repeat' first
    | with_reducible refine keeps_bind ?_ fun _ => ?_
    | with_reducible exact keeps_load (by assumption) _ _
    | with_reducible exact keeps_store (by assumption) _ _ _ _
    | with_reducible exact keeps_for _ _ _ _ fun k x => ht _ _ _ _ _ k x
    | with_reducible exact keeps_pure _
    | dsimp only

/-- The body up to its last store. -/
theorem part43 (R : Room c P arg1 arg2 arg3 arg4 arg5 arg6 arg7 arg8 arg9 arg10 arg11 arg12 arg13 arg14 arg15 arg16 arg17 arg18) : Keeps c P (k0_part43 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [k0_part43_eq_skeleton]; unfold k0_part43_skel
  repeat' first
    | with_reducible refine keeps_bind ?_ fun _ => ?_
    | with_reducible exact part21 R
    | with_reducible exact part22 R _ _ _ _
    | with_reducible exact part23 R _ _ _ _ _ _ _
    | with_reducible exact part24 R _ _ _
    | with_reducible exact part25 R _ _ _
    | with_reducible exact part26 R _ _ _
    | with_reducible exact part27 R _ _ _ _ _ _ _ _
    | with_reducible exact part28 R _ _ _
    | with_reducible exact part29 R _ _
    | with_reducible exact part30 R _ _
    | with_reducible exact part31 R _ _ _ _ _ _ _ _
    | with_reducible exact part32 R _ _ _ _
    | with_reducible exact part33 R _ _ _
    | with_reducible exact part34 R _ _
    | with_reducible exact part35 R _ _ _ _ _ _ _
    | with_reducible exact part36 R _ _ _
    | with_reducible exact part37 R _ _ _
    | with_reducible exact part38 R _ _ _ _ _
    | with_reducible exact part39 R _ _ _ _ _
    | with_reducible exact part40 R _
    | with_reducible exact part41 R _
    | with_reducible exact part42 R _ _ _ _ _ _ _
    | with_reducible exact keeps_load R.h10 _ _
    | with_reducible exact keeps_load R.h2 _ _
    | with_reducible exact keeps_pure _
    | dsimp only

/-- The body keeps what it is called with: the inputs as they were, the outputs and the scratch at some contents. -/
theorem body (R : Room c P arg1 arg2 arg3 arg4 arg5 arg6 arg7 arg8 arg9 arg10 arg11 arg12 arg13 arg14 arg15 arg16 arg17 arg18) : Keeps c P (cc0_rglru_seq (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [cc0_rglru_seq_eq_skeleton]; unfold cc0_rglru_seq_skel
  repeat' first
    | with_reducible refine keeps_bind ?_ fun _ => ?_
    | with_reducible exact part43 R
    | with_reducible exact keeps_load R.w12.read _ _
    | with_reducible exact keeps_store R.w12 _ _ _ _
    | with_reducible exact keeps_pure _
    | dsimp only

end Cert.LruSeqFrame

end
-- ==== Proof.LruSeq.Frame.lean ====
module

public import proofs.«01_k».proof.Proof.LruSeq.Body
public import Idealize.ShloMosaic.Lib.Claim

@[expose] public section

set_option maxRecDepth 16384

noncomputable section

namespace Cert.LruSeqFrame

open Cert.LruSeqIdeal Cert.LruSeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer owned at fixed contents may be read. -/
theorem readable_self {c : Dev nD} {s : Shape} {e : EltTy} (a : Memref sig .tc .vmem s e) (X : s.Idx → Elt F e) :
    Readable c (owns (c : Thread nD τ) a fullShare X : sProp 𝕄) a := by
  unfold Readable
  iintro H
  iexists X
  isplitl [H]; · iexact H
  iintro H; iexact H

/-- A buffer owned at some contents may be written. -/
theorem writable_self {c : Dev nD} {s : Shape} {e : EltTy} (a : Memref sig .tc .vmem s e) :
    Writable c (iprop(∃ X, owns (c : Thread nD τ) a fullShare X) : sProp 𝕄) a := by
  unfold Writable
  iintro ⟨%X, H⟩
  iexists X
  isplitl [H]; · iexact H
  iintro %Y H
  iexists Y; iexact H

section
variable {c : Dev nD} {P Q : sProp (MT nD τ sig Unit (Elt F) ℕ (UR sig nD τ) ℕ)} {s : Shape} {e : EltTy} {a : Memref sig .tc .vmem s e}

/-- What may be read in one conjunct may be read in the conjunction, -/
theorem Readable.fst (h : Readable c P a) : Readable c (iprop(P ∗ Q)) a := by
  unfold Readable at *
  refine BIBase.Entails.trans (show iprop(P ∗ Q) ⊢ iprop((∃ X, owns (c : Thread nD τ) a fullShare X ∗ (owns (c : Thread nD τ) a fullShare X -∗ P)) ∗ Q) from sep_mono_l h) ?_
  iintro ⟨⟨%X, H, K⟩, HQ⟩
  iexists X
  isplitl [H]; · iexact H
  iintro H
  isplitl [H K]
  · iapply K; iexact H
  iexact HQ

/-- on either side, -/
theorem Readable.snd (h : Readable c Q a) : Readable c (iprop(P ∗ Q)) a := by
  unfold Readable at *
  refine BIBase.Entails.trans (show iprop(P ∗ Q) ⊢ iprop(P ∗ (∃ X, owns (c : Thread nD τ) a fullShare X ∗ (owns (c : Thread nD τ) a fullShare X -∗ Q))) from sep_mono_r h) ?_
  iintro ⟨HP, ⟨%X, H, K⟩⟩
  iexists X
  isplitl [H]; · iexact H
  iintro H
  isplitl [HP]; · iexact HP
  iapply K; iexact H

/-- and so for writing, -/
theorem Writable.fst (h : Writable c P a) : Writable c (iprop(P ∗ Q)) a := by
  unfold Writable at *
  refine BIBase.Entails.trans (show iprop(P ∗ Q) ⊢ iprop((∃ X, owns (c : Thread nD τ) a fullShare X ∗ (∀ Y, owns (c : Thread nD τ) a fullShare Y -∗ P)) ∗ Q) from sep_mono_l h) ?_
  iintro ⟨⟨%X, H, K⟩, HQ⟩
  iexists X
  isplitl [H]; · iexact H
  iintro %Y H
  isplitl [H K]
  · iapply K; iexact H
  iexact HQ

/-- on either side. -/
theorem Writable.snd (h : Writable c Q a) : Writable c (iprop(P ∗ Q)) a := by
  unfold Writable at *
  refine BIBase.Entails.trans (show iprop(P ∗ Q) ⊢ iprop(P ∗ (∃ X, owns (c : Thread nD τ) a fullShare X ∗ (∀ Y, owns (c : Thread nD τ) a fullShare Y -∗ Q))) from sep_mono_r h) ?_
  iintro ⟨HP, ⟨%X, H, K⟩⟩
  iexists X
  isplitl [H]; · iexact H
  iintro %Y H
  isplitl [HP]; · iexact HP
  iapply K; iexact H

end

/-- The proof data: every input's tile holds its block after each point, and nothing is said of the three outputs, which
    are the windows from 11 on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => View.canon (Val := Elt F) []
    | ⟨12, _⟩ => View.canon (Val := Elt F) []
    | ⟨13, _⟩ => View.canon (Val := Elt F) []
    | ⟨_ + 14, h⟩ => absurd h (Nat.not_lt.2 (Nat.le_add_left _ _))
  Φ _ := Pipeline.ΦA spec0 c
  q w := Pipeline.shareOf spec0 w
  owed _ := 0

/-- The windows whose contents are not tracked: the outputs. -/
def forgotten (w : Fin cfg0.W) : Bool := decide (11 ≤ w.val)

/-- The data's arrays are the region's. -/
theorem A_eq (c : Dev nD) (w : Fin cfg0.W) : (dats m 0 c).A w = V m c (Pipeline.arrRef spec0 w) := by
  dsimp only [dats]

/-- Each input tile holds its block after a point, and so before the next. -/
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d

/-- The region holds its four scratch buffers at some contents, and the generator register. -/
theorem region_eq (c : Dev nD) :
    (Pipeline.ΦA spec0 c : sProp 𝕄)
      = iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d))) ∗ (∃ r, prngReg c r)) := by
  unfold Pipeline.ΦA; rw [scopedRest0_eq]; simp only [owns_whole]; try rfl

/-- What a point holds, before and after: the scratch at some contents, the register, what the core owes, each input
    tile at its block and each output tile at some contents. -/
def held (c : Dev nD) (t : Fin cfg0.N) : sProp 𝕄 :=
  iprop(((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d))) ∗ (∃ r, prngReg c r))
    ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare (iblk m c 10 t)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d))

/-- The body finds in it every buffer it reads or writes. -/
theorem room (c : Dev nD) (t : Fin cfg0.N) : Room c (held m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (Memref.whole cc0_scratch0) (Memref.whole cc0_scratch1) (Memref.whole cc0_scratch2) (Memref.whole cc0_scratch3) where
  h1 := (readable_self _ _).fst.snd.snd
  h2 := (readable_self _ _).fst.snd.snd.snd
  h3 := (readable_self _ _).fst.snd.snd.snd.snd
  h4 := (readable_self _ _).fst.snd.snd.snd.snd.snd
  h5 := (readable_self _ _).fst.snd.snd.snd.snd.snd.snd
  h6 := (readable_self _ _).fst.snd.snd.snd.snd.snd.snd.snd
  h7 := (readable_self _ _).fst.snd.snd.snd.snd.snd.snd.snd.snd
  h8 := (readable_self _ _).fst.snd.snd.snd.snd.snd.snd.snd.snd.snd
  h9 := (readable_self _ _).fst.snd.snd.snd.snd.snd.snd.snd.snd.snd.snd
  h10 := (readable_self _ _).fst.snd.snd.snd.snd.snd.snd.snd.snd.snd.snd.snd
  h11 := (readable_self _ _).fst.snd.snd.snd.snd.snd.snd.snd.snd.snd.snd.snd.snd
  w12 := (writable_self _).fst.snd.snd.snd.snd.snd.snd.snd.snd.snd.snd.snd.snd.snd
  w13 := (writable_self _).fst.snd.snd.snd.snd.snd.snd.snd.snd.snd.snd.snd.snd.snd.snd
  w14 := (writable_self _).snd.snd.snd.snd.snd.snd.snd.snd.snd.snd.snd.snd.snd.snd.snd
  w15 := (writable_self _).fst.fst.fst
  w16 := (writable_self _).fst.snd.fst.fst
  w17 := (writable_self _).fst.snd.snd.fst.fst
  w18 := (writable_self _).snd.snd.snd.fst.fst

/-- The body at any point runs without fault and hands back what it was given. -/
theorem body_at (c : Dev nD) (t : Fin cfg0.N) :
    held m c t ⊢ wp frame (wpE (defs₀ (F := F)) Variants.none c none) Set.univ (bodyAt0 t) (fun _ => held m c t) :=
  body (room m c t)

/-- The pipeline calls the body as `bodyAt0` spells it. -/
theorem call_eq (t : Fin cfg0.N) : defs₀ (F := F) .tc cfg0.body (cfg0.bodyArgs t (cfg0.slots t)) = bodyAt0 t := by
  unfold defs₀; rw [Defs.onTc_tc]

/-- What the pipeline hands the body, window by window, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d))

/-- and what it asks back. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d))

/-- The first gives what a point holds, -/
theorem pre_held (c : Dev nD) (t : Fin cfg0.N) : pre m c t ⊢ held m c t := by
  unfold pre held
  rw [show (dats m 0 c).Φ t.castSucc = Pipeline.ΦA spec0 c from rfl, region_eq]
  simp only [before0, before1, before2, before3, before4, before5, before6, before7, before8, before9, before10]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- and that the second. -/
theorem held_post (c : Dev nD) (t : Fin cfg0.N) : held m c t ⊢ post m c t := by
  unfold post held
  rw [show (dats m 0 c).Φ t.succ = Pipeline.ΦA spec0 c from rfl, region_eq]
  simp only [after0, after1, after2, after3, after4, after5, after6, after7, after8, after9, after10]
  exact .rfl

/-- The pipeline's obligation on the body holds, the outputs' contents left open. -/
theorem obligation (c : Dev nD) : BodyObligationLoose (dats (F := F) m 0 c) (defs₀ (F := F)) Variants.none () Set.univ forgotten := fun t => by
  rw [bigSep_W0, bigSep_W0, call_eq]
  exact triple_restated (body_at m c t) rfl (pre_held m c t) fun _ => held_post m c t

set_option backward.isDefEq.respectTransparency.types false in
/-- Every execution ends, with the inputs' arrays and the other buffers as the region found them and every counter at zero. -/
theorem run_quiescent : θ_run defs (onTc (τ := τ) (main (F := F))) (s₀ m ρ) (fun r =>
    (Pipeline.RDat.FramePost cfg0 (fun c => (dats m 0 c).toRForget forgotten) (V m)) r ∧ r.2.sem = fun _ => 0) :=
  Pipeline.θ_run_frame_forget_shared (Q' := _) cfgs (dats m) (0 : Fin 1) launch₀0 defs₀ Variants.none forgotten m ρ main
    (hbody := obligation m) (hq := fun _ _ _ => rfl) (howed := fun _ _ => rfl) (V := V m) (hmain := hmain m Variants.none)
    (hA := A_eq m) (hΦ := fun _ _ => rfl)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨
    (h.1.arr_in c 1 rfl).trans ((A_eq m c 1).trans (V_main_arg0 m c)),
    (h.1.arr_in c 2 rfl).trans ((A_eq m c 2).trans (V_main_arg1 m c)),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    (h.1.arr_in c 10 rfl).trans ((A_eq m c 10).trans (V_main_arg9 m c))⟩, h.2⟩) (run_quiescent m ρ)

end Cert.LruSeqFrame

end
-- ==== Proof.LruSeq.RefFrame.lean ====
/- The reference of the recurrence over a prompt ends with its arguments as they were: no operation before its loop, in
   it or after it writes an argument. -/
module

public import proofs.«01_k».proof.Proof.Gen.LruSeqRefIdeal.Run
public import Idealize.ShloMosaic.Lib.Claim

@[expose] public section

set_option maxRecDepth 16384

noncomputable section

namespace Cert.LruSeqRefFrame

open Cert.LruSeqRefIdeal Cert.LruSeqRefIdeal.Gen Cert.LruSeqRefIdeal.Value
open Idealize.ShloMosaic Idealize.ShloMosaic.TcCoe Idealize.ShloMosaic.StableHlo
open Idealize.SL Idealize.SL.Sem

variable {F : FTy → Type} [FloatOps F]

/-- What the operations after the loop write. -/
def tailW : List (Ref sig .tc) :=
  [main_v82, main_v83, main_v84, main_cst_9, main_v85, main_v86, main_v87, main_cst_10, main_v88, main_v89, main_v90, main_cst_11, main_v91, main_v92, main_cst_12, main_v93, main_v94, main_v95, main_v96, main_v97, main_cst_13, main_v98, main_v99, main_cst_14, main_v100, main_v101, main_cst_15, main_v102, main_v103, main_v104, main_v105, main_v106, main_v107, main_v108, main_v109, main_v110, main_v111, main_v112, main_v113]

/-- They write nothing else. -/
theorem tail_writes : (hostOps0_3 : List (HloOp τ sig (Elt F))).Forall fun op => op.writes ⊆ (tailW.map (Proc.devRef (τ := τ) .tc)).toFinset :=
  StableHlo.forall_writes_sub_of_map rfl

/-- The program's ten arguments. -/
def args : List (Ref sig .tc) :=
  [main_arg0, main_arg1, main_arg2, main_arg3, main_arg4, main_arg5, main_arg6, main_arg7, main_arg8, main_arg9]

/-- No argument is written by any stretch. -/
theorem off_condOps : ∀ b ∈ args, b ∉ condOps_W := by decide +kernel
theorem off_hostOps0 : ∀ b ∈ args, b ∉ hostOps0_W := by decide +kernel
theorem off_hostOps0_1 : ∀ b ∈ args, b ∉ hostOps0_1_W := by decide +kernel
theorem off_hostOps0_2 : ∀ b ∈ args, b ∉ hostOps0_2_W := by decide +kernel
theorem off_while0Ops0 : ∀ b ∈ args, b ∉ while0Ops0_W := by decide +kernel
theorem off_while0Ops0_1 : ∀ b ∈ args, b ∉ while0Ops0_1_W := by decide +kernel
theorem off_while0Ops0_2 : ∀ b ∈ args, b ∉ while0Ops0_2_W := by decide +kernel
theorem off_while0Ops0_3 : ∀ b ∈ args, b ∉ while0Ops0_3_W := by decide +kernel
theorem off_while0Ops0_4 : ∀ b ∈ args, b ∉ while0Ops0_4_W := by decide +kernel
theorem off_tail : ∀ b ∈ args, b ∉ tailW := by decide +kernel

variable (m : (ℓ : Loc nD τ sig) → Buf (Elt F) ℓ)

/-- The loop finds each argument as launched, -/
theorem entry_arg (c : Dev nD) (b : Ref sig .tc) (hb : b ∈ args) :
    entryContents preI m c (Proc.devRef .tc b) = m ((c.tc : Thread nD τ).loc b) := by
  simp only [entryContents, afterL_cons, afterL_nil]
  rw [after_of_writes_sub hostOps0_2 _ hostOps0_2_writes (off_hostOps0_2 b hb),
    after_of_writes_sub hostOps0_1 _ hostOps0_1_writes (off_hostOps0_1 b hb),
    after_of_writes_sub hostOps0 _ hostOps0_writes (off_hostOps0 b hb)]
  try rfl

/-- no trip changes it, -/
theorem trip_arg (c : Dev nD) (b : Ref sig .tc) (hb : b ∈ args) :
    ∀ k, atK m k c (Proc.devRef .tc b) = m ((c.tc : Thread nD τ).loc b)
  | 0 => entry_arg m c b hb
  | k + 1 => by
    rw [show atK m (k + 1) c = afterL bodyI (after condOps (atK m k c)) from rfl]
    simp only [afterL_cons, afterL_nil]
    rw [after_of_writes_sub while0Ops0_4 _ while0Ops0_4_writes (off_while0Ops0_4 b hb),
      after_of_writes_sub while0Ops0_3 _ while0Ops0_3_writes (off_while0Ops0_3 b hb),
      after_of_writes_sub while0Ops0_2 _ while0Ops0_2_writes (off_while0Ops0_2 b hb),
      after_of_writes_sub while0Ops0_1 _ while0Ops0_1_writes (off_while0Ops0_1 b hb),
      after_of_writes_sub while0Ops0 _ while0Ops0_writes (off_while0Ops0 b hb),
      after_of_writes_sub condOps _ condOps_writes (off_condOps b hb), trip_arg c b hb k]

/-- and nothing after the loop does. -/
theorem final_arg (c : Dev nD) (b : Ref sig .tc) (hb : b ∈ args) :
    finalContents condOps preI bodyI postI 2048 m c (Proc.devRef .tc b) = m ((c.tc : Thread nD τ).loc b) := by
  simp only [finalContents, afterL_cons, afterL_nil]
  rw [after_of_writes_sub hostOps0_3 _ tail_writes (off_tail b hb), after_of_writes_sub condOps _ condOps_writes (off_condOps b hb)]
  exact trip_arg m c b hb 2048

/-- Every execution of the reference ends with its arguments unchanged. -/
theorem run (ρ : Dev nD → PrngReg) : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0 rfl).trans (final_arg m c main_arg0 (by decide)),
    (h c main_arg1 rfl).trans (final_arg m c main_arg1 (by decide)),
    (h c main_arg2 rfl).trans (final_arg m c main_arg2 (by decide)),
    (h c main_arg3 rfl).trans (final_arg m c main_arg3 (by decide)),
    (h c main_arg4 rfl).trans (final_arg m c main_arg4 (by decide)),
    (h c main_arg5 rfl).trans (final_arg m c main_arg5 (by decide)),
    (h c main_arg6 rfl).trans (final_arg m c main_arg6 (by decide)),
    (h c main_arg7 rfl).trans (final_arg m c main_arg7 (by decide)),
    (h c main_arg8 rfl).trans (final_arg m c main_arg8 (by decide)),
    (h c main_arg9 rfl).trans (final_arg m c main_arg9 (by decide))⟩)
    (run_fold m ρ)

end Cert.LruSeqRefFrame

end
-- ==== Proof.LruSeq.Claims.lean ====
/- The claims about the recurrence over a prompt: its frames. No value is claimed of it. -/
module

public import proofs.«01_k».proof.Defs
public import proofs.«01_k».proof.Proof.LruSeqWord.Frame
public import proofs.«01_k».proof.Proof.LruSeq.Frame
public import proofs.«01_k».proof.Proof.LruSeq.RefFrame
public import Idealize.ShloMosaic.Lib.Claim

@[expose] public section

set_option maxRecDepth 16384

noncomputable section

namespace Cert.LruSeqClaims

open Idealize.ShloMosaic Idealize.ShloMosaic.TcCoe Idealize.SL.Sem

/-- The kernel ends with its arguments and semaphores unchanged, as printed. -/
theorem frame : Cert.quiescent_LruSeq := fun m g _ => Cert.LruSeqWordFrame.frame m g

/-- The same at exact operations. -/
theorem frame_ideal : Cert.quiescent_LruSeqIdeal := fun m g _ => Cert.LruSeqFrame.frame m g

/-- The reference ends with its arguments unchanged; it declares no semaphore. -/
theorem frame_ref : Cert.quiescent_LruSeqRefIdeal := fun m g _ =>
  (θ_run Cert.LruSeqRefIdeal.defs _ _).mono (fun r h => ⟨h, sem_eq_zero_of_no_sems (by decide) r.2⟩)
    (Cert.LruSeqRefFrame.run (F := Ideal) m g)

/-- The idealized program is the printed one. -/
theorem preserves : Cert.preserves_LruSeq_LruSeqIdeal := trivial

end Cert.LruSeqClaims

end
-- ==== Proof.S5Seq.Keeps.lean ====
module

public import proofs.«01_k».proof.Proof.Gen.S5SeqIdeal.Skeleton
public import proofs.«01_k».proof.Proof.Gen.S5SeqIdeal.Frame
public import Idealize.ShloMosaic.Lib.Exec

@[expose] public section

set_option maxRecDepth 16384

noncomputable section

namespace Cert.S5SeqFrame

open Cert.S5SeqIdeal Cert.S5SeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A buffer that may be read while `P` is held: it is owned within `P` at some contents, and given back unchanged. -/
def Readable (c : Dev nD) (P : sProp 𝕄) {s : Shape} {e : EltTy} (a : Memref sig .tc .vmem s e) : Prop :=
  P ⊢ iprop(∃ X, owns (c : Thread nD τ) a fullShare X ∗ (owns (c : Thread nD τ) a fullShare X -∗ P))

/-- A buffer that may be written while `P` is held: it is owned within `P`, and given back at any contents. -/
def Writable (c : Dev nD) (P : sProp 𝕄) {s : Shape} {e : EltTy} (a : Memref sig .tc .vmem s e) : Prop :=
  P ⊢ iprop(∃ X, owns (c : Thread nD τ) a fullShare X ∗ (∀ Y, owns (c : Thread nD τ) a fullShare Y -∗ P))

/-- A piece of the body that runs without fault while `P` is held and hands `P` back, whatever it returns. -/
def Keeps (c : Dev nD) (P : sProp 𝕄) {α : Type} (p : Prog (TpuEff nD τ sig (Elt F) Λ₀ .tc) α) : Prop :=
  P ⊢ wp frame (wpE (defs₀ (F := F)) Variants.none (c : Thread nD τ) none) Set.univ p (fun _ => P)

variable {c : Dev nD} {P : sProp (MT nD τ sig Unit (Elt F) ℕ (UR sig nD τ) ℕ)}

theorem Writable.read {s : Shape} {e : EltTy} {a : Memref sig .tc .vmem s e} (h : Writable c P a) : Readable c P a := by
  unfold Writable at h; unfold Readable
  refine h.trans ?_
  iintro ⟨%X, H, K⟩
  iexists X
  isplitl [H]; · iexact H
  iintro H
  iapply K
  iexact H

/-- Returning keeps anything. -/
theorem keeps_pure {α : Type} (x : α) : Keeps (F := F) c P (pure x) := by
  unfold Keeps; rw [wp_pure]
  iintro H; imodintro; iexact H

/-- Two pieces in a row. -/
theorem keeps_bind {α β : Type} {p : Prog (TpuEff nD τ sig (Elt F) Λ₀ .tc) α} {k : α → Prog (TpuEff nD τ sig (Elt F) Λ₀ .tc) β}
    (hp : Keeps c P p) (hk : ∀ x, Keeps c P (k x)) : Keeps c P (p >>= k) := by
  unfold Keeps; rw [wp_bind]
  exact BIBase.Entails.trans hp (wp_mono _ _ _ fun x => hk x)

/-- A load from a readable buffer. -/
theorem keeps_load {s : Shape} {e : EltTy} {a : Memref sig .tc .vmem s e} (h : Readable c P a) (r : LoadRect s) (hl : a.view.LoadsAt r) :
    Keeps c P (Prog.lift (.load a r hl)) := by
  unfold Keeps
  refine BIBase.Entails.trans h ?_
  unfold owns
  iintro ⟨%X, ⟨%f, %hf, H⟩, K⟩
  iapply (wp_load Variants.none (c : Thread nD τ) none Set.univ (m := a) (a.view.setOn_subset_set _)) $$ H
  iintro H
  rw [wp_ret]; imodintro
  iapply K
  iexists f
  isplitr
  · ipureintro; exact hf
  iexact H

/-- A store to a writable buffer. -/
theorem keeps_store {s : Shape} {e : EltTy} {a : Memref sig .tc .vmem s e} (h : Writable c P a) (r : Rect s) (w : r.shape.Idx → Elt F e)
    (hx : (a.access r).Stores Finset.univ) (hm : (Finset.univ : Finset r.shape.Idx) = Finset.univ ∨ ∀ i, r.stride i = 1) :
    Keeps c P (Prog.lift (.store a r w Finset.univ hx hm)) := by
  unfold Keeps
  refine BIBase.Entails.trans h ?_
  unfold owns
  iintro ⟨%X, ⟨%f, %hf, H⟩, K⟩
  iapply (wp_store Variants.none (c : Thread nD τ) none Set.univ (m := a) (((a.view.slice r).setOn_subset_set _).trans (a.view.set_slice_subset r))) $$ H
  iintro H
  rw [wp_ret]; imodintro
  iapply K
  iexists _
  isplitr
  swap; · iexact H
  ipureintro; rfl

/-- A branch. -/
theorem keeps_dite {α : Type} {q : Prop} [Decidable q] {p : q → Prog (TpuEff nD τ sig (Elt F) Λ₀ .tc) α} {p' : ¬q → Prog (TpuEff nD τ sig (Elt F) Λ₀ .tc) α}
    (h : ∀ x, Keeps c P (p x)) (h' : ∀ x, Keeps c P (p' x)) : Keeps c P (dite q p p') := by
  by_cases hq : q
  · rw [dif_pos hq]; exact h hq
  · rw [dif_neg hq]; exact h' hq

/-- The body's thirteen buffers, as a piece of it needs them while `P` is held: the six inputs may be read, the three
    outputs and the four scratch buffers written. -/
structure Room (c : Dev nD) (P : sProp 𝕄) (arg1 : Memref sig .tc .vmem S4x2048x128 .f32) (arg2 : Memref sig .tc .vmem S8x256x256 .bf16) (arg3 : Memref sig .tc .vmem S8x128x256 .bf16) (arg4 : Memref sig .tc .vmem S8x256x128 .bf16) (arg5 : Memref sig .tc .vmem S4x2x128x128 .f32) (arg6 : Memref sig .tc .vmem S1024x2048 .f32) (arg7 : Memref sig .tc .vmem S4x2048x128 .f32) (arg8 : Memref sig .tc .vmem S8x2x64x128 .f32) (arg9 : Memref sig .tc .vmem S1024x2048 .bf16) (arg10 : Memref sig .tc .vmem S8x256x512 .bf16) (arg11 : Memref sig .tc .vmem S8x256x512 .f32) (arg12 : Memref sig .tc .vmem S512x512 .f32) (arg13 : Memref sig .tc .vmem S512x512 .f32) : Prop where
  h1 : Readable c P arg1
  h2 : Readable c P arg2
  h3 : Readable c P arg3
  h4 : Readable c P arg4
  h5 : Readable c P arg5
  h6 : Readable c P arg6
  w7 : Writable c P arg7
  w8 : Writable c P arg8
  w9 : Writable c P arg9
  w10 : Writable c P arg10
  w11 : Writable c P arg11
  w12 : Writable c P arg12
  w13 : Writable c P arg13

end Cert.S5SeqFrame

end
-- ==== Proof.S5Seq.Parts.lean ====
module

public import proofs.«01_k».proof.Proof.S5Seq.Keeps

@[expose] public section

set_option maxRecDepth 16384

noncomputable section

namespace Cert.S5SeqFrame

open Cert.S5SeqIdeal Cert.S5SeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {c : Dev nD} {P : sProp (MT nD τ sig Unit (Elt F) ℕ (UR sig nD τ) ℕ)} {i : grid0.Coords}
  {arg1 : Memref sig .tc .vmem S4x2048x128 .f32} {h1 : arg1.IsWhole}
  {arg2 : Memref sig .tc .vmem S8x256x256 .bf16} {h2 : arg2.IsWhole}
  {arg3 : Memref sig .tc .vmem S8x128x256 .bf16} {h3 : arg3.IsWhole}
  {arg4 : Memref sig .tc .vmem S8x256x128 .bf16} {h4 : arg4.IsWhole}
  {arg5 : Memref sig .tc .vmem S4x2x128x128 .f32} {h5 : arg5.IsWhole}
  {arg6 : Memref sig .tc .vmem S1024x2048 .f32} {h6 : arg6.IsWhole}
  {arg7 : Memref sig .tc .vmem S4x2048x128 .f32} {h7 : arg7.IsWhole}
  {arg8 : Memref sig .tc .vmem S8x2x64x128 .f32} {h8 : arg8.IsWhole}
  {arg9 : Memref sig .tc .vmem S1024x2048 .bf16} {h9 : arg9.IsWhole}
  {arg10 : Memref sig .tc .vmem S8x256x512 .bf16} {h10 : arg10.IsWhole}
  {arg11 : Memref sig .tc .vmem S8x256x512 .f32} {h11 : arg11.IsWhole}
  {arg12 : Memref sig .tc .vmem S512x512 .f32} {h12 : arg12.IsWhole}
  {arg13 : Memref sig .tc .vmem S512x512 .f32} {h13 : arg13.IsWhole}
variable (R : Room c P arg1 arg2 arg3 arg4 arg5 arg6 arg7 arg8 arg9 arg10 arg11 arg12 arg13)
include R

theorem part1 : Keeps c P (k0_part1 (F := F) i _ h1 _ h2 _ h3 _ h4 _ h5 _ h6 _ h7 _ h8 _ h9 _ h10 _ h11 _ h12 _ h13) := by
  cases R; intros; rw [k0_part1_eq_skeleton]; unfold k0_part1_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part2 : ∀ v29, Keeps c P (k0_part2 (F := F) i _ h1 _ h2 _ h3 _ h4 _ h5 _ h6 _ h7 _ h8 _ h9 _ h10 _ h11 _ h12 _ h13 v29) := by
  cases R; intros; rw [k0_part2_eq_skeleton]; unfold k0_part2_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part3 : ∀ v61, Keeps c P (k0_part3 (F := F) i _ h1 _ h2 _ h3 _ h4 _ h5 _ h6 _ h7 _ h8 _ h9 _ h10 _ h11 _ h12 _ h13 v61) := by
  cases R; intros; rw [k0_part3_eq_skeleton]; unfold k0_part3_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part4 : ∀ v93, Keeps c P (k0_part4 (F := F) i _ h1 _ h2 _ h3 _ h4 _ h5 _ h6 _ h7 _ h8 _ h9 _ h10 _ h11 _ h12 _ h13 v93) := by
  cases R; intros; rw [k0_part4_eq_skeleton]; unfold k0_part4_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part5 : ∀ v125, Keeps c P (k0_part5 (F := F) i _ h1 _ h2 _ h3 _ h4 _ h5 _ h6 _ h7 _ h8 _ h9 _ h10 _ h11 _ h12 _ h13 v125) := by
  cases R; intros; rw [k0_part5_eq_skeleton]; unfold k0_part5_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part6 : ∀ v157, Keeps c P (k0_part6 (F := F) i _ h1 _ h2 _ h3 _ h4 _ h5 _ h6 _ h7 _ h8 _ h9 _ h10 _ h11 _ h12 _ h13 v157) := by
  cases R; intros; rw [k0_part6_eq_skeleton]; unfold k0_part6_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part7 : ∀ v189, Keeps c P (k0_part7 (F := F) i _ h1 _ h2 _ h3 _ h4 _ h5 _ h6 _ h7 _ h8 _ h9 _ h10 _ h11 _ h12 _ h13 v189) := by
  cases R; intros; rw [k0_part7_eq_skeleton]; unfold k0_part7_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part8 : ∀ v221, Keeps c P (k0_part8 (F := F) i _ h1 _ h2 _ h3 _ h4 _ h5 _ h6 _ h7 _ h8 _ h9 _ h10 _ h11 _ h12 _ h13 v221) := by
  cases R; intros; rw [k0_part8_eq_skeleton]; unfold k0_part8_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part9 : ∀ v253, Keeps c P (k0_part9 (F := F) i _ h1 _ h2 _ h3 _ h4 _ h5 _ h6 _ h7 _ h8 _ h9 _ h10 _ h11 _ h12 _ h13 v253) := by
  cases R; intros; rw [k0_part9_eq_skeleton]; unfold k0_part9_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part10 : ∀ v285, Keeps c P (k0_part10 (F := F) i _ h1 _ h2 _ h3 _ h4 _ h5 _ h6 _ h7 _ h8 _ h9 _ h10 _ h11 _ h12 _ h13 v285) := by
  cases R; intros; rw [k0_part10_eq_skeleton]; unfold k0_part10_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part11 : ∀ v317, Keeps c P (k0_part11 (F := F) i _ h1 _ h2 _ h3 _ h4 _ h5 _ h6 _ h7 _ h8 _ h9 _ h10 _ h11 _ h12 _ h13 v317) := by
  cases R; intros; rw [k0_part11_eq_skeleton]; unfold k0_part11_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part12 : ∀ v349, Keeps c P (k0_part12 (F := F) i _ h1 _ h2 _ h3 _ h4 _ h5 _ h6 _ h7 _ h8 _ h9 _ h10 _ h11 _ h12 _ h13 v349) := by
  cases R; intros; rw [k0_part12_eq_skeleton]; unfold k0_part12_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part13 : ∀ v381, Keeps c P (k0_part13 (F := F) i _ h1 _ h2 _ h3 _ h4 _ h5 _ h6 _ h7 _ h8 _ h9 _ h10 _ h11 _ h12 _ h13 v381) := by
  cases R; intros; rw [k0_part13_eq_skeleton]; unfold k0_part13_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part14 : ∀ v413, Keeps c P (k0_part14 (F := F) i _ h1 _ h2 _ h3 _ h4 _ h5 _ h6 _ h7 _ h8 _ h9 _ h10 _ h11 _ h12 _ h13 v413) := by
  cases R; intros; rw [k0_part14_eq_skeleton]; unfold k0_part14_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part15 : ∀ v445, Keeps c P (k0_part15 (F := F) i _ h1 _ h2 _ h3 _ h4 _ h5 _ h6 _ h7 _ h8 _ h9 _ h10 _ h11 _ h12 _ h13 v445) := by
  cases R; intros; rw [k0_part15_eq_skeleton]; unfold k0_part15_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part16 : ∀ v477, Keeps c P (k0_part16 (F := F) i _ h1 _ h2 _ h3 _ h4 _ h5 _ h6 _ h7 _ h8 _ h9 _ h10 _ h11 _ h12 _ h13 v477) := by
  cases R; intros; rw [k0_part16_eq_skeleton]; unfold k0_part16_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part17 : ∀ v509, Keeps c P (k0_part17 (F := F) i _ h1 _ h2 _ h3 _ h4 _ h5 _ h6 _ h7 _ h8 _ h9 _ h10 _ h11 _ h12 _ h13 v509) := by
  cases R; intros; rw [k0_part17_eq_skeleton]; unfold k0_part17_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part18 : ∀ v540, Keeps c P (k0_part18 (F := F) i _ h1 _ h2 _ h3 _ h4 _ h5 _ h6 _ h7 _ h8 _ h9 _ h10 _ h11 _ h12 _ h13 v540) := by
  cases R; intros; rw [k0_part18_eq_skeleton]; unfold k0_part18_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part19 : ∀ v568, Keeps c P (k0_part19 (F := F) i _ h1 _ h2 _ h3 _ h4 _ h5 _ h6 _ h7 _ h8 _ h9 _ h10 _ h11 _ h12 _ h13 v568) := by
  cases R; intros; rw [k0_part19_eq_skeleton]; unfold k0_part19_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part20 : ∀ v597 v598, Keeps c P (k0_part20 (F := F) i _ h1 _ h2 _ h3 _ h4 _ h5 _ h6 _ h7 _ h8 _ h9 _ h10 _ h11 _ h12 _ h13 v597 v598) := by
  cases R; intros; rw [k0_part20_eq_skeleton]; unfold k0_part20_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part21 : ∀ v619 v621 v623 v625, Keeps c P (k0_part21 (F := F) i _ h1 _ h2 _ h3 _ h4 _ h5 _ h6 _ h7 _ h8 _ h9 _ h10 _ h11 _ h12 _ h13 v619 v621 v623 v625) := by
  cases R; intros; rw [k0_part21_eq_skeleton]; unfold k0_part21_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part22 : ∀ v619 v628 v637 v641 v646 v649 v651 v657 v658, Keeps c P (k0_part22 (F := F) i _ h1 _ h2 _ h3 _ h4 _ h5 _ h6 _ h7 _ h8 _ h9 _ h10 _ h11 _ h12 _ h13 v619 v628 v637 v641 v646 v649 v651 v657 v658) := by
  cases R; intros; rw [k0_part22_eq_skeleton]; unfold k0_part22_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part23 : ∀ v619 v628 v637 v701 v707 c8_i32, Keeps c P (k0_part23 (F := F) i _ h1 _ h2 _ h3 _ h4 _ h5 _ h6 _ h7 _ h8 _ h9 _ h10 _ h11 _ h12 _ h13 v619 v628 v637 v701 v707 c8_i32) := by
  cases R; intros; rw [k0_part23_eq_skeleton]; unfold k0_part23_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part24 : ∀ v619 v628 v637 v638 v639 v745 v751 v753 v754 v755, Keeps c P (k0_part24 (F := F) i _ h1 _ h2 _ h3 _ h4 _ h5 _ h6 _ h7 _ h8 _ h9 _ h10 _ h11 _ h12 _ h13 v619 v628 v637 v638 v639 v745 v751 v753 v754 v755) := by
  cases R; intros; rw [k0_part24_eq_skeleton]; unfold k0_part24_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part25 : ∀ v619 v628 v637 v789 v795 c1_i32_509, Keeps c P (k0_part25 (F := F) i _ h1 _ h2 _ h3 _ h4 _ h5 _ h6 _ h7 _ h8 _ h9 _ h10 _ h11 _ h12 _ h13 v619 v628 v637 v789 v795 c1_i32_509) := by
  cases R; intros; rw [k0_part25_eq_skeleton]; unfold k0_part25_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part26 : ∀ v619 v628 v637 v835 v841 v843, Keeps c P (k0_part26 (F := F) i _ h1 _ h2 _ h3 _ h4 _ h5 _ h6 _ h7 _ h8 _ h9 _ h10 _ h11 _ h12 _ h13 v619 v628 v637 v835 v841 v843) := by
  cases R; intros; rw [k0_part26_eq_skeleton]; unfold k0_part26_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part27 : ∀ v619 v628 v637 v879 v885 v887 v890 c8_i32_540, Keeps c P (k0_part27 (F := F) i _ h1 _ h2 _ h3 _ h4 _ h5 _ h6 _ h7 _ h8 _ h9 _ h10 _ h11 _ h12 _ h13 v619 v628 v637 v879 v885 v887 v890 c8_i32_540) := by
  cases R; intros; rw [k0_part27_eq_skeleton]; unfold k0_part27_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part28 : ∀ v619 v628 v637 v799 v803 v923 v929 v934 v937 v938 v939, Keeps c P (k0_part28 (F := F) i _ h1 _ h2 _ h3 _ h4 _ h5 _ h6 _ h7 _ h8 _ h9 _ h10 _ h11 _ h12 _ h13 v619 v628 v637 v799 v803 v923 v929 v934 v937 v938 v939) := by
  cases R; intros; rw [k0_part28_eq_skeleton]; unfold k0_part28_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part29 : ∀ v619 v628 v637 v973 v983 v986, Keeps c P (k0_part29 (F := F) i _ h1 _ h2 _ h3 _ h4 _ h5 _ h6 _ h7 _ h8 _ h9 _ h10 _ h11 _ h12 _ h13 v619 v628 v637 v973 v983 v986) := by
  cases R; intros; rw [k0_part29_eq_skeleton]; unfold k0_part29_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part30 : ∀ v619 v628 v637 v1013 v1019 v1021 v1024 v1025 cst_583, Keeps c P (k0_part30 (F := F) i _ h1 _ h2 _ h3 _ h4 _ h5 _ h6 _ h7 _ h8 _ h9 _ h10 _ h11 _ h12 _ h13 v619 v628 v637 v1013 v1019 v1021 v1024 v1025 cst_583) := by
  cases R; intros; rw [k0_part30_eq_skeleton]; unfold k0_part30_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part31 : ∀ v619 v628 v637 v1057 v1063 v1068 v1071 v1072 v1073 v1075, Keeps c P (k0_part31 (F := F) i _ h1 _ h2 _ h3 _ h4 _ h5 _ h6 _ h7 _ h8 _ h9 _ h10 _ h11 _ h12 _ h13 v619 v628 v637 v1057 v1063 v1068 v1071 v1072 v1073 v1075) := by
  cases R; intros; rw [k0_part31_eq_skeleton]; unfold k0_part31_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part32 : ∀ v619 v628 v637 v977 v981 v1107 v1112 v1117 v1123 v1125, Keeps c P (k0_part32 (F := F) i _ h1 _ h2 _ h3 _ h4 _ h5 _ h6 _ h7 _ h8 _ h9 _ h10 _ h11 _ h12 _ h13 v619 v628 v637 v977 v981 v1107 v1112 v1117 v1123 v1125) := by
  cases R; intros; rw [k0_part32_eq_skeleton]; unfold k0_part32_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part33 : ∀ v619 v628 v637 v1161 v1168 cst_618, Keeps c P (k0_part33 (F := F) i _ h1 _ h2 _ h3 _ h4 _ h5 _ h6 _ h7 _ h8 _ h9 _ h10 _ h11 _ h12 _ h13 v619 v628 v637 v1161 v1168 cst_618) := by
  cases R; intros; rw [k0_part33_eq_skeleton]; unfold k0_part33_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part34 : ∀ v619 v628 v637 v1191 v1197 v1202 v1205 v1206 v1207 v1209 v1211, Keeps c P (k0_part34 (F := F) i _ h1 _ h2 _ h3 _ h4 _ h5 _ h6 _ h7 _ h8 _ h9 _ h10 _ h11 _ h12 _ h13 v619 v628 v637 v1191 v1197 v1202 v1205 v1206 v1207 v1209 v1211) := by
  cases R; intros; rw [k0_part34_eq_skeleton]; unfold k0_part34_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part35 : ∀ v619 v628 v637 v1241 v1257 v1259 v1261, Keeps c P (k0_part35 (F := F) i _ h1 _ h2 _ h3 _ h4 _ h5 _ h6 _ h7 _ h8 _ h9 _ h10 _ h11 _ h12 _ h13 v619 v628 v637 v1241 v1257 v1259 v1261) := by
  cases R; intros; rw [k0_part35_eq_skeleton]; unfold k0_part35_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part36 : ∀ v619 v628 v637 v1155 v1159 v1301 v1307 v1309 c64_i32_656, Keeps c P (k0_part36 (F := F) i _ h1 _ h2 _ h3 _ h4 _ h5 _ h6 _ h7 _ h8 _ h9 _ h10 _ h11 _ h12 _ h13 v619 v628 v637 v1155 v1159 v1301 v1307 v1309 c64_i32_656) := by
  cases R; intros; rw [k0_part36_eq_skeleton]; unfold k0_part36_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part37 : ∀ v1333 v1337, Keeps c P (k0_part37 (F := F) i _ h1 _ h2 _ h3 _ h4 _ h5 _ h6 _ h7 _ h8 _ h9 _ h10 _ h11 _ h12 _ h13 v1333 v1337) := by
  cases R; intros; rw [k0_part37_eq_skeleton]; unfold k0_part37_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part38 : ∀ v1333 v1337 v1372 v1382 cst_699, Keeps c P (k0_part38 (F := F) i _ h1 _ h2 _ h3 _ h4 _ h5 _ h6 _ h7 _ h8 _ h9 _ h10 _ h11 _ h12 _ h13 v1333 v1337 v1372 v1382 cst_699) := by
  cases R; intros; rw [k0_part38_eq_skeleton]; unfold k0_part38_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part39 : ∀ v1333 v1337 v1409 v1411 v1412, Keeps c P (k0_part39 (F := F) i _ h1 _ h2 _ h3 _ h4 _ h5 _ h6 _ h7 _ h8 _ h9 _ h10 _ h11 _ h12 _ h13 v1333 v1337 v1409 v1411 v1412) := by
  cases R; intros; rw [k0_part39_eq_skeleton]; unfold k0_part39_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part40 : ∀ v1333 v1337 v1440 v1442, Keeps c P (k0_part40 (F := F) i _ h1 _ h2 _ h3 _ h4 _ h5 _ h6 _ h7 _ h8 _ h9 _ h10 _ h11 _ h12 _ h13 v1333 v1337 v1440 v1442) := by
  cases R; intros; rw [k0_part40_eq_skeleton]; unfold k0_part40_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part41 : ∀ v1333 v1337 v1474 v1475, Keeps c P (k0_part41 (F := F) i _ h1 _ h2 _ h3 _ h4 _ h5 _ h6 _ h7 _ h8 _ h9 _ h10 _ h11 _ h12 _ h13 v1333 v1337 v1474 v1475) := by
  cases R; intros; rw [k0_part41_eq_skeleton]; unfold k0_part41_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part42 : ∀ v1333 v1337, Keeps c P (k0_part42 (F := F) i _ h1 _ h2 _ h3 _ h4 _ h5 _ h6 _ h7 _ h8 _ h9 _ h10 _ h11 _ h12 _ h13 v1333 v1337) := by
  cases R; intros; rw [k0_part42_eq_skeleton]; unfold k0_part42_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part43 : ∀ v1541, Keeps c P (k0_part43 (F := F) i _ h1 _ h2 _ h3 _ h4 _ h5 _ h6 _ h7 _ h8 _ h9 _ h10 _ h11 _ h12 _ h13 v1541) := by
  cases R; intros; rw [k0_part43_eq_skeleton]; unfold k0_part43_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part44 : ∀ v1333 v1337, Keeps c P (k0_part44 (F := F) i _ h1 _ h2 _ h3 _ h4 _ h5 _ h6 _ h7 _ h8 _ h9 _ h10 _ h11 _ h12 _ h13 v1333 v1337) := by
  cases R; intros; rw [k0_part44_eq_skeleton]; unfold k0_part44_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part45 : ∀ v1333 v1337 v1594 v1604 cst_879, Keeps c P (k0_part45 (F := F) i _ h1 _ h2 _ h3 _ h4 _ h5 _ h6 _ h7 _ h8 _ h9 _ h10 _ h11 _ h12 _ h13 v1333 v1337 v1594 v1604 cst_879) := by
  cases R; intros; rw [k0_part45_eq_skeleton]; unfold k0_part45_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part46 : ∀ v1631 v1633 v1634, Keeps c P (k0_part46 (F := F) i _ h1 _ h2 _ h3 _ h4 _ h5 _ h6 _ h7 _ h8 _ h9 _ h10 _ h11 _ h12 _ h13 v1631 v1633 v1634) := by
  cases R; intros; rw [k0_part46_eq_skeleton]; unfold k0_part46_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part47 : Keeps c P (k0_part47 (F := F) i _ h1 _ h2 _ h3 _ h4 _ h5 _ h6 _ h7 _ h8 _ h9 _ h10 _ h11 _ h12 _ h13) := by
  cases R; intros; rw [k0_part47_eq_skeleton]; unfold k0_part47_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part48 : ∀ v1692, Keeps c P (k0_part48 (F := F) i _ h1 _ h2 _ h3 _ h4 _ h5 _ h6 _ h7 _ h8 _ h9 _ h10 _ h11 _ h12 _ h13 v1692) := by
  cases R; intros; rw [k0_part48_eq_skeleton]; unfold k0_part48_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part49 : ∀ v1720, Keeps c P (k0_part49 (F := F) i _ h1 _ h2 _ h3 _ h4 _ h5 _ h6 _ h7 _ h8 _ h9 _ h10 _ h11 _ h12 _ h13 v1720) := by
  cases R; intros; rw [k0_part49_eq_skeleton]; unfold k0_part49_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part50 : ∀ v1749, Keeps c P (k0_part50 (F := F) i _ h1 _ h2 _ h3 _ h4 _ h5 _ h6 _ h7 _ h8 _ h9 _ h10 _ h11 _ h12 _ h13 v1749) := by
  cases R; intros; rw [k0_part50_eq_skeleton]; unfold k0_part50_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part51 : ∀ v1776, Keeps c P (k0_part51 (F := F) i _ h1 _ h2 _ h3 _ h4 _ h5 _ h6 _ h7 _ h8 _ h9 _ h10 _ h11 _ h12 _ h13 v1776) := by
  cases R; intros; rw [k0_part51_eq_skeleton]; unfold k0_part51_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part52 : Keeps c P (k0_part52 (F := F) i _ h1 _ h2 _ h3 _ h4 _ h5 _ h6 _ h7 _ h8 _ h9 _ h10 _ h11 _ h12 _ h13) := by
  cases R; intros; rw [k0_part52_eq_skeleton]; unfold k0_part52_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part53 : ∀ v1830 v1831, Keeps c P (k0_part53 (F := F) i _ h1 _ h2 _ h3 _ h4 _ h5 _ h6 _ h7 _ h8 _ h9 _ h10 _ h11 _ h12 _ h13 v1830 v1831) := by
  cases R; intros; rw [k0_part53_eq_skeleton]; unfold k0_part53_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part54 : ∀ v1859, Keeps c P (k0_part54 (F := F) i _ h1 _ h2 _ h3 _ h4 _ h5 _ h6 _ h7 _ h8 _ h9 _ h10 _ h11 _ h12 _ h13 v1859) := by
  cases R; intros; rw [k0_part54_eq_skeleton]; unfold k0_part54_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part55 : Keeps c P (k0_part55 (F := F) i _ h1 _ h2 _ h3 _ h4 _ h5 _ h6 _ h7 _ h8 _ h9 _ h10 _ h11 _ h12 _ h13) := by
  cases R; intros; rw [k0_part55_eq_skeleton]; unfold k0_part55_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part56 : ∀ v1914, Keeps c P (k0_part56 (F := F) i _ h1 _ h2 _ h3 _ h4 _ h5 _ h6 _ h7 _ h8 _ h9 _ h10 _ h11 _ h12 _ h13 v1914) := by
  cases R; intros; rw [k0_part56_eq_skeleton]; unfold k0_part56_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part57 : Keeps c P (k0_part57 (F := F) i _ h1 _ h2 _ h3 _ h4 _ h5 _ h6 _ h7 _ h8 _ h9 _ h10 _ h11 _ h12 _ h13) := by
  cases R; intros; rw [k0_part57_eq_skeleton]; unfold k0_part57_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part58 : ∀ v1968, Keeps c P (k0_part58 (F := F) i _ h1 _ h2 _ h3 _ h4 _ h5 _ h6 _ h7 _ h8 _ h9 _ h10 _ h11 _ h12 _ h13 v1968) := by
  cases R; intros; rw [k0_part58_eq_skeleton]; unfold k0_part58_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

theorem part59 : ∀ v1998, Keeps c P (k0_part59 (F := F) i _ h1 _ h2 _ h3 _ h4 _ h5 _ h6 _ h7 _ h8 _ h9 _ h10 _ h11 _ h12 _ h13 v1998) := by
  cases R; intros; rw [k0_part59_eq_skeleton]; unfold k0_part59_skel
  with_reducible repeat' first
    | refine keeps_bind ?_ fun _ => ?_
    | exact keeps_load (by assumption) _ _
    | exact keeps_load (Writable.read (by assumption)) _ _
    | exact keeps_store (by assumption) _ _ _ _
    | exact keeps_pure _
    | dsimp only

end Cert.S5SeqFrame

end
-- ==== Proof.S5Seq.Body.lean ====
module

public import proofs.«01_k».proof.Proof.S5Seq.Parts

@[expose] public section

set_option maxRecDepth 16384

noncomputable section

namespace Cert.S5SeqFrame

open Cert.S5SeqIdeal Cert.S5SeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {c : Dev nD} {P : sProp (MT nD τ sig Unit (Elt F) ℕ (UR sig nD τ) ℕ)} {i : grid0.Coords}
  {arg1 : Memref sig .tc .vmem S4x2048x128 .f32} {harg1 : arg1.IsWhole}
  {arg2 : Memref sig .tc .vmem S8x256x256 .bf16} {harg2 : arg2.IsWhole}
  {arg3 : Memref sig .tc .vmem S8x128x256 .bf16} {harg3 : arg3.IsWhole}
  {arg4 : Memref sig .tc .vmem S8x256x128 .bf16} {harg4 : arg4.IsWhole}
  {arg5 : Memref sig .tc .vmem S4x2x128x128 .f32} {harg5 : arg5.IsWhole}
  {arg6 : Memref sig .tc .vmem S1024x2048 .f32} {harg6 : arg6.IsWhole}
  {arg7 : Memref sig .tc .vmem S4x2048x128 .f32} {harg7 : arg7.IsWhole}
  {arg8 : Memref sig .tc .vmem S8x2x64x128 .f32} {harg8 : arg8.IsWhole}
  {arg9 : Memref sig .tc .vmem S1024x2048 .bf16} {harg9 : arg9.IsWhole}
  {arg10 : Memref sig .tc .vmem S8x256x512 .bf16} {harg10 : arg10.IsWhole}
  {arg11 : Memref sig .tc .vmem S8x256x512 .f32} {harg11 : arg11.IsWhole}
  {arg12 : Memref sig .tc .vmem S512x512 .f32} {harg12 : arg12.IsWhole}
  {arg13 : Memref sig .tc .vmem S512x512 .f32} {harg13 : arg13.IsWhole}

/-- The body up to its last store. -/
theorem part60 (R : Room c P arg1 arg2 arg3 arg4 arg5 arg6 arg7 arg8 arg9 arg10 arg11 arg12 arg13) : Keeps c P (k0_part60 (F := F) i arg1 harg1 arg2 harg2 arg3 harg3 arg4 harg4 arg5 harg5 arg6 harg6 arg7 harg7 arg8 harg8 arg9 harg9 arg10 harg10 arg11 harg11 arg12 harg12 arg13 harg13) := by
  rw [k0_part60_eq_skeleton]; unfold k0_part60_skel
  repeat' first
    | with_reducible refine keeps_bind ?_ fun _ => ?_
    | with_reducible exact part1 R
    | with_reducible exact part2 R _
    | with_reducible exact part3 R _
    | with_reducible exact part4 R _
    | with_reducible exact part5 R _
    | with_reducible exact part6 R _
    | with_reducible exact part7 R _
    | with_reducible exact part8 R _
    | with_reducible exact part9 R _
    | with_reducible exact part10 R _
    | with_reducible exact part11 R _
    | with_reducible exact part12 R _
    | with_reducible exact part13 R _
    | with_reducible exact part14 R _
    | with_reducible exact part15 R _
    | with_reducible exact part16 R _
    | with_reducible exact part17 R _
    | with_reducible exact part18 R _
    | with_reducible exact part19 R _
    | with_reducible exact part20 R _ _
    | with_reducible exact part21 R _ _ _ _
    | with_reducible exact part22 R _ _ _ _ _ _ _ _ _
    | with_reducible exact part23 R _ _ _ _ _ _
    | with_reducible exact part24 R _ _ _ _ _ _ _ _ _ _
    | with_reducible exact part25 R _ _ _ _ _ _
    | with_reducible exact part26 R _ _ _ _ _ _
    | with_reducible exact part27 R _ _ _ _ _ _ _ _
    | with_reducible exact part28 R _ _ _ _ _ _ _ _ _ _ _
    | with_reducible exact part29 R _ _ _ _ _ _
    | with_reducible exact part30 R _ _ _ _ _ _ _ _ _
    | with_reducible exact part31 R _ _ _ _ _ _ _ _ _ _
    | with_reducible exact part32 R _ _ _ _ _ _ _ _ _ _
    | with_reducible exact part33 R _ _ _ _ _ _
    | with_reducible exact part34 R _ _ _ _ _ _ _ _ _ _ _
    | with_reducible exact part35 R _ _ _ _ _ _ _
    | with_reducible exact part36 R _ _ _ _ _ _ _ _ _
    | with_reducible exact part37 R _ _
    | with_reducible exact part38 R _ _ _ _ _
    | with_reducible exact part39 R _ _ _ _ _
    | with_reducible exact part40 R _ _ _ _
    | with_reducible exact part41 R _ _ _ _
    | with_reducible exact part42 R _ _
    | with_reducible exact part43 R _
    | with_reducible exact part44 R _ _
    | with_reducible exact part45 R _ _ _ _ _
    | with_reducible exact part46 R _ _ _
    | with_reducible exact part47 R
    | with_reducible exact part48 R _
    | with_reducible exact part49 R _
    | with_reducible exact part50 R _
    | with_reducible exact part51 R _
    | with_reducible exact part52 R
    | with_reducible exact part53 R _ _
    | with_reducible exact part54 R _
    | with_reducible exact part55 R
    | with_reducible exact part56 R _
    | with_reducible exact part57 R
    | with_reducible exact part58 R _
    | with_reducible exact part59 R _
    | with_reducible exact keeps_pure _
    | dsimp only

/-- The body keeps what it is called with: the inputs as they were, the outputs and the scratch at some contents. -/
theorem body (R : Room c P arg1 arg2 arg3 arg4 arg5 arg6 arg7 arg8 arg9 arg10 arg11 arg12 arg13) : Keeps c P (cc0_s5_seq (F := F) i arg1 harg1 arg2 harg2 arg3 harg3 arg4 harg4 arg5 harg5 arg6 harg6 arg7 harg7 arg8 harg8 arg9 harg9 arg10 harg10 arg11 harg11 arg12 harg12 arg13 harg13) := by
  rw [cc0_s5_seq_eq_skeleton]; unfold cc0_s5_seq_skel
  repeat' first
    | with_reducible refine keeps_bind ?_ fun _ => ?_
    | with_reducible exact part60 R
    | with_reducible exact keeps_load R.w11.read _ _
    | with_reducible exact keeps_load R.w7.read _ _
    | with_reducible exact keeps_store R.w7 _ _ _ _
    | with_reducible exact keeps_pure _
    | dsimp only

end Cert.S5SeqFrame

end
-- ==== Proof.S5Seq.Frame.lean ====
module

public import proofs.«01_k».proof.Proof.S5Seq.Body
public import Idealize.ShloMosaic.Lib.Claim

@[expose] public section

set_option maxRecDepth 16384

noncomputable section

namespace Cert.S5SeqFrame

open Cert.S5SeqIdeal Cert.S5SeqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer owned at fixed contents may be read. -/
theorem readable_self {c : Dev nD} {s : Shape} {e : EltTy} (a : Memref sig .tc .vmem s e) (X : s.Idx → Elt F e) :
    Readable c (owns (c : Thread nD τ) a fullShare X : sProp 𝕄) a := by
  unfold Readable
  iintro H
  iexists X
  isplitl [H]; · iexact H
  iintro H; iexact H

/-- A buffer owned at some contents may be written. -/
theorem writable_self {c : Dev nD} {s : Shape} {e : EltTy} (a : Memref sig .tc .vmem s e) :
    Writable c (iprop(∃ X, owns (c : Thread nD τ) a fullShare X) : sProp 𝕄) a := by
  unfold Writable
  iintro ⟨%X, H⟩
  iexists X
  isplitl [H]; · iexact H
  iintro %Y H
  iexists Y; iexact H

section
variable {c : Dev nD} {P Q : sProp (MT nD τ sig Unit (Elt F) ℕ (UR sig nD τ) ℕ)} {s : Shape} {e : EltTy} {a : Memref sig .tc .vmem s e}

/-- What may be read in one conjunct may be read in the conjunction, -/
theorem Readable.fst (h : Readable c P a) : Readable c (iprop(P ∗ Q)) a := by
  unfold Readable at *
  refine BIBase.Entails.trans (show iprop(P ∗ Q) ⊢ iprop((∃ X, owns (c : Thread nD τ) a fullShare X ∗ (owns (c : Thread nD τ) a fullShare X -∗ P)) ∗ Q) from sep_mono_l h) ?_
  iintro ⟨⟨%X, H, K⟩, HQ⟩
  iexists X
  isplitl [H]; · iexact H
  iintro H
  isplitl [H K]
  · iapply K; iexact H
  iexact HQ

/-- on either side, -/
theorem Readable.snd (h : Readable c Q a) : Readable c (iprop(P ∗ Q)) a := by
  unfold Readable at *
  refine BIBase.Entails.trans (show iprop(P ∗ Q) ⊢ iprop(P ∗ (∃ X, owns (c : Thread nD τ) a fullShare X ∗ (owns (c : Thread nD τ) a fullShare X -∗ Q))) from sep_mono_r h) ?_
  iintro ⟨HP, ⟨%X, H, K⟩⟩
  iexists X
  isplitl [H]; · iexact H
  iintro H
  isplitl [HP]; · iexact HP
  iapply K; iexact H

/-- and so for writing, -/
theorem Writable.fst (h : Writable c P a) : Writable c (iprop(P ∗ Q)) a := by
  unfold Writable at *
  refine BIBase.Entails.trans (show iprop(P ∗ Q) ⊢ iprop((∃ X, owns (c : Thread nD τ) a fullShare X ∗ (∀ Y, owns (c : Thread nD τ) a fullShare Y -∗ P)) ∗ Q) from sep_mono_l h) ?_
  iintro ⟨⟨%X, H, K⟩, HQ⟩
  iexists X
  isplitl [H]; · iexact H
  iintro %Y H
  isplitl [H K]
  · iapply K; iexact H
  iexact HQ

/-- on either side. -/
theorem Writable.snd (h : Writable c Q a) : Writable c (iprop(P ∗ Q)) a := by
  unfold Writable at *
  refine BIBase.Entails.trans (show iprop(P ∗ Q) ⊢ iprop(P ∗ (∃ X, owns (c : Thread nD τ) a fullShare X ∗ (∀ Y, owns (c : Thread nD τ) a fullShare Y -∗ Q))) from sep_mono_r h) ?_
  iintro ⟨HP, ⟨%X, H, K⟩⟩
  iexists X
  isplitl [H]; · iexact H
  iintro %Y H
  isplitl [HP]; · iexact HP
  iapply K; iexact H

end

/-- The proof data: every input's tile holds its block after each point, and nothing is said of the three outputs, which
    are the windows from 6 on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (Val := Elt F) []
    | ⟨7, _⟩ => View.canon (Val := Elt F) []
    | ⟨8, _⟩ => View.canon (Val := Elt F) []
    | ⟨_ + 9, h⟩ => absurd h (Nat.not_lt.2 (Nat.le_add_left _ _))
  Φ _ := Pipeline.ΦA spec0 c
  q _ := fullShare
  owed _ := 0

/-- The windows whose contents are not tracked: the outputs. -/
def forgotten (w : Fin cfg0.W) : Bool := decide (6 ≤ w.val)

/-- The data's arrays are the region's. -/
theorem A_eq (c : Dev nD) (w : Fin cfg0.W) : (dats m 0 c).A w = V m c (Pipeline.arrRef spec0 w) := by
  dsimp only [dats]

/-- Each input tile holds its block after a point, and so before the next. -/
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d

/-- The region holds its four scratch buffers at some contents, and the generator register. -/
theorem region_eq (c : Dev nD) :
    (Pipeline.ΦA spec0 c : sProp 𝕄)
      = iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d))) ∗ (∃ r, prngReg c r)) := by
  unfold Pipeline.ΦA; rw [scopedRest0_eq]; simp only [owns_whole]; try rfl

/-- What a point holds, before and after: the scratch at some contents, the register, what the core owes, each input
    tile at its block and each output tile at some contents. -/
def held (c : Dev nD) (t : Fin cfg0.N) : sProp 𝕄 :=
  iprop(((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d))) ∗ (∃ r, prngReg c r))
    ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- The body finds in it every buffer it reads or writes. -/
theorem room (c : Dev nD) (t : Fin cfg0.N) : Room c (held m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (Memref.whole cc0_scratch0) (Memref.whole cc0_scratch1) (Memref.whole cc0_scratch2) (Memref.whole cc0_scratch3) where
  h1 := (readable_self _ _).fst.snd.snd
  h2 := (readable_self _ _).fst.snd.snd.snd
  h3 := (readable_self _ _).fst.snd.snd.snd.snd
  h4 := (readable_self _ _).fst.snd.snd.snd.snd.snd
  h5 := (readable_self _ _).fst.snd.snd.snd.snd.snd.snd
  h6 := (readable_self _ _).fst.snd.snd.snd.snd.snd.snd.snd
  w7 := (writable_self _).fst.snd.snd.snd.snd.snd.snd.snd.snd
  w8 := (writable_self _).fst.snd.snd.snd.snd.snd.snd.snd.snd.snd
  w9 := (writable_self _).snd.snd.snd.snd.snd.snd.snd.snd.snd.snd
  w10 := (writable_self _).fst.fst.fst
  w11 := (writable_self _).fst.snd.fst.fst
  w12 := (writable_self _).fst.snd.snd.fst.fst
  w13 := (writable_self _).snd.snd.snd.fst.fst

/-- The body at any point runs without fault and hands back what it was given. -/
theorem body_at (c : Dev nD) (t : Fin cfg0.N) :
    held m c t ⊢ wp frame (wpE (defs₀ (F := F)) Variants.none c none) Set.univ (bodyAt0 t) (fun _ => held m c t) :=
  body (room m c t)

/-- The pipeline calls the body as `bodyAt0` spells it. -/
theorem call_eq (t : Fin cfg0.N) : defs₀ (F := F) .tc cfg0.body (cfg0.bodyArgs t (cfg0.slots t)) = bodyAt0 t := by
  unfold defs₀; rw [Defs.onTc_tc]

/-- What the pipeline hands the body, window by window, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- and what it asks back. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- The first gives what a point holds, -/
theorem pre_held (c : Dev nD) (t : Fin cfg0.N) : pre m c t ⊢ held m c t := by
  unfold pre held
  rw [show (dats m 0 c).Φ t.castSucc = Pipeline.ΦA spec0 c from rfl, region_eq]
  simp only [before0, before1, before2, before3, before4, before5]
  iintro ⟨HS, Ho, ⟨%d0, H0⟩, ⟨%d1, H1⟩, ⟨%d2, H2⟩, ⟨%d3, H3⟩, ⟨%d4, H4⟩, ⟨%d5, H5⟩, H6, H7, H8⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- and that the second. -/
theorem held_post (c : Dev nD) (t : Fin cfg0.N) : held m c t ⊢ post m c t := by
  unfold post held
  rw [show (dats m 0 c).Φ t.succ = Pipeline.ΦA spec0 c from rfl, region_eq]
  simp only [after0, after1, after2, after3, after4, after5]
  exact .rfl

/-- The pipeline's obligation on the body holds, the outputs' contents left open. -/
theorem obligation (c : Dev nD) : BodyObligationLoose (dats (F := F) m 0 c) (defs₀ (F := F)) Variants.none () Set.univ forgotten := fun t => by
  rw [bigSep_W0, bigSep_W0, call_eq]
  exact triple_restated (body_at m c t) rfl (pre_held m c t) fun _ => held_post m c t

set_option backward.isDefEq.respectTransparency.types false in
/-- Every execution ends, with the inputs' arrays and the other buffers as the region found them and every counter at zero. -/
theorem run_quiescent : θ_run defs (onTc (τ := τ) (main (F := F))) (s₀ m ρ) (fun r =>
    (Pipeline.RDat.FramePost cfg0 (fun c => (dats m 0 c).toRForget forgotten) (V m)) r ∧ r.2.sem = fun _ => 0) :=
  Pipeline.θ_run_frame_forget (Q' := _) cfgs (dats m) (0 : Fin 1) launch0 defs₀ Variants.none forgotten m ρ main
    (hbody := obligation m) (hshare := fun c => (dats m 0 c).share_full fun _ => rfl) (howed := fun _ _ => rfl) (V := V m) (hmain := hmain m Variants.none)
    (hA := A_eq m) (hΦ := fun _ _ => rfl)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
    (h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1.arr_in c 4 rfl).trans ((A_eq m c 4).trans (V_main_arg4 m c)),
    (h.1.arr_in c 5 rfl).trans ((A_eq m c 5).trans (V_main_arg5 m c))⟩, h.2⟩) (run_quiescent m ρ)

end Cert.S5SeqFrame

end
-- ==== Proof.S5Seq.Claims.lean ====
/- The claims about the state-space recurrence over a prompt: its frames. No value is claimed of it. -/
module

public import proofs.«01_k».proof.Defs
public import proofs.«01_k».proof.Proof.S5SeqWord.Frame
public import proofs.«01_k».proof.Proof.S5Seq.Frame
public import Idealize.ShloMosaic.Lib.Claim

@[expose] public section

set_option maxRecDepth 16384

noncomputable section

namespace Cert.S5SeqClaims

open Idealize.ShloMosaic Idealize.ShloMosaic.TcCoe Idealize.SL.Sem

/-- The kernel ends with its arguments and semaphores unchanged, as printed. -/
theorem frame : Cert.quiescent_S5Seq := fun m g _ => Cert.S5SeqWordFrame.frame m g

/-- The same at exact operations. -/
theorem frame_ideal : Cert.quiescent_S5SeqIdeal := fun m g _ => Cert.S5SeqFrame.frame m g

/-- The idealized program is the printed one. -/
theorem preserves : Cert.preserves_S5Seq_S5SeqIdeal := trivial

end Cert.S5SeqClaims

end
-- ==== Proof.S5Params.Claims.lean ====
/- The claims about the state-space parameters: its frames. No value is claimed of it. -/
module

public import proofs.«01_k».proof.Defs
public import proofs.«01_k».proof.Proof.Gen.S5Params.Frame
public import proofs.«01_k».proof.Proof.Gen.S5ParamsIdeal.Frame
public import Idealize.ShloMosaic.Lib.Claim

@[expose] public section

set_option maxRecDepth 16384

noncomputable section

namespace Cert.S5ParamsClaims

open Idealize.ShloMosaic Idealize.ShloMosaic.TcCoe Idealize.SL.Sem

/-- The kernel ends with its arguments and semaphores unchanged, as printed. -/
theorem frame : Cert.quiescent_S5Params := fun m g _ => Cert.S5Params.Gen.frame m g

/-- The same at exact operations. -/
theorem frame_ideal : Cert.quiescent_S5ParamsIdeal := fun m g _ => Cert.S5ParamsIdeal.Gen.frame m g

/-- The idealized program is the printed one. -/
theorem preserves : Cert.preserves_S5Params_S5ParamsIdeal := trivial

end Cert.S5ParamsClaims

end
-- ==== Proof.LruStep.Ref.lean ====
/- The single step's reference results as terms over its argument arrays, stage by stage. -/
module

public import proofs.«01_k».proof.Proof.Gen.LruStepRefIdeal.Run
public import Idealize.ShloMosaic.Lib.Pipeline.ValueKit

@[expose] public section

set_option maxRecDepth 16384

noncomputable section

namespace Cert.LruStepRefIdeal.Value

open Cert.LruStepRefIdeal Cert.LruStepRefIdeal.Gen Idealize.ShloMosaic Idealize.ShloMosaic.TcCoe Idealize.SL.Sem Idealize.ShloMosaic.StableHlo

/-- Each row with its four taps convolved. -/
def RC (z : FVec Ideal S128x3072 .f32) (c0 : FVec Ideal S128x3x1024 .f32) (w : FVec Ideal S4x1024 .f32) (b : FVec Ideal S1024 .f32) : FVec Ideal S128x1x1024 .f32 :=
  addf (broadcastInDim S128x1x1024 ![0, 1, 2] bcast_S1x1x1024_S128x1x1024_0_1_2 (broadcastInDim S1x1x1024 ![2] bcast_S1024_S1x1x1024_2 b)) (addf (addf (addf (addf (broadcastInDim S128x1x1024 ![] bcast_S_S128x1x1024 (constant S_ .f32 0x00000000#32)) (mulf (extractStridedSlice S128x1x1024 ![0, 0, 0] (concatenate S128x4x1024 1 [⟨S128x3x1024, c0⟩, ⟨S128x1x1024, (broadcastInDim S128x1x1024 ![0, 2] bcast_S128x1024_S128x1x1024_0_2 (extractStridedSlice S128x1024 ![0, 1024] z slices_S128x3072_S128x1024_0_1024))⟩] concatenates_S128x3x1024_S128x1x1024_S128x4x1024_d1) slices_S128x4x1024_S128x1x1024_0_0_0) (broadcastInDim S128x1x1024 ![0, 1, 2] bcast_S1x1x1024_S128x1x1024_0_1_2 (broadcastInDim S1x1x1024 ![2] bcast_S1024_S1x1x1024_2 (shapeCast _ (extractStridedSlice S1x1024 ![0, 0] w slices_S4x1024_S1x1024_0_0) shapeCasts_S1x1024_S1024))))) (mulf (extractStridedSlice S128x1x1024 ![0, 1, 0] (concatenate S128x4x1024 1 [⟨S128x3x1024, c0⟩, ⟨S128x1x1024, (broadcastInDim S128x1x1024 ![0, 2] bcast_S128x1024_S128x1x1024_0_2 (extractStridedSlice S128x1024 ![0, 1024] z slices_S128x3072_S128x1024_0_1024))⟩] concatenates_S128x3x1024_S128x1x1024_S128x4x1024_d1) slices_S128x4x1024_S128x1x1024_0_1_0) (broadcastInDim S128x1x1024 ![0, 1, 2] bcast_S1x1x1024_S128x1x1024_0_1_2 (broadcastInDim S1x1x1024 ![2] bcast_S1024_S1x1x1024_2 (shapeCast _ (extractStridedSlice S1x1024 ![1, 0] w slices_S4x1024_S1x1024_1_0) shapeCasts_S1x1024_S1024))))) (mulf (extractStridedSlice S128x1x1024 ![0, 2, 0] (concatenate S128x4x1024 1 [⟨S128x3x1024, c0⟩, ⟨S128x1x1024, (broadcastInDim S128x1x1024 ![0, 2] bcast_S128x1024_S128x1x1024_0_2 (extractStridedSlice S128x1024 ![0, 1024] z slices_S128x3072_S128x1024_0_1024))⟩] concatenates_S128x3x1024_S128x1x1024_S128x4x1024_d1) slices_S128x4x1024_S128x1x1024_0_2_0) (broadcastInDim S128x1x1024 ![0, 1, 2] bcast_S1x1x1024_S128x1x1024_0_1_2 (broadcastInDim S1x1x1024 ![2] bcast_S1024_S1x1x1024_2 (shapeCast _ (extractStridedSlice S1x1024 ![2, 0] w slices_S4x1024_S1x1024_2_0) shapeCasts_S1x1024_S1024))))) (mulf (extractStridedSlice S128x1x1024 ![0, 3, 0] (concatenate S128x4x1024 1 [⟨S128x3x1024, c0⟩, ⟨S128x1x1024, (broadcastInDim S128x1x1024 ![0, 2] bcast_S128x1024_S128x1x1024_0_2 (extractStridedSlice S128x1024 ![0, 1024] z slices_S128x3072_S128x1024_0_1024))⟩] concatenates_S128x3x1024_S128x1x1024_S128x4x1024_d1) slices_S128x4x1024_S128x1x1024_0_3_0) (broadcastInDim S128x1x1024 ![0, 1, 2] bcast_S1x1x1024_S128x1x1024_0_1_2 (broadcastInDim S1x1x1024 ![2] bcast_S1024_S1x1x1024_2 (shapeCast _ (extractStridedSlice S1x1024 ![3, 0] w slices_S4x1024_S1x1024_3_0) shapeCasts_S1x1024_S1024)))))

/-- A gate: the sigmoid of the rows' block-diagonal product with a bias. -/
def RG (x : FVec Ideal S128x1x1024 .f32) (w : FVec Ideal S4x256x256 .f32) (b : FVec Ideal S1024 .f32) : FVec Ideal S128x1x1024 .f32 :=
  Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (addf (shapeCast _ (transpose S128x1x4x256 [2, 3, 0, 1] (Host.dotGeneral dot_S4x256x256_S128x1x4x256_S4x256x128x1_1_3_2_01_0_2 none w (shapeCast _ x shapeCasts_S128x1x1024_S128x1x4x256)) transposes_S4x256x128x1_S128x1x4x256_2_3_0_1) shapeCasts_S128x1x4x256_S128x1x1024) (broadcastInDim S128x1x1024 ![0, 1, 2] bcast_S1x1x1024_S128x1x1024_0_1_2 (broadcastInDim S1x1x1024 ![2] bcast_S1024_S1x1x1024_2 b))))))

/-- The logarithm of the decay. -/
def RL (r : FVec Ideal S128x1x1024 .f32) (lam : FVec Ideal S1024 .f32) : FVec Ideal S128x1x1024 .f32 :=
  mulf (mulf (broadcastInDim S128x1x1024 ![] bcast_S_S128x1x1024 (constant S_ .f32 0xC1000000#32)) r) (broadcastInDim S128x1x1024 ![0, 1, 2] bcast_S1x1x1024_S128x1x1024_0_1_2 (broadcastInDim S1x1x1024 ![2] bcast_S1024_S1x1x1024_2 (select (cmpf .une (subf (Host.negf lam) (broadcastInDim S1024 ![] bcast_S_S1024 (constant S_ .f32 0x00000000#32))) (subf (Host.negf lam) (broadcastInDim S1024 ![] bcast_S_S1024 (constant S_ .f32 0x00000000#32)))) (addf (Host.negf lam) (broadcastInDim S1024 ![] bcast_S_S1024 (constant S_ .f32 0x00000000#32))) (addf (maximumf (Host.negf lam) (broadcastInDim S1024 ![] bcast_S_S1024 (constant S_ .f32 0x00000000#32))) (Host.log1p (Host.exp (Host.negf (Host.absf (subf (Host.negf lam) (broadcastInDim S1024 ![] bcast_S_S1024 (constant S_ .f32 0x00000000#32)))))))))))

/-- The new states. -/
def RH (x l i : FVec Ideal S128x1x1024 .f32) (s : FVec Ideal S128x1024 .f32) : FVec Ideal S128x1x1024 .f32 :=
  addf (mulf (Host.exp l) (broadcastInDim S128x1x1024 ![0, 2] bcast_S128x1024_S128x1x1024_0_2 s)) (mulf (Host.sqrt (Host.negf (Host.expm1 (mulf (broadcastInDim S128x1x1024 ![] bcast_S_S128x1x1024 (constant S_ .f32 0x40000000#32)) l)))) (mulf i x))

/-- The gated states. -/
def RO (z : FVec Ideal S128x3072 .f32) (h : FVec Ideal S128x1x1024 .f32) : FVec Ideal S128x1x1024 .f32 :=
  mulf h (mulf (broadcastInDim S128x1x1024 ![0, 2] bcast_S128x1024_S128x1x1024_0_2 (extractStridedSlice S128x1024 ![0, 2048] z slices_S128x3072_S128x1024_0_2048)) (mulf (broadcastInDim S128x1x1024 ![] bcast_S_S128x1x1024 (constant S_ .f32 0x3F000000#32)) (addf (broadcastInDim S128x1x1024 ![] bcast_S_S128x1x1024 (constant S_ .f32 0x3F800000#32)) (Host.tanh (mulf (broadcastInDim S128x1x1024 ![] bcast_S_S128x1x1024 (constant S_ .f32 0x3F4C422A#32)) (addf (broadcastInDim S128x1x1024 ![0, 2] bcast_S128x1024_S128x1x1024_0_2 (extractStridedSlice S128x1024 ![0, 2048] z slices_S128x3072_S128x1024_0_2048)) (mulf (broadcastInDim S128x1x1024 ![] bcast_S_S128x1x1024 (constant S_ .f32 0x3D372713#32)) (mulf (mulf (broadcastInDim S128x1x1024 ![0, 2] bcast_S128x1024_S128x1x1024_0_2 (extractStridedSlice S128x1024 ![0, 2048] z slices_S128x3072_S128x1024_0_2048)) (broadcastInDim S128x1x1024 ![0, 2] bcast_S128x1024_S128x1x1024_0_2 (extractStridedSlice S128x1024 ![0, 2048] z slices_S128x3072_S128x1024_0_2048))) (broadcastInDim S128x1x1024 ![0, 2] bcast_S128x1024_S128x1x1024_0_2 (extractStridedSlice S128x1024 ![0, 2048] z slices_S128x3072_S128x1024_0_2048))))))))))

/-- The normalised rows. -/
def RN (y : FVec Ideal S128x1x1024 .f32) (g : FVec Ideal S1024 .f32) : FVec Ideal S128x1024 .bf16 :=
  truncf .bf16 (shapeCast _ (mulf (mulf y (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf y y) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))) shapeCasts_S128x1x1024_S128x1024) bitsLt_bf16_f32

/-- The new states, from the arguments. -/
def RS (z : FVec Ideal S128x3072 .f32) (c0 : FVec Ideal S128x3x1024 .f32) (s : FVec Ideal S128x1024 .f32) (w : FVec Ideal S4x1024 .f32) (b : FVec Ideal S1024 .f32) (wa : FVec Ideal S4x256x256 .f32) (ba : FVec Ideal S1024 .f32) (wi : FVec Ideal S4x256x256 .f32) (bi lam : FVec Ideal S1024 .f32) : FVec Ideal S128x1x1024 .f32 :=
  RH (RC z c0 w b) (RL (RG (RC z c0 w b) wa ba) lam) (RG (RC z c0 w b) wi bi) s

/-- The reference's second result. -/
def REFH (z : FVec Ideal S128x3072 .f32) (c0 : FVec Ideal S128x3x1024 .f32) (s : FVec Ideal S128x1024 .f32) (w : FVec Ideal S4x1024 .f32) (b : FVec Ideal S1024 .f32) (wa : FVec Ideal S4x256x256 .f32) (ba : FVec Ideal S1024 .f32) (wi : FVec Ideal S4x256x256 .f32) (bi lam : FVec Ideal S1024 .f32) : FVec Ideal S128x1024 .f32 :=
  shapeCast _ (RS z c0 s w b wa ba wi bi lam) shapeCasts_S128x1x1024_S128x1024

/-- The reference's first result. -/
def REFO (z : FVec Ideal S128x3072 .f32) (c0 : FVec Ideal S128x3x1024 .f32) (s : FVec Ideal S128x1024 .f32) (w : FVec Ideal S4x1024 .f32) (b : FVec Ideal S1024 .f32) (wa : FVec Ideal S4x256x256 .f32) (ba : FVec Ideal S1024 .f32) (wi : FVec Ideal S4x256x256 .f32) (bi lam : FVec Ideal S1024 .f32) (g : FVec Ideal S1024 .f32) : FVec Ideal S128x1024 .bf16 :=
  RN (RO z (RS z c0 s w b wa ba wi bi lam)) g

/-- The reference's third result. -/
def REFC (z : FVec Ideal S128x3072 .f32) (c0 : FVec Ideal S128x3x1024 .f32) : FVec Ideal S128x3072 .f32 :=
  shapeCast _ (extractStridedSlice S128x3x1024 ![0, 1, 0] (concatenate S128x4x1024 1 [⟨S128x3x1024, c0⟩, ⟨S128x1x1024, (broadcastInDim S128x1x1024 ![0, 2] bcast_S128x1024_S128x1x1024_0_2 (extractStridedSlice S128x1024 ![0, 1024] z slices_S128x3072_S128x1024_0_1024))⟩] concatenates_S128x3x1024_S128x1x1024_S128x4x1024_d1) slices_S128x4x1024_S128x3x1024_0_1_0) shapeCasts_S128x3x1024_S128x3072

theorem res_state (m : (ℓ : Loc nD τ sig) → Buf (Elt Ideal) ℓ) (c : Dev nD) : res_main_v110 m c = REFH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

theorem res_out (m : (ℓ : Loc nD τ sig) → Buf (Elt Ideal) ℓ) (c : Dev nD) : res_main_v109 m c = REFO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

end Cert.LruStepRefIdeal.Value

end
-- ==== Proof.LruStep.Heads.lean ====
/- The single step's gates, head by head: each payload read at an index. -/
module

public import proofs.«01_k».proof.Proof.Gen.LruStepIdeal.Frame
public import Idealize.ShloMosaic.Lib.Pipeline.ValueKit

@[expose] public section

set_option maxRecDepth 16384

noncomputable section

namespace Cert.LruStepIdeal.Value

open Cert.LruStepIdeal Cert.LruStepIdeal.Gen Idealize.ShloMosaic Idealize.ShloMosaic.TcCoe Idealize.SL.Sem

/-- The softplus of minus the decay parameter. -/
def soft (l : EReal) : EReal :=
  if 0 - l ≠ 0 - l then 0 - l else max (0 - l) 0 + Ideal.log1p (Ideal.exp (0 - FloatOps.absf (F := Ideal) (φ := .f32) (0 - l)))

/-- The logarithm of the decay, from the recurrence gate before its sigmoid. -/
def logDecay (p l : EReal) : EReal := Ideal.ofBits FTy.f32 3238002688#32 * Ideal.logistic p * soft l

/-- The scaled gated input, the scale by one minus the squared decay. -/
def drive (p l i x : EReal) : EReal :=
  Ideal.sqrt (1 - Ideal.exp (logDecay p l) * Ideal.exp (logDecay p l)) * (Ideal.logistic i * x)

/-- Unit `q` of head `h`. -/
def col (h : Fin 4) (q : Fin 256) : Fin 1024 := ⟨256 * h.val + q.val, by omega⟩

/-- A row's product with head `h`'s square matrix. -/
def headDot (x : Fin 1024 → EReal) (w : S4x256x256.Idx → EReal) (h : Fin 4) (q : Fin 256) : EReal :=
  ∑ k : Fin 256, x (col h k) * w (ix3 h k q)

/-- The new state of a unit, from its row and its old state. -/
def state (x : Fin 1024 → EReal) (wa : S4x256x256.Idx → EReal) (ba : Fin 1024 → EReal) (wi : S4x256x256.Idx → EReal) (bi lam : Fin 1024 → EReal)
    (s : Fin 1024 → EReal) (h : Fin 4) (q : Fin 256) : EReal :=
  Ideal.exp (logDecay (headDot x wa h q + ba (col h q)) (lam (col h q))) * s (col h q)
    + drive (headDot x wa h q + ba (col h q)) (lam (col h q)) (headDot x wi h q + bi (col h q)) (x (col h q))

theorem col_zero (q : Fin 256) : col 0 q = ⟨q.val, by omega⟩ := Fin.ext (by simp [col])

theorem col_surj (j : Fin 1024) : ∃ h q, j = col h q :=
  ⟨⟨j.val / 256, by omega⟩, ⟨j.val % 256, by omega⟩, Fin.ext (by simp only [col]; omega)⟩

variable (x0 x1 x2 x3 x4 x5 : Vec Ideal S128x1024 .f32) (x6 : Vec Ideal S4x1024 .f32) (x7 : Vec Ideal S1x1024 .f32)
  (x8 : Vec Ideal S4x256x256 .bf16) (x9 : Vec Ideal S1x1024 .f32) (x10 : Vec Ideal S4x256x256 .bf16) (x11 x12 x13 : Vec Ideal S1x1024 .f32)

/-- The convolved row. -/
theorem conv_eq (a : Fin 128) (b : Fin 1024) : k0_pay38 (F := Ideal) x0 x1 x2 x3 x4 x5 x6 x7 x8 x9 x10 x11 x12 x13 (ix2 a b)
    = x7 (ix2 0 b) + x2 (ix2 a b) * x6 (ix2 0 b) + x3 (ix2 a b) * x6 (ix2 1 b) + x4 (ix2 a b) * x6 (ix2 2 b) + x0 (ix2 a b) * x6 (ix2 3 b) := by
  pointwise [k0_pay38, k0_pay1]

/-- The first head's decays, -/
theorem decay0 (a : Fin 128) (q : Fin 256) : k0_pay45 (F := Ideal) x0 x1 x2 x3 x4 x5 x6 x7 x8 x9 x10 x11 x12 x13 (ix2 a q)
    = Ideal.exp (logDecay (headDot (fun j => k0_pay38 (F := Ideal) x0 x1 x2 x3 x4 x5 x6 x7 x8 x9 x10 x11 x12 x13 (ix2 a j)) x8 0 q + x9 (ix2 0 (col 0 q))) (x12 (ix2 0 (col 0 q)))) := by
  pointwise [k0_pay45, k0_pay41, k0_pay42, k0_pay43, k0_pay44, k0_pay40, k0_pay3, k0_pay4, k0_pay5, k0_pay6, k0_pay7, k0_pay2, k0_pay8, k0_pay9, k0_pay10, logDecay, soft, headDot]
  simp only [col_zero]
  rfl

/-- and its scaled gated inputs. -/
theorem drive0 (a : Fin 128) (q : Fin 256) : k0_pay46 (F := Ideal) x0 x1 x2 x3 x4 x5 x6 x7 x8 x9 x10 x11 x12 x13 (ix2 a q)
    = drive (headDot (fun j => k0_pay38 (F := Ideal) x0 x1 x2 x3 x4 x5 x6 x7 x8 x9 x10 x11 x12 x13 (ix2 a j)) x8 0 q + x9 (ix2 0 (col 0 q))) (x12 (ix2 0 (col 0 q)))
        (headDot (fun j => k0_pay38 (F := Ideal) x0 x1 x2 x3 x4 x5 x6 x7 x8 x9 x10 x11 x12 x13 (ix2 a j)) x10 0 q + x11 (ix2 0 (col 0 q))) (k0_pay38 (F := Ideal) x0 x1 x2 x3 x4 x5 x6 x7 x8 x9 x10 x11 x12 x13 (ix2 a (col 0 q))) := by
  pointwise [k0_pay46, k0_pay41, k0_pay42, k0_pay43, k0_pay44, k0_pay40, k0_pay3, k0_pay4, k0_pay5, k0_pay6, k0_pay7, k0_pay2, k0_pay8, k0_pay9, k0_pay10, drive, logDecay, soft, headDot]
  simp only [col_zero]
  rfl

/-- The second head's decays, -/
theorem decay1 (a : Fin 128) (q : Fin 256) : k0_pay50 (F := Ideal) x0 x1 x2 x3 x4 x5 x6 x7 x8 x9 x10 x11 x12 x13 (ix2 a q)
    = Ideal.exp (logDecay (headDot (fun j => k0_pay38 (F := Ideal) x0 x1 x2 x3 x4 x5 x6 x7 x8 x9 x10 x11 x12 x13 (ix2 a j)) x8 1 q + x9 (ix2 0 (col 1 q))) (x12 (ix2 0 (col 1 q)))) := by
  pointwise [k0_pay50, k0_pay41, k0_pay47, k0_pay48, k0_pay49, k0_pay40, k0_pay3, k0_pay4, k0_pay39, k0_pay11, k0_pay12, k0_pay13, k0_pay14, k0_pay15, k0_pay16, k0_pay2, logDecay, soft, headDot]
  rfl

/-- and its scaled gated inputs. -/
theorem drive1 (a : Fin 128) (q : Fin 256) : k0_pay51 (F := Ideal) x0 x1 x2 x3 x4 x5 x6 x7 x8 x9 x10 x11 x12 x13 (ix2 a q)
    = drive (headDot (fun j => k0_pay38 (F := Ideal) x0 x1 x2 x3 x4 x5 x6 x7 x8 x9 x10 x11 x12 x13 (ix2 a j)) x8 1 q + x9 (ix2 0 (col 1 q))) (x12 (ix2 0 (col 1 q)))
        (headDot (fun j => k0_pay38 (F := Ideal) x0 x1 x2 x3 x4 x5 x6 x7 x8 x9 x10 x11 x12 x13 (ix2 a j)) x10 1 q + x11 (ix2 0 (col 1 q))) (k0_pay38 (F := Ideal) x0 x1 x2 x3 x4 x5 x6 x7 x8 x9 x10 x11 x12 x13 (ix2 a (col 1 q))) := by
  pointwise [k0_pay51, k0_pay41, k0_pay47, k0_pay48, k0_pay49, k0_pay40, k0_pay3, k0_pay4, k0_pay39, k0_pay11, k0_pay12, k0_pay13, k0_pay14, k0_pay15, k0_pay16, k0_pay2, drive, logDecay, soft, headDot]
  rfl

/-- The third head's decays, -/
theorem decay2 (a : Fin 128) (q : Fin 256) : k0_pay56 (F := Ideal) x0 x1 x2 x3 x4 x5 x6 x7 x8 x9 x10 x11 x12 x13 (ix2 a q)
    = Ideal.exp (logDecay (headDot (fun j => k0_pay38 (F := Ideal) x0 x1 x2 x3 x4 x5 x6 x7 x8 x9 x10 x11 x12 x13 (ix2 a j)) x8 2 q + x9 (ix2 0 (col 2 q))) (x12 (ix2 0 (col 2 q)))) := by
  pointwise [k0_pay56, k0_pay41, k0_pay52, k0_pay53, k0_pay54, k0_pay55, k0_pay40, k0_pay39, k0_pay3, k0_pay4, k0_pay2, k0_pay17, k0_pay18, k0_pay19, k0_pay20, k0_pay21, k0_pay22, k0_pay23, k0_pay24, k0_pay25, logDecay, soft, headDot]
  rfl

/-- and its scaled gated inputs. -/
theorem drive2 (a : Fin 128) (q : Fin 256) : k0_pay57 (F := Ideal) x0 x1 x2 x3 x4 x5 x6 x7 x8 x9 x10 x11 x12 x13 (ix2 a q)
    = drive (headDot (fun j => k0_pay38 (F := Ideal) x0 x1 x2 x3 x4 x5 x6 x7 x8 x9 x10 x11 x12 x13 (ix2 a j)) x8 2 q + x9 (ix2 0 (col 2 q))) (x12 (ix2 0 (col 2 q)))
        (headDot (fun j => k0_pay38 (F := Ideal) x0 x1 x2 x3 x4 x5 x6 x7 x8 x9 x10 x11 x12 x13 (ix2 a j)) x10 2 q + x11 (ix2 0 (col 2 q))) (k0_pay38 (F := Ideal) x0 x1 x2 x3 x4 x5 x6 x7 x8 x9 x10 x11 x12 x13 (ix2 a (col 2 q))) := by
  pointwise [k0_pay57, k0_pay41, k0_pay52, k0_pay53, k0_pay54, k0_pay55, k0_pay40, k0_pay39, k0_pay3, k0_pay4, k0_pay2, k0_pay17, k0_pay18, k0_pay19, k0_pay20, k0_pay21, k0_pay22, k0_pay23, k0_pay24, k0_pay25, drive, logDecay, soft, headDot]
  rfl

/-- The new states of head 0. -/
theorem state0 (a : Fin 128) (q : Fin 256) : k0_pay33 (F := Ideal) (k0_pay45 x0 x1 x2 x3 x4 x5 x6 x7 x8 x9 x10 x11 x12 x13) (k0_pay46 x0 x1 x2 x3 x4 x5 x6 x7 x8 x9 x10 x11 x12 x13) (k0_pay50 x0 x1 x2 x3 x4 x5 x6 x7 x8 x9 x10 x11 x12 x13) (k0_pay51 x0 x1 x2 x3 x4 x5 x6 x7 x8 x9 x10 x11 x12 x13) (k0_pay56 x0 x1 x2 x3 x4 x5 x6 x7 x8 x9 x10 x11 x12 x13) (k0_pay57 x0 x1 x2 x3 x4 x5 x6 x7 x8 x9 x10 x11 x12 x13) (k0_pay58 x0 x1 x2 x3 x4 x5 x6 x7 x8 x9 x10 x11 x12 x13) (k0_pay59 x0 x1 x2 x3 x4 x5 x6 x7 x8 x9 x10 x11 x12 x13) (k0_pay60 x0 x1 x2 x3 x4 x5 x6 x7 x8 x9 x10 x11 x12 x13) (k0_pay61 x0 x1 x2 x3 x4 x5 x6 x7 x8 x9 x10 x11 x12 x13) (k0_pay62 x0 x1 x2 x3 x4 x5 x6 x7 x8 x9 x10 x11 x12 x13) (k0_pay63 x0 x1 x2 x3 x4 x5 x6 x7 x8 x9 x10 x11 x12 x13) (k0_pay64 x0 x1 x2 x3 x4 x5 x6 x7 x8 x9 x10 x11 x12 x13) x5 (ix2 a (col 0 q))
    = state (fun j => k0_pay38 (F := Ideal) x0 x1 x2 x3 x4 x5 x6 x7 x8 x9 x10 x11 x12 x13 (ix2 a j)) x8 (fun j => x9 (ix2 0 j)) x10 (fun j => x11 (ix2 0 j)) (fun j => x12 (ix2 0 j)) (fun j => x5 (ix2 a j)) 0 q := by
  pointwise [k0_pay33]
  simp only [show (col 0 q).val = q.val from congrArg Fin.val (col_zero q), q.isLt, not_false_eq_true, dite_true, dite_false, reduceDIte, Fin.eta]
  simp only [decay0 x0 x1 x2 x3 x4 x5 x6 x7 x8 x9 x10 x11 x12 x13 a q, drive0 x0 x1 x2 x3 x4 x5 x6 x7 x8 x9 x10 x11 x12 x13 a q]
  rfl

/-- The new states of head 1. -/
theorem state1 (a : Fin 128) (q : Fin 256) : k0_pay33 (F := Ideal) (k0_pay45 x0 x1 x2 x3 x4 x5 x6 x7 x8 x9 x10 x11 x12 x13) (k0_pay46 x0 x1 x2 x3 x4 x5 x6 x7 x8 x9 x10 x11 x12 x13) (k0_pay50 x0 x1 x2 x3 x4 x5 x6 x7 x8 x9 x10 x11 x12 x13) (k0_pay51 x0 x1 x2 x3 x4 x5 x6 x7 x8 x9 x10 x11 x12 x13) (k0_pay56 x0 x1 x2 x3 x4 x5 x6 x7 x8 x9 x10 x11 x12 x13) (k0_pay57 x0 x1 x2 x3 x4 x5 x6 x7 x8 x9 x10 x11 x12 x13) (k0_pay58 x0 x1 x2 x3 x4 x5 x6 x7 x8 x9 x10 x11 x12 x13) (k0_pay59 x0 x1 x2 x3 x4 x5 x6 x7 x8 x9 x10 x11 x12 x13) (k0_pay60 x0 x1 x2 x3 x4 x5 x6 x7 x8 x9 x10 x11 x12 x13) (k0_pay61 x0 x1 x2 x3 x4 x5 x6 x7 x8 x9 x10 x11 x12 x13) (k0_pay62 x0 x1 x2 x3 x4 x5 x6 x7 x8 x9 x10 x11 x12 x13) (k0_pay63 x0 x1 x2 x3 x4 x5 x6 x7 x8 x9 x10 x11 x12 x13) (k0_pay64 x0 x1 x2 x3 x4 x5 x6 x7 x8 x9 x10 x11 x12 x13) x5 (ix2 a (col 1 q))
    = state (fun j => k0_pay38 (F := Ideal) x0 x1 x2 x3 x4 x5 x6 x7 x8 x9 x10 x11 x12 x13 (ix2 a j)) x8 (fun j => x9 (ix2 0 j)) x10 (fun j => x11 (ix2 0 j)) (fun j => x12 (ix2 0 j)) (fun j => x5 (ix2 a j)) 1 q := by
  pointwise [k0_pay33]
  simp only [show (col 1 q).val = 256 + q.val from rfl, show ¬(256 + q.val < 256) by omega, show 256 + q.val - 256 < 256 by omega, show 256 + q.val - 256 = q.val by omega, q.isLt, not_false_eq_true, dite_true, dite_false, reduceDIte, Fin.eta]
  simp only [decay1 x0 x1 x2 x3 x4 x5 x6 x7 x8 x9 x10 x11 x12 x13 a q, drive1 x0 x1 x2 x3 x4 x5 x6 x7 x8 x9 x10 x11 x12 x13 a q]
  rfl

/-- The new states of head 2. -/
theorem state2 (a : Fin 128) (q : Fin 256) : k0_pay33 (F := Ideal) (k0_pay45 x0 x1 x2 x3 x4 x5 x6 x7 x8 x9 x10 x11 x12 x13) (k0_pay46 x0 x1 x2 x3 x4 x5 x6 x7 x8 x9 x10 x11 x12 x13) (k0_pay50 x0 x1 x2 x3 x4 x5 x6 x7 x8 x9 x10 x11 x12 x13) (k0_pay51 x0 x1 x2 x3 x4 x5 x6 x7 x8 x9 x10 x11 x12 x13) (k0_pay56 x0 x1 x2 x3 x4 x5 x6 x7 x8 x9 x10 x11 x12 x13) (k0_pay57 x0 x1 x2 x3 x4 x5 x6 x7 x8 x9 x10 x11 x12 x13) (k0_pay58 x0 x1 x2 x3 x4 x5 x6 x7 x8 x9 x10 x11 x12 x13) (k0_pay59 x0 x1 x2 x3 x4 x5 x6 x7 x8 x9 x10 x11 x12 x13) (k0_pay60 x0 x1 x2 x3 x4 x5 x6 x7 x8 x9 x10 x11 x12 x13) (k0_pay61 x0 x1 x2 x3 x4 x5 x6 x7 x8 x9 x10 x11 x12 x13) (k0_pay62 x0 x1 x2 x3 x4 x5 x6 x7 x8 x9 x10 x11 x12 x13) (k0_pay63 x0 x1 x2 x3 x4 x5 x6 x7 x8 x9 x10 x11 x12 x13) (k0_pay64 x0 x1 x2 x3 x4 x5 x6 x7 x8 x9 x10 x11 x12 x13) x5 (ix2 a (col 2 q))
    = state (fun j => k0_pay38 (F := Ideal) x0 x1 x2 x3 x4 x5 x6 x7 x8 x9 x10 x11 x12 x13 (ix2 a j)) x8 (fun j => x9 (ix2 0 j)) x10 (fun j => x11 (ix2 0 j)) (fun j => x12 (ix2 0 j)) (fun j => x5 (ix2 a j)) 2 q := by
  pointwise [k0_pay33]
  simp only [show (col 2 q).val = 512 + q.val from rfl, show ¬(512 + q.val < 256) by omega, show ¬(512 + q.val - 256 < 256) by omega, show 512 + q.val - 256 - 256 < 256 by omega, show 512 + q.val - 256 - 256 = q.val by omega, q.isLt, not_false_eq_true, dite_true, dite_false, reduceDIte, Fin.eta]
  simp only [decay2 x0 x1 x2 x3 x4 x5 x6 x7 x8 x9 x10 x11 x12 x13 a q, drive2 x0 x1 x2 x3 x4 x5 x6 x7 x8 x9 x10 x11 x12 x13 a q]
  rfl

/-- The new states of head 3. -/
theorem state3 (a : Fin 128) (q : Fin 256) : k0_pay33 (F := Ideal) (k0_pay45 x0 x1 x2 x3 x4 x5 x6 x7 x8 x9 x10 x11 x12 x13) (k0_pay46 x0 x1 x2 x3 x4 x5 x6 x7 x8 x9 x10 x11 x12 x13) (k0_pay50 x0 x1 x2 x3 x4 x5 x6 x7 x8 x9 x10 x11 x12 x13) (k0_pay51 x0 x1 x2 x3 x4 x5 x6 x7 x8 x9 x10 x11 x12 x13) (k0_pay56 x0 x1 x2 x3 x4 x5 x6 x7 x8 x9 x10 x11 x12 x13) (k0_pay57 x0 x1 x2 x3 x4 x5 x6 x7 x8 x9 x10 x11 x12 x13) (k0_pay58 x0 x1 x2 x3 x4 x5 x6 x7 x8 x9 x10 x11 x12 x13) (k0_pay59 x0 x1 x2 x3 x4 x5 x6 x7 x8 x9 x10 x11 x12 x13) (k0_pay60 x0 x1 x2 x3 x4 x5 x6 x7 x8 x9 x10 x11 x12 x13) (k0_pay61 x0 x1 x2 x3 x4 x5 x6 x7 x8 x9 x10 x11 x12 x13) (k0_pay62 x0 x1 x2 x3 x4 x5 x6 x7 x8 x9 x10 x11 x12 x13) (k0_pay63 x0 x1 x2 x3 x4 x5 x6 x7 x8 x9 x10 x11 x12 x13) (k0_pay64 x0 x1 x2 x3 x4 x5 x6 x7 x8 x9 x10 x11 x12 x13) x5 (ix2 a (col 3 q))
    = state (fun j => k0_pay38 (F := Ideal) x0 x1 x2 x3 x4 x5 x6 x7 x8 x9 x10 x11 x12 x13 (ix2 a j)) x8 (fun j => x9 (ix2 0 j)) x10 (fun j => x11 (ix2 0 j)) (fun j => x12 (ix2 0 j)) (fun j => x5 (ix2 a j)) 3 q := by
  pointwise [k0_pay33, k0_pay58, k0_pay59, k0_pay60, k0_pay61, k0_pay62, k0_pay63, k0_pay64, k0_pay26, k0_pay27, k0_pay28, k0_pay29, k0_pay30, k0_pay31, k0_pay32, k0_pay39, k0_pay40, k0_pay41, k0_pay2, k0_pay3, k0_pay4]
  simp only [show (col 3 q).val = 768 + q.val from rfl, show ¬(768 + q.val < 256) by omega, show ¬(768 + q.val - 256 < 256) by omega, show ¬(768 + q.val - 256 - 256 < 256) by omega, show 768 + q.val - 256 - 256 - 256 = q.val by omega, q.isLt, not_false_eq_true, dite_true, dite_false, reduceDIte, Fin.eta]
  rfl

end Cert.LruStepIdeal.Value

end
-- ==== Proof.LruStep.RefRead.lean ====
/- The single step's reference, each stage read at an index. -/
module

public import proofs.«01_k».proof.Proof.LruStep.Ref
public import proofs.«01_k».proof.Proof.LruStep.Heads

@[expose] public section

set_option maxRecDepth 16384

noncomputable section

namespace Cert.LruStepRefIdeal.Value

open Cert.LruStepRefIdeal Cert.LruStepRefIdeal.Gen Idealize.ShloMosaic Idealize.ShloMosaic.TcCoe Idealize.SL.Sem
open Cert.LruStepIdeal.Value (col headDot soft logDecay drive state)

variable (z : FVec Ideal S128x3072 .f32) (c0 : FVec Ideal S128x3x1024 .f32) (s : FVec Ideal S128x1024 .f32) (w : FVec Ideal S4x1024 .f32)
  (b : FVec Ideal S1024 .f32) (wa : FVec Ideal S4x256x256 .f32) (ba : FVec Ideal S1024 .f32) (wi : FVec Ideal S4x256x256 .f32) (bi lam g : FVec Ideal S1024 .f32)
variable (x l i h y r : FVec Ideal S128x1x1024 .f32)

/-- The kernel's scale of the driven input is the reference's: the squared decay is the exponential of twice its logarithm. -/
theorem one_sub_sq (l : EReal) : -(Ideal.exp (Ideal.ofBits FTy.f32 1073741824#32 * l) - 1) = 1 - Ideal.exp l * Ideal.exp l := by
  have two : Ideal.ofBits FTy.f32 1073741824#32 = ((2 : ℝ) : EReal) := by
    simp [Ideal.ofBits, Ideal.ieee]
    rw [← EReal.coe_mul]
    norm_num
  rw [two]
  induction l with
  | bot =>
      rw [EReal.coe_mul_bot_of_pos (by norm_num)]
      show -((0 : EReal) - 1) = 1 - (0 : EReal) * 0
      norm_num
  | top =>
      rw [EReal.coe_mul_top_of_pos (by norm_num)]
      show -((⊤ : EReal) - 1) = 1 - ⊤ * ⊤
      rw [EReal.top_mul_top]
      rfl
  | coe r =>
      rw [← EReal.coe_mul]
      show -(((Real.exp (2 * r) : ℝ) : EReal) - ((1 : ℝ) : EReal)) = ((1 : ℝ) : EReal) - (Real.exp r : EReal) * (Real.exp r : EReal)
      rw [← EReal.coe_sub, ← EReal.coe_neg, ← EReal.coe_mul, ← EReal.coe_sub, ← Real.exp_add]
      congr 1
      rw [two_mul]
      ring

/-- A convolved row. -/
def taps (a : Fin 128) (j : Fin 1024) : EReal :=
  b (ix1 j) + c0 (ix3 a 0 j) * w (ix2 0 j) + c0 (ix3 a 1 j) * w (ix2 1 j) + c0 (ix3 a 2 j) * w (ix2 2 j) + z (ix2 a ⟨1024 + j.val, by omega⟩) * w (ix2 3 j)

theorem RC_eq (a : Fin 128) (j : Fin 1024) : RC z c0 w b (ix3 a 0 j) = taps z c0 w b a j := by
  pointwise [RC, taps]
  simp only [add_assoc]

theorem RG_eq (a : Fin 128) (h : Fin 4) (q : Fin 256) : RG x wa ba (ix3 a 0 (col h q))
    = Ideal.logistic (headDot (fun j => x (ix3 a 0 j)) wa h q + ba (ix1 (col h q))) := by
  pointwise [RG]
  have e1 : (col h q).val / 256 = h.val := by simp only [col]; omega
  have e2 : (col h q).val % 256 = q.val := by simp only [col]; omega
  have e3 : ∀ k : Fin 256, (⟨h.val * 256 + k.val, by omega⟩ : Fin 1024) = col h k := fun k => Fin.ext (by simp only [col]; omega)
  simp only [e1, e2, e3, Fin.eta]
  unfold headDot
  rw [Finset.sum_congr rfl fun k _ => mul_comm (wa (ix3 h k q)) (x (ix3 a 0 (col h k)))]
  rfl

theorem RL_eq (a : Fin 128) (j : Fin 1024) : RL r lam (ix3 a 0 j) = Ideal.ofBits FTy.f32 3238002688#32 * r (ix3 a 0 j) * soft (lam (ix1 j)) := by
  pointwise [RL]
  simp only [soft, zero_sub]

theorem RH_eq (a : Fin 128) (j : Fin 1024) : RH x l i s (ix3 a 0 j) = Ideal.exp (l (ix3 a 0 j)) * s (ix2 a j)
    + Ideal.sqrt (1 - Ideal.exp (l (ix3 a 0 j)) * Ideal.exp (l (ix3 a 0 j))) * (i (ix3 a 0 j) * x (ix3 a 0 j)) := by
  pointwise [RH]
  rw [one_sub_sq]

/-- The reference's new states are the kernel's formula at the reference's arrays. -/
theorem RS_eq (a : Fin 128) (h : Fin 4) (q : Fin 256) : RS z c0 s w b wa ba wi bi lam (ix3 a 0 (col h q))
    = state (taps z c0 w b a) wa (fun j => ba (ix1 j)) wi (fun j => bi (ix1 j)) (fun j => lam (ix1 j)) (fun j => s (ix2 a j)) h q := by
  unfold RS
  rw [RH_eq, RL_eq, RG_eq, RG_eq, RC_eq, funext (RC_eq z c0 w b a)]
  rfl

theorem REFH_eq (a : Fin 128) (j : Fin 1024) : REFH z c0 s w b wa ba wi bi lam (ix2 a j) = RS z c0 s w b wa ba wi bi lam (ix3 a 0 j) := by
  pointwise [REFH]

/-- The tanh form of the gaussian error unit. -/
def gel (y : EReal) : EReal :=
  y * (Ideal.ofBits FTy.f32 1056964608#32 * (1 + Ideal.tanh (Ideal.ofBits FTy.f32 1061962282#32 * (y + Ideal.ofBits FTy.f32 1027024659#32 * (y * (y * y))))))

theorem RO_eq (a : Fin 128) (j : Fin 1024) : RO z h (ix3 a 0 j) = h (ix3 a 0 j) * gel (z (ix2 a ⟨2048 + j.val, by omega⟩)) := by
  pointwise [RO]
  simp only [gel, mul_assoc]

/-- A row over its root mean square, with a gain. -/
def normed (f : Fin 1024 → EReal) (g : EReal) (j : Fin 1024) : EReal :=
  f j * Ideal.rsqrt (Ideal.div (∑ k, f k * f k) (Ideal.ofBits FTy.f32 1149239296#32) + Ideal.ofBits FTy.f32 897988541#32) * g

theorem RN_eq (a : Fin 128) (j : Fin 1024) : RN y g (ix2 a j) = normed (fun k => y (ix3 a 0 k)) (g (ix1 j)) j := by
  pointwise [RN]
  rfl

theorem REFO_eq (a : Fin 128) (j : Fin 1024) : REFO z c0 s w b wa ba wi bi lam g (ix2 a j)
    = normed (fun k => RS z c0 s w b wa ba wi bi lam (ix3 a 0 k) * gel (z (ix2 a ⟨2048 + k.val, by omega⟩))) (g (ix1 j)) j := by
  unfold REFO
  rw [RN_eq, funext (RO_eq z (RS z c0 s w b wa ba wi bi lam) a)]

theorem REFC_eq (a : Fin 128) (j : Fin 3072) : REFC z c0 (ix2 a j)
    = if h : 1 + j.val / 1024 < 3 then c0 (ix3 a ⟨1 + j.val / 1024, h⟩ ⟨j.val % 1024, by omega⟩) else z (ix2 a ⟨1024 + j.val % 1024, by omega⟩) := by
  pointwise [REFC]

end Cert.LruStepRefIdeal.Value

end
-- ==== Proof.LruStep.Value.lean ====
/- The single step's three result arrays are the reference's. -/
module

public import proofs.«01_k».proof.Proof.LruStep.RefRead

@[expose] public section

set_option maxRecDepth 16384

noncomputable section

namespace Cert.LruStepIdeal.Value

open Cert.LruStepIdeal Cert.LruStepIdeal.Gen Idealize.ShloMosaic Idealize.ShloMosaic.TcCoe Idealize.SL.Sem
open Cert.LruStepRefIdeal.Value (taps gel normed REFH REFO REFC RS RS_eq REFH_eq REFO_eq REFC_eq)

theorem pay35_eq (h y : Vec Ideal S128x1024 .f32) (g : Vec Ideal S1x1024 .f32) (a : Fin 128) (j : Fin 1024) :
    k0_pay35 (F := Ideal) h y (k0_pay34 y) g (ix2 a j) = normed (fun k => h (ix2 a k) * gel (y (ix2 a k))) (g (ix2 0 j)) j := by
  pointwise [k0_pay35, k0_pay34]
  rfl

variable (m : (ℓ : Loc nD τ sig) → Buf (Elt Ideal) ℓ)

theorem idx : ∀ t : Fin cfg0.N, win0_0.index t = ![0, 1] ∧ win0_1.index t = ![0, 2] ∧ win0_2.index t = ![0, 0] ∧ win0_3.index t = ![0, 1]
    ∧ win0_4.index t = ![0, 2] ∧ win0_5.index t = ![0, 0] ∧ win0_6.index t = ![0, 0] ∧ win0_7.index t = ![0, 0] ∧ win0_8.index t = ![0, 0, 0]
    ∧ win0_9.index t = ![0, 0] ∧ win0_10.index t = ![0, 0, 0] ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

abbrev AZ (c : Dev nD) : Vec Ideal S128x3072 .f32 := m ((c : Thread nD τ).loc main_arg0)
abbrev AC (c : Dev nD) : Vec Ideal S128x3x1024 .f32 := m ((c : Thread nD τ).loc main_arg1)
abbrev AS (c : Dev nD) : Vec Ideal S128x1024 .f32 := m ((c : Thread nD τ).loc main_arg2)
abbrev AW (c : Dev nD) : Vec Ideal S4x1024 .f32 := m ((c : Thread nD τ).loc main_arg3)
abbrev AB (c : Dev nD) : Vec Ideal S1024 .f32 := m ((c : Thread nD τ).loc main_arg4)
abbrev AWA (c : Dev nD) : Vec Ideal S4x256x256 .f32 := m ((c : Thread nD τ).loc main_arg5)
abbrev ABA (c : Dev nD) : Vec Ideal S1024 .f32 := m ((c : Thread nD τ).loc main_arg6)
abbrev AWI (c : Dev nD) : Vec Ideal S4x256x256 .f32 := m ((c : Thread nD τ).loc main_arg7)
abbrev ABI (c : Dev nD) : Vec Ideal S1024 .f32 := m ((c : Thread nD τ).loc main_arg8)
abbrev AL (c : Dev nD) : Vec Ideal S1024 .f32 := m ((c : Thread nD τ).loc main_arg9)
abbrev AG (c : Dev nD) : Vec Ideal S1024 .f32 := m ((c : Thread nD τ).loc main_arg10)

theorem b0 (c : Dev nD) (t : Fin cfg0.N) (a : Fin 128) (j : Fin 1024) : (iblk m c 0 t : Vec Ideal S128x1024 .f32) (ix2 a j) = AZ m c (ix2 a ⟨1024 + j.val, by omega⟩) := by
  blk_point [iblk, V, idx t]
theorem b1 (c : Dev nD) (t : Fin cfg0.N) (a : Fin 128) (j : Fin 1024) : (iblk m c 1 t : Vec Ideal S128x1024 .f32) (ix2 a j) = AZ m c (ix2 a ⟨2048 + j.val, by omega⟩) := by
  blk_point [iblk, V, idx t]
theorem b2 (c : Dev nD) (t : Fin cfg0.N) (a : Fin 128) (j : Fin 1024) : (iblk m c 2 t : Vec Ideal S128x1024 .f32) (ix2 a j) = AC m c (ix3 a 0 j) := by
  blk_point [iblk, V, idx t]
theorem b3 (c : Dev nD) (t : Fin cfg0.N) (a : Fin 128) (j : Fin 1024) : (iblk m c 3 t : Vec Ideal S128x1024 .f32) (ix2 a j) = AC m c (ix3 a 1 j) := by
  blk_point [iblk, V, idx t]
theorem b4 (c : Dev nD) (t : Fin cfg0.N) (a : Fin 128) (j : Fin 1024) : (iblk m c 4 t : Vec Ideal S128x1024 .f32) (ix2 a j) = AC m c (ix3 a 2 j) := by
  blk_point [iblk, V, idx t]
theorem b5 (c : Dev nD) (t : Fin cfg0.N) (a : Fin 128) (j : Fin 1024) : (iblk m c 5 t : Vec Ideal S128x1024 .f32) (ix2 a j) = AS m c (ix2 a j) := by
  blk_point [iblk, V, idx t]
theorem b6 (c : Dev nD) (t : Fin cfg0.N) (a : Fin 4) (j : Fin 1024) : (iblk m c 6 t : Vec Ideal S4x1024 .f32) (ix2 a j) = AW m c (ix2 a j) := by
  blk_point [iblk, V, idx t]
theorem b7 (c : Dev nD) (t : Fin cfg0.N) (j : Fin 1024) : (iblk m c 7 t : Vec Ideal S1x1024 .f32) (ix2 0 j) = AB m c (ix1 j) := by
  blk_point [iblk, V, idx t]
theorem b8 (c : Dev nD) (t : Fin cfg0.N) : (iblk m c 8 t : Vec Ideal S4x256x256 .bf16) = AWA m c := by
  funext i
  blk_point [iblk, V, idx t]
theorem b9 (c : Dev nD) (t : Fin cfg0.N) (j : Fin 1024) : (iblk m c 9 t : Vec Ideal S1x1024 .f32) (ix2 0 j) = ABA m c (ix1 j) := by
  blk_point [iblk, V, idx t]
theorem b10 (c : Dev nD) (t : Fin cfg0.N) : (iblk m c 10 t : Vec Ideal S4x256x256 .bf16) = AWI m c := by
  funext i
  blk_point [iblk, V, idx t]
theorem b11 (c : Dev nD) (t : Fin cfg0.N) (j : Fin 1024) : (iblk m c 11 t : Vec Ideal S1x1024 .f32) (ix2 0 j) = ABI m c (ix1 j) := by
  blk_point [iblk, V, idx t]
theorem b12 (c : Dev nD) (t : Fin cfg0.N) (j : Fin 1024) : (iblk m c 12 t : Vec Ideal S1x1024 .f32) (ix2 0 j) = AL m c (ix1 j) := by
  blk_point [iblk, V, idx t]
theorem b13 (c : Dev nD) (t : Fin cfg0.N) (j : Fin 1024) : (iblk m c 13 t : Vec Ideal S1x1024 .f32) (ix2 0 j) = AG m c (ix1 j) := by
  blk_point [iblk, V, idx t]

/-- The convolved rows of the launch. -/
theorem taps_eq (c : Dev nD) (t : Fin cfg0.N) (a : Fin 128) (j : Fin 1024) :
    k0_pay38 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j) = taps (AZ m c) (AC m c) (AW m c) (AB m c) a j := by
  rw [conv_eq, b7, b2, b3, b4, b0, b6, b6, b6, b6]
  rfl

/-- The new states of the launch are the reference's. -/
theorem states (c : Dev nD) (t : Fin cfg0.N) (a : Fin 128) (j : Fin 1024) :
    k0_pay33 (F := Ideal) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay56 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay57 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay58 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay60 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay61 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay62 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay63 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay64 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 5 t) (ix2 a j) = RS (AZ m c) (AC m c) (AS m c) (AW m c) (AB m c) (AWA m c) (ABA m c) (AWI m c) (ABI m c) (AL m c) (ix3 a 0 j) := by
  obtain ⟨h, q, rfl⟩ := col_surj j
  rw [RS_eq, ← funext (taps_eq m c t a), ← funext (b9 m c t), ← funext (b11 m c t), ← funext (b12 m c t), ← funext (b5 m c t a), ← b8 m c t, ← b10 m c t]
  fin_cases h
  · exact state0 _ _ _ _ _ _ _ _ _ _ _ _ _ _ a q
  · exact state1 _ _ _ _ _ _ _ _ _ _ _ _ _ _ a q
  · exact state2 _ _ _ _ _ _ _ _ _ _ _ _ _ _ a q
  · exact state3 _ _ _ _ _ _ _ _ _ _ _ _ _ _ a q

/-- The second window's buffer after the body. -/
theorem out15 (c : Dev nD) (t : Fin cfg0.N) (x i : S128x1024.Idx) (h0 : (i 0 : ℕ) = x 0) (h1 : (i 1 : ℕ) = x 1) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = REFH (AZ m c) (AC m c) (AS m c) (AW m c) (AB m c) (AWA m c) (ABA m c) (AWI m c) (ABI m c) (AL m c) i := by
  obtain ⟨a, j, rfl⟩ : ∃ a j, x = ix2 a j := ⟨_, _, eq_ix2 x⟩
  obtain ⟨a', j', rfl⟩ : ∃ a j, i = ix2 a j := ⟨_, _, eq_ix2 i⟩
  obtain rfl : a' = a := Fin.ext h0
  obtain rfl : j' = j := Fin.ext h1
  rw [REFH_eq, ← states m c t]
  frame_out

/-- The first window's buffer after the body. -/
theorem out14 (c : Dev nD) (t : Fin cfg0.N) (x i : S128x1024.Idx) (h0 : (i 0 : ℕ) = x 0) (h1 : (i 1 : ℕ) = x 1) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = REFO (AZ m c) (AC m c) (AS m c) (AW m c) (AB m c) (AWA m c) (ABA m c) (AWI m c) (ABI m c) (AL m c) (AG m c) i := by
  obtain ⟨a, j, rfl⟩ : ∃ a j, x = ix2 a j := ⟨_, _, eq_ix2 x⟩
  obtain ⟨a', j', rfl⟩ : ∃ a j, i = ix2 a j := ⟨_, _, eq_ix2 i⟩
  obtain rfl : a' = a := Fin.ext h0
  obtain rfl : j' = j := Fin.ext h1
  frame_out
  rw [pay35_eq, REFO_eq]
  exact congrArg₂ (fun f g => normed f g j') (funext fun k => congrArg₂ (fun u v => u * gel v) (states m c t a' k) (b1 m c t a' k)) (b13 m c t j')

theorem pay36_eq (x : Vec Ideal S128x1024 .f32) : k0_pay36 (F := Ideal) x = x := by
  funext i
  pointwise [k0_pay36]

theorem pay37_eq (x : Vec Ideal S128x1024 .f32) : k0_pay37 (F := Ideal) x = x := by
  funext i
  pointwise [k0_pay37]

/-- The third window's buffer after the body. -/
theorem out16 (c : Dev nD) (t : Fin cfg0.N) (x i : S128x3072.Idx) (h0 : (i 0 : ℕ) = x 0) (h1 : (i 1 : ℕ) = x 1) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = REFC (AZ m c) (AC m c) i := by
  obtain ⟨a', j', rfl⟩ : ∃ a j, i = ix2 a j := ⟨_, _, eq_ix2 i⟩
  rw [REFC_eq]
  frame_out
  canon_tiles x h
  · obtain ⟨a, j, rfl⟩ : ∃ a j, x = ix2 a j := ⟨_, _, eq_ix2 x⟩
    have e : (a' : ℕ) = a ∧ (j' : ℕ) = 2048 + j := ⟨by simp_all, by simp_all⟩
    obtain rfl : a' = a := Fin.ext e.1
    have e2 : 1 + (j' : ℕ) / 1024 = 3 := by omega
    rw [dif_neg (by omega)]
    refine ((b0 m c t _ _).trans (congrArg (AZ m c) (congrArg (ix2 a') (Fin.ext ?_))))
    show 1024 + (j : ℕ) = 1024 + j' % 1024
    omega
  · obtain ⟨a, j, rfl⟩ : ∃ a j, x = ix2 a j := ⟨_, _, eq_ix2 x⟩
    have e : (a' : ℕ) = a ∧ (j' : ℕ) = 1024 + j := ⟨by simp_all, by simp_all⟩
    obtain rfl : a' = a := Fin.ext e.1
    rw [dif_pos (by omega), pay37_eq]
    refine ((b4 m c t _ _).trans ?_)
    congr 2 <;> apply Fin.ext
    · show 2 = 1 + (j' : ℕ) / 1024
      omega
    · show (j : ℕ) = j' % 1024
      omega
  · obtain ⟨a, j, rfl⟩ : ∃ a j, x = ix2 a j := ⟨_, _, eq_ix2 x⟩
    have e : (a' : ℕ) = a ∧ (j' : ℕ) = j := ⟨by simp_all, by simp_all⟩
    obtain rfl : a' = a := Fin.ext e.1
    rw [dif_pos (by omega), pay36_eq]
    refine ((b3 m c t _ _).trans ?_)
    congr 2 <;> apply Fin.ext
    · show 1 = 1 + (j' : ℕ) / 1024
      omega
    · show (j : ℕ) = j' % 1024
      omega

/-- The first result array of the launch. -/
theorem final14 (c : Dev nD) : (dats m 0 c).arrAt 14 (cfgs 0).N = REFO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t hf y => ?_
  blk_simp
  rw [after0_14]
  refine out14 m c t y _ ?_ ?_
  all_goals (blk_simp [idx t] <;> try omega)

/-- The second result array of the launch. -/
theorem final15 (c : Dev nD) : (dats m 0 c).arrAt 15 (cfgs 0).N = REFH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t hf y => ?_
  blk_simp
  rw [after0_15]
  refine out15 m c t y _ ?_ ?_
  all_goals (blk_simp [idx t] <;> try omega)

/-- The third result array of the launch. -/
theorem final16 (c : Dev nD) : (dats m 0 c).arrAt 16 (cfgs 0).N = REFC (m ((c : Thread nD τ).loc main_arg0)) (m ((c : Thread nD τ).loc main_arg1)) := by
  refine (dats m 0 c).arrAt_eq_of_covers 16 _ (by decide +kernel) fun t hf y => ?_
  blk_simp
  rw [after0_16]
  refine out16 m c t y _ ?_ ?_
  all_goals (blk_simp [idx t] <;> try omega)

end Cert.LruStepIdeal.Value

end
-- ==== Proof.LruStep.Claims.lean ====
/- The five claims about one step of the gated linear recurrence: its frames and its value. -/
module

public import proofs.«01_k».proof.Defs
public import proofs.«01_k».proof.Proof.Gen.LruStep.Frame
public import proofs.«01_k».proof.Proof.LruStep.Value
public import Idealize.ShloMosaic.Lib.Claim

@[expose] public section

set_option maxRecDepth 16384

noncomputable section

namespace Cert.LruStepClaims

open Idealize.ShloMosaic Idealize.ShloMosaic.TcCoe Idealize.SL.Sem
open Cert.LruStepRefIdeal.Value (REFO REFH REFC res_state res_out)

/-- The kernel ends with its arguments and semaphores unchanged, as printed. -/
theorem frame : Cert.quiescent_LruStep := fun m g _ => Cert.LruStep.Gen.frame m g

/-- The same at exact operations. -/
theorem frame_ideal : Cert.quiescent_LruStepIdeal := fun m g _ => Cert.LruStepIdeal.Gen.frame m g

/-- The reference ends with its arguments unchanged; it declares no semaphore. -/
theorem frame_ref : Cert.quiescent_LruStepRefIdeal := fun m g _ =>
  (θ_run Cert.LruStepRefIdeal.defs _ _).mono (fun r h => ⟨fun c => (h c).2.2.2, sem_eq_zero_of_no_sems (by decide) r.2⟩)
    (Cert.LruStepRefIdeal.Value.run (F := Ideal) m g)

/-- The idealized program is the printed one. -/
theorem preserves : Cert.preserves_LruStep_LruStepIdeal := trivial

/-- At exact operations the kernel's three results are the reference's. -/
theorem algebraic : Cert.algebraic_LruStepIdeal_LruStepRefIdeal := by
  intro m g m' g' hpre hagree
  refine ⟨fun c => (Cert.LruStepIdeal.Gen.dats m 0 c).arrAt 14 (Cert.LruStepIdeal.cfgs 0).N,
    fun c => (Cert.LruStepIdeal.Gen.dats m 0 c).arrAt 15 (Cert.LruStepIdeal.cfgs 0).N,
    fun c => (Cert.LruStepIdeal.Gen.dats m 0 c).arrAt 16 (Cert.LruStepIdeal.cfgs 0).N, ?_, ?_⟩
  · exact θ_run_mono (θ_run_and (Cert.LruStepIdeal.Gen.run_main m g) (Cert.LruStepIdeal.Gen.frame m g)) fun r hr c =>
      ⟨(hr.1 c).1 14, (hr.1 c).1 15, (hr.1 c).1 16, hr.2.1 c⟩
  · refine (θ_run Cert.LruStepRefIdeal.defs _ _).mono (fun r h c => ⟨(h c).1.trans ?_, (h c).2.1.trans ?_, (h c).2.2.1.trans ?_, (h c).2.2.2⟩)
      (Cert.LruStepRefIdeal.Value.run (F := Ideal) m' g')
    · refine (res_out m' c).trans ?_
      show REFO (m' ((c.tc : Thread Cert.LruStepRefIdeal.nD Cert.LruStepRefIdeal.τ).loc Cert.LruStepRefIdeal.main_arg0)) (m' ((c.tc : Thread Cert.LruStepRefIdeal.nD Cert.LruStepRefIdeal.τ).loc Cert.LruStepRefIdeal.main_arg1)) (m' ((c.tc : Thread Cert.LruStepRefIdeal.nD Cert.LruStepRefIdeal.τ).loc Cert.LruStepRefIdeal.main_arg2)) (m' ((c.tc : Thread Cert.LruStepRefIdeal.nD Cert.LruStepRefIdeal.τ).loc Cert.LruStepRefIdeal.main_arg3)) (m' ((c.tc : Thread Cert.LruStepRefIdeal.nD Cert.LruStepRefIdeal.τ).loc Cert.LruStepRefIdeal.main_arg4)) (m' ((c.tc : Thread Cert.LruStepRefIdeal.nD Cert.LruStepRefIdeal.τ).loc Cert.LruStepRefIdeal.main_arg5)) (m' ((c.tc : Thread Cert.LruStepRefIdeal.nD Cert.LruStepRefIdeal.τ).loc Cert.LruStepRefIdeal.main_arg6)) (m' ((c.tc : Thread Cert.LruStepRefIdeal.nD Cert.LruStepRefIdeal.τ).loc Cert.LruStepRefIdeal.main_arg7)) (m' ((c.tc : Thread Cert.LruStepRefIdeal.nD Cert.LruStepRefIdeal.τ).loc Cert.LruStepRefIdeal.main_arg8)) (m' ((c.tc : Thread Cert.LruStepRefIdeal.nD Cert.LruStepRefIdeal.τ).loc Cert.LruStepRefIdeal.main_arg9)) (m' ((c.tc : Thread Cert.LruStepRefIdeal.nD Cert.LruStepRefIdeal.τ).loc Cert.LruStepRefIdeal.main_arg10)) = _
      obtain ⟨e0, e1, e2, e3, e4, e5, e6, e7, e8, e9, e10⟩ := hagree c
      rw [e0, e1, e2, e3, e4, e5, e6, e7, e8, e9, e10]
      exact (Cert.LruStepIdeal.Value.final14 m c).symm
    · refine (res_state m' c).trans ?_
      show REFH (m' ((c.tc : Thread Cert.LruStepRefIdeal.nD Cert.LruStepRefIdeal.τ).loc Cert.LruStepRefIdeal.main_arg0)) (m' ((c.tc : Thread Cert.LruStepRefIdeal.nD Cert.LruStepRefIdeal.τ).loc Cert.LruStepRefIdeal.main_arg1)) (m' ((c.tc : Thread Cert.LruStepRefIdeal.nD Cert.LruStepRefIdeal.τ).loc Cert.LruStepRefIdeal.main_arg2)) (m' ((c.tc : Thread Cert.LruStepRefIdeal.nD Cert.LruStepRefIdeal.τ).loc Cert.LruStepRefIdeal.main_arg3)) (m' ((c.tc : Thread Cert.LruStepRefIdeal.nD Cert.LruStepRefIdeal.τ).loc Cert.LruStepRefIdeal.main_arg4)) (m' ((c.tc : Thread Cert.LruStepRefIdeal.nD Cert.LruStepRefIdeal.τ).loc Cert.LruStepRefIdeal.main_arg5)) (m' ((c.tc : Thread Cert.LruStepRefIdeal.nD Cert.LruStepRefIdeal.τ).loc Cert.LruStepRefIdeal.main_arg6)) (m' ((c.tc : Thread Cert.LruStepRefIdeal.nD Cert.LruStepRefIdeal.τ).loc Cert.LruStepRefIdeal.main_arg7)) (m' ((c.tc : Thread Cert.LruStepRefIdeal.nD Cert.LruStepRefIdeal.τ).loc Cert.LruStepRefIdeal.main_arg8)) (m' ((c.tc : Thread Cert.LruStepRefIdeal.nD Cert.LruStepRefIdeal.τ).loc Cert.LruStepRefIdeal.main_arg9)) = _
      obtain ⟨e0, e1, e2, e3, e4, e5, e6, e7, e8, e9, e10⟩ := hagree c
      rw [e0, e1, e2, e3, e4, e5, e6, e7, e8, e9]
      exact (Cert.LruStepIdeal.Value.final15 m c).symm
    · show REFC (m' ((c.tc : Thread Cert.LruStepRefIdeal.nD Cert.LruStepRefIdeal.τ).loc Cert.LruStepRefIdeal.main_arg0)) (m' ((c.tc : Thread Cert.LruStepRefIdeal.nD Cert.LruStepRefIdeal.τ).loc Cert.LruStepRefIdeal.main_arg1)) = _
      obtain ⟨e0, e1, e2, e3, e4, e5, e6, e7, e8, e9, e10⟩ := hagree c
      rw [e0, e1]
      exact (Cert.LruStepIdeal.Value.final16 m c).symm

end Cert.LruStepClaims

end
-- ==== Proof.S5Step.Ref.lean ====
/- The reference's results, as functions of its arguments. -/
module

public import proofs.«01_k».proof.Proof.Gen.S5StepRefIdeal.Run
public import Idealize.ShloMosaic.Lib.Pipeline.ValueKit

@[expose] public section

set_option maxRecDepth 16384

noncomputable section

namespace Cert.S5StepRefIdeal.Value

open Cert.S5StepRefIdeal Cert.S5StepRefIdeal.Gen Idealize.ShloMosaic Idealize.ShloMosaic.TcCoe Idealize.SL.Sem Idealize.ShloMosaic.StableHlo

/-- The input through every state's input weights. -/
def RB (z : FVec Ideal S128x3072 .f32) (wb : FVec Ideal S8x128x1024 .bf16) : FVec Ideal S128x32x2x128 .f32 :=
  shapeCast _ (transpose S128x8x1024 [2, 0, 1] (Host.dotGeneral dot_S8x128x1024_S128x8x128_S8x1024x128_1_2_2_0_0_1 none (extf .f32 wb bitsLt_bf16_f32) (shapeCast _ (extractStridedSlice S128x1024 ![0, 0] z slices_S128x3072_S128x1024_0_0) shapeCasts_S128x1024_S128x8x128)) transposes_S8x1024x128_S128x8x1024_2_0_1) shapeCasts_S128x8x1024_S128x32x2x128

/-- The real part of the new states, from the input's contribution. -/
def RR (r : FVec Ideal S128x4096 .f32) (i : FVec Ideal S128x4096 .f32) (ar : FVec Ideal S32x2x8x128 .f32) (b : FVec Ideal S128x32x2x128 .f32) : FVec Ideal S128x4096 .f32 :=
  addf (subf (mulf (broadcastInDim S128x4096 ![0, 1] bcast_S1x4096_S128x4096_0_1 (broadcastInDim S1x4096 ![1] bcast_S4096_S1x4096_1 (shapeCast _ (shapeCast _ (extractStridedSlice S32x1x1x128 ![0, 0, 1, 0] ar slices_S32x2x8x128_S32x1x1x128_0_0_1_0) shapeCasts_S32x1x1x128_S32x128) shapeCasts_S32x128_S4096))) r) (mulf (broadcastInDim S128x4096 ![0, 1] bcast_S1x4096_S128x4096_0_1 (broadcastInDim S1x4096 ![1] bcast_S4096_S1x4096_1 (shapeCast _ (shapeCast _ (extractStridedSlice S32x1x1x128 ![0, 1, 1, 0] ar slices_S32x2x8x128_S32x1x1x128_0_1_1_0) shapeCasts_S32x1x1x128_S32x128) shapeCasts_S32x128_S4096))) i)) (shapeCast _ (shapeCast _ (extractStridedSlice S128x32x1x128 ![0, 0, 0, 0] b slices_S128x32x2x128_S128x32x1x128_0_0_0_0) shapeCasts_S128x32x1x128_S128x32x128) shapeCasts_S128x32x128_S128x4096)

/-- The imaginary part of the new states, from the input's contribution. -/
def RI (r : FVec Ideal S128x4096 .f32) (i : FVec Ideal S128x4096 .f32) (ar : FVec Ideal S32x2x8x128 .f32) (b : FVec Ideal S128x32x2x128 .f32) : FVec Ideal S128x4096 .f32 :=
  addf (addf (mulf (broadcastInDim S128x4096 ![0, 1] bcast_S1x4096_S128x4096_0_1 (broadcastInDim S1x4096 ![1] bcast_S4096_S1x4096_1 (shapeCast _ (shapeCast _ (extractStridedSlice S32x1x1x128 ![0, 0, 1, 0] ar slices_S32x2x8x128_S32x1x1x128_0_0_1_0) shapeCasts_S32x1x1x128_S32x128) shapeCasts_S32x128_S4096))) i) (mulf (broadcastInDim S128x4096 ![0, 1] bcast_S1x4096_S128x4096_0_1 (broadcastInDim S1x4096 ![1] bcast_S4096_S1x4096_1 (shapeCast _ (shapeCast _ (extractStridedSlice S32x1x1x128 ![0, 1, 1, 0] ar slices_S32x2x8x128_S32x1x1x128_0_1_1_0) shapeCasts_S32x1x1x128_S32x128) shapeCasts_S32x128_S4096))) r)) (shapeCast _ (shapeCast _ (extractStridedSlice S128x32x1x128 ![0, 0, 1, 0] b slices_S128x32x2x128_S128x32x1x128_0_0_1_0) shapeCasts_S128x32x1x128_S128x32x128) shapeCasts_S128x32x128_S128x4096)

/-- The two parts of the new states, side by side in every group. -/
def RC (R : FVec Ideal S128x4096 .f32) (I : FVec Ideal S128x4096 .f32) : FVec Ideal S128x8x1024 .f32 :=
  shapeCast _ (concatenate S128x32x2x128 2 [⟨S128x32x1x128, (broadcastInDim S128x32x1x128 ![0, 1, 3] bcast_S128x32x128_S128x32x1x128_0_1_3 (shapeCast _ (R) shapeCasts_S128x4096_S128x32x128))⟩, ⟨S128x32x1x128, (broadcastInDim S128x32x1x128 ![0, 1, 3] bcast_S128x32x128_S128x32x1x128_0_1_3 (shapeCast _ (I) shapeCasts_S128x4096_S128x32x128))⟩] concatenates_S128x32x1x128_S128x32x1x128_S128x32x2x128_d2) shapeCasts_S128x32x2x128_S128x8x1024

/-- The output rows, from the new states. -/
def RY (z : FVec Ideal S128x3072 .f32) (wct : FVec Ideal S8x4x128x256 .bf16) (d : FVec Ideal S1x1024 .f32) (h : FVec Ideal S128x8x1024 .f32) : FVec Ideal S128x1024 .bf16 :=
  truncf .bf16 (mulf (addf (shapeCast _ (transpose S128x8x128 [2, 0, 1] (Host.dotGeneral dot_S8x128x1024_S128x8x1024_S8x128x128_2_2_1_0_0_1 none (shapeCast _ (transpose S8x128x4x256 [0, 2, 1, 3] (extf .f32 wct bitsLt_bf16_f32) transposes_S8x4x128x256_S8x128x4x256_0_2_1_3) shapeCasts_S8x128x4x256_S8x128x1024) h) transposes_S8x128x128_S128x8x128_2_0_1) shapeCasts_S128x8x128_S128x1024) (mulf (broadcastInDim S128x1024 ![0, 1] bcast_S1x1024_S128x1024_0_1 d) (extractStridedSlice S128x1024 ![0, 0] z slices_S128x3072_S128x1024_0_0))) (mulf (broadcastInDim S128x1024 ![] bcast_S_S128x1024 (constant S_ .f32 0x3F000000#32)) (addf (broadcastInDim S128x1024 ![] bcast_S_S128x1024 (constant S_ .f32 0x3F800000#32)) (Host.tanh (mulf (broadcastInDim S128x1024 ![] bcast_S_S128x1024 (constant S_ .f32 0x3F4C422A#32)) (addf (addf (shapeCast _ (transpose S128x8x128 [2, 0, 1] (Host.dotGeneral dot_S8x128x1024_S128x8x1024_S8x128x128_2_2_1_0_0_1 none (shapeCast _ (transpose S8x128x4x256 [0, 2, 1, 3] (extf .f32 wct bitsLt_bf16_f32) transposes_S8x4x128x256_S8x128x4x256_0_2_1_3) shapeCasts_S8x128x4x256_S8x128x1024) h) transposes_S8x128x128_S128x8x128_2_0_1) shapeCasts_S128x8x128_S128x1024) (mulf (broadcastInDim S128x1024 ![0, 1] bcast_S1x1024_S128x1024_0_1 d) (extractStridedSlice S128x1024 ![0, 0] z slices_S128x3072_S128x1024_0_0))) (mulf (broadcastInDim S128x1024 ![] bcast_S_S128x1024 (constant S_ .f32 0x3D372713#32)) (mulf (mulf (addf (shapeCast _ (transpose S128x8x128 [2, 0, 1] (Host.dotGeneral dot_S8x128x1024_S128x8x1024_S8x128x128_2_2_1_0_0_1 none (shapeCast _ (transpose S8x128x4x256 [0, 2, 1, 3] (extf .f32 wct bitsLt_bf16_f32) transposes_S8x4x128x256_S8x128x4x256_0_2_1_3) shapeCasts_S8x128x4x256_S8x128x1024) h) transposes_S8x128x128_S128x8x128_2_0_1) shapeCasts_S128x8x128_S128x1024) (mulf (broadcastInDim S128x1024 ![0, 1] bcast_S1x1024_S128x1024_0_1 d) (extractStridedSlice S128x1024 ![0, 0] z slices_S128x3072_S128x1024_0_0))) (addf (shapeCast _ (transpose S128x8x128 [2, 0, 1] (Host.dotGeneral dot_S8x128x1024_S128x8x1024_S8x128x128_2_2_1_0_0_1 none (shapeCast _ (transpose S8x128x4x256 [0, 2, 1, 3] (extf .f32 wct bitsLt_bf16_f32) transposes_S8x4x128x256_S8x128x4x256_0_2_1_3) shapeCasts_S8x128x4x256_S8x128x1024) h) transposes_S8x128x128_S128x8x128_2_0_1) shapeCasts_S128x8x128_S128x1024) (mulf (broadcastInDim S128x1024 ![0, 1] bcast_S1x1024_S128x1024_0_1 d) (extractStridedSlice S128x1024 ![0, 0] z slices_S128x3072_S128x1024_0_0)))) (addf (shapeCast _ (transpose S128x8x128 [2, 0, 1] (Host.dotGeneral dot_S8x128x1024_S128x8x1024_S8x128x128_2_2_1_0_0_1 none (shapeCast _ (transpose S8x128x4x256 [0, 2, 1, 3] (extf .f32 wct bitsLt_bf16_f32) transposes_S8x4x128x256_S8x128x4x256_0_2_1_3) shapeCasts_S8x128x4x256_S8x128x1024) h) transposes_S8x128x128_S128x8x128_2_0_1) shapeCasts_S128x8x128_S128x1024) (mulf (broadcastInDim S128x1024 ![0, 1] bcast_S1x1024_S128x1024_0_1 d) (extractStridedSlice S128x1024 ![0, 0] z slices_S128x3072_S128x1024_0_0))))))))))) bitsLt_bf16_f32

/-- The reference's second result. -/
def REFR (z : FVec Ideal S128x3072 .f32) (r : FVec Ideal S128x4096 .f32) (i : FVec Ideal S128x4096 .f32) (wb : FVec Ideal S8x128x1024 .bf16) (ar : FVec Ideal S32x2x8x128 .f32) : FVec Ideal S128x4096 .f32 := RR r i ar (RB z wb)

/-- The reference's third result. -/
def REFI (z : FVec Ideal S128x3072 .f32) (r : FVec Ideal S128x4096 .f32) (i : FVec Ideal S128x4096 .f32) (wb : FVec Ideal S8x128x1024 .bf16) (ar : FVec Ideal S32x2x8x128 .f32) : FVec Ideal S128x4096 .f32 := RI r i ar (RB z wb)

/-- The reference's first result. -/
def REFY (z : FVec Ideal S128x3072 .f32) (r : FVec Ideal S128x4096 .f32) (i : FVec Ideal S128x4096 .f32) (wb : FVec Ideal S8x128x1024 .bf16) (wct : FVec Ideal S8x4x128x256 .bf16) (ar : FVec Ideal S32x2x8x128 .f32) (d : FVec Ideal S1x1024 .f32) : FVec Ideal S128x1024 .bf16 :=
  RY z wct d (RC (REFR z r i wb ar) (REFI z r i wb ar))

theorem res_out (m : (ℓ : Loc nD τ sig) → Buf (Elt Ideal) ℓ) (c : Dev nD) : res_main_v62 m c = REFY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.S5StepRefIdeal.Value

end
-- ==== Proof.S5Step.RefRead.lean ====
/- The state-space step's reference, each stage read at an index. -/
module

public import proofs.«01_k».proof.Proof.S5Step.Ref

@[expose] public section

set_option maxRecDepth 16384

noncomputable section

namespace Cert.S5StepRefIdeal.Value

open Cert.S5StepRefIdeal Cert.S5StepRefIdeal.Gen Idealize.ShloMosaic Idealize.ShloMosaic.TcCoe Idealize.SL.Sem

variable (z : FVec Ideal S128x3072 .f32) (r i R I : FVec Ideal S128x4096 .f32) (wb : FVec Ideal S8x128x1024 .bf16)
  (wct : FVec Ideal S8x4x128x256 .bf16) (ar : FVec Ideal S32x2x8x128 .f32) (d : FVec Ideal S1x1024 .f32)

/-- The input's contribution to one part `p` of state `l` of the pair `g`. -/
theorem RB_eq (a : Fin 128) (g : Fin 32) (p : Fin 2) (l : Fin 128) : RB z wb (ix4 a g p l)
    = ∑ x : Fin 128, z (ix2 a ⟨g.val / 4 * 128 + x.val, by omega⟩) * wb (ix3 ⟨g.val / 4, by omega⟩ x ⟨g.val % 4 * 256 + p.val * 128 + l.val, by omega⟩) := by
  pointwise [RB]
  exact Finset.sum_congr rfl fun x _ => mul_comm _ _

/-- The real part of a new state. -/
theorem REFR_eq (a : Fin 128) (s : Fin 4096) : REFR z r i wb ar (ix2 a s)
    = ar (ix4 ⟨s.val / 128, by omega⟩ 0 1 ⟨s.val % 128, by omega⟩) * r (ix2 a s) - ar (ix4 ⟨s.val / 128, by omega⟩ 1 1 ⟨s.val % 128, by omega⟩) * i (ix2 a s)
      + ∑ x : Fin 128, z (ix2 a ⟨s.val / 128 / 4 * 128 + x.val, by omega⟩) * wb (ix3 ⟨s.val / 128 / 4, by omega⟩ x ⟨s.val / 128 % 4 * 256 + s.val % 128, by omega⟩) := by
  pointwise [REFR, RR]
  exact congrArg₂ (· + ·) rfl ((RB_eq z wb a _ 0 _).trans (by simp))

/-- The imaginary part of a new state. -/
theorem REFI_eq (a : Fin 128) (s : Fin 4096) : REFI z r i wb ar (ix2 a s)
    = ar (ix4 ⟨s.val / 128, by omega⟩ 0 1 ⟨s.val % 128, by omega⟩) * i (ix2 a s) + ar (ix4 ⟨s.val / 128, by omega⟩ 1 1 ⟨s.val % 128, by omega⟩) * r (ix2 a s)
      + ∑ x : Fin 128, z (ix2 a ⟨s.val / 128 / 4 * 128 + x.val, by omega⟩) * wb (ix3 ⟨s.val / 128 / 4, by omega⟩ x ⟨s.val / 128 % 4 * 256 + 128 + s.val % 128, by omega⟩) := by
  pointwise [REFI, RI]
  exact congrArg₂ (· + ·) rfl ((RB_eq z wb a _ 1 _).trans (by simp))

/-- A sum over a group's 1024 state parts, pair by pair and part by part. -/
theorem split (f : Fin 1024 → EReal) : ∑ x, f x
    = ∑ q : Fin 4, (∑ l : Fin 128, f ⟨q.val * 256 + l.val, by omega⟩ + ∑ l : Fin 128, f ⟨q.val * 256 + 128 + l.val, by omega⟩) := by
  have e : ∑ x, f x = ∑ q : Fin 4, ∑ y : Fin 256, f ⟨q.val * 256 + y.val, by omega⟩ := by
    rw [← Fintype.sum_prod_type', ← (finProdFinEquiv (m := 4) (n := 256)).sum_comp]
    exact Finset.sum_congr rfl fun p _ => congrArg f (Fin.ext (by simp [finProdFinEquiv]; omega))
  rw [e]
  refine Finset.sum_congr rfl fun q _ => ?_
  have e2 := Fin.sum_univ_add (a := 128) (b := 128) fun y : Fin 256 => f ⟨q.val * 256 + y.val, by omega⟩
  refine e2.trans (congrArg₂ (· + ·) rfl (Finset.sum_congr rfl fun l _ => congrArg f (Fin.ext ?_)))
  show q.val * 256 + (128 + l.val) = q.val * 256 + 128 + l.val
  omega

/-- The two parts of the new states, side by side. -/
theorem RC_eq (a : Fin 128) (g : Fin 8) (x : Fin 1024) : RC R I (ix3 a g x)
    = if x.val / 128 % 2 < 1 then R (ix2 a ⟨(g.val * 4 + x.val / 256) * 128 + x.val % 128, by omega⟩)
      else I (ix2 a ⟨(g.val * 4 + x.val / 256) * 128 + x.val % 128, by omega⟩) := by
  pointwise [RC]
  rfl

theorem RC_re (a : Fin 128) (g : Fin 8) (q : Fin 4) (l : Fin 128) (x : Fin 1024) (hx : x.val = q.val * 256 + l.val) :
    RC R I (ix3 a g x) = R (ix2 a ⟨g.val * 512 + q.val * 128 + l.val, by omega⟩) := by
  rw [RC_eq, if_pos (by omega)]
  exact congrArg R (congrArg (ix2 a) (Fin.ext (by simp only []; omega)))

theorem RC_im (a : Fin 128) (g : Fin 8) (q : Fin 4) (l : Fin 128) (x : Fin 1024) (hx : x.val = q.val * 256 + 128 + l.val) :
    RC R I (ix3 a g x) = I (ix2 a ⟨g.val * 512 + q.val * 128 + l.val, by omega⟩) := by
  rw [RC_eq, if_neg (by omega)]
  exact congrArg I (congrArg (ix2 a) (Fin.ext (by simp only []; omega)))

/-- The tanh form of the gaussian error unit. -/
def gel (y : EReal) : EReal :=
  y * (Ideal.ofBits FTy.f32 1056964608#32 * (1 + Ideal.tanh (Ideal.ofBits FTy.f32 1061962282#32 * (y + Ideal.ofBits FTy.f32 1027024659#32 * (y * (y * y))))))

/-- A pair's contribution to output channel `c` of group `g`. -/
def pair (a : Fin 128) (g : Fin 8) (c : Fin 128) (q : Fin 4) : EReal :=
  ∑ l : Fin 128, R (ix2 a ⟨g.val * 512 + q.val * 128 + l.val, by omega⟩) * wct (ix4 g q c ⟨l.val, by omega⟩)
    + ∑ l : Fin 128, I (ix2 a ⟨g.val * 512 + q.val * 128 + l.val, by omega⟩) * wct (ix4 g q c ⟨128 + l.val, by omega⟩)

/-- The output row, from the new states. -/
theorem RY_eq (a : Fin 128) (j : Fin 1024) : RY z wct d (RC R I) (ix2 a j)
    = gel (d (ix2 0 j) * z (ix2 a ⟨j.val, by omega⟩) + pair R I wct a ⟨j.val / 128, by omega⟩ ⟨j.val % 128, by omega⟩ 0
      + pair R I wct a ⟨j.val / 128, by omega⟩ ⟨j.val % 128, by omega⟩ 1 + pair R I wct a ⟨j.val / 128, by omega⟩ ⟨j.val % 128, by omega⟩ 2
      + pair R I wct a ⟨j.val / 128, by omega⟩ ⟨j.val % 128, by omega⟩ 3) := by
  pointwise [RY]
  have e : ∑ x : Fin 1024, wct (ix4 (⟨j.val / 128, by omega⟩ : Fin 8) (⟨x.val / 256, by omega⟩ : Fin 4) (⟨j.val % 128, by omega⟩ : Fin 128) (⟨x.val % 256, by omega⟩ : Fin 256))
        * RC R I (ix3 a ⟨j.val / 128, by omega⟩ x)
      = ∑ q : Fin 4, pair R I wct a ⟨j.val / 128, by omega⟩ ⟨j.val % 128, by omega⟩ q := by
    rw [split]
    refine Finset.sum_congr rfl fun q _ => congrArg₂ (· + ·) (Finset.sum_congr rfl fun l _ => ?_) (Finset.sum_congr rfl fun l _ => ?_)
    · rw [RC_re R I a _ q l _ rfl, mul_comm]
      refine congrArg₂ (· * ·) rfl (congrArg wct ?_)
      congr 1 <;> apply Fin.ext <;> simp only [] <;> omega
    · rw [RC_im R I a _ q l _ rfl, mul_comm]
      refine congrArg₂ (· * ·) rfl (congrArg wct ?_)
      congr 1 <;> apply Fin.ext <;> simp only [] <;> omega
  rw [e, Fin.sum_univ_four]
  unfold gel
  rw [mul_assoc (_ + _) (_ + _) (_ + _)]
  have c : ∀ p0 p1 p2 p3 u : EReal, p0 + p1 + p2 + p3 + u = u + p0 + p1 + p2 + p3 := fun p0 p1 p2 p3 u => by
    rw [add_comm _ u]; simp only [add_assoc]
  rw [c]

end Cert.S5StepRefIdeal.Value

end
-- ==== Proof.S5Step.Value.lean ====
/- The state-space step's three result arrays are the reference's terms over the argument arrays. -/
module

public import proofs.«01_k».proof.Proof.Gen.S5StepIdeal.Frame
public import proofs.«01_k».proof.Proof.S5Step.RefRead
public import Idealize.ShloMosaic.Lib.Pipeline.ValueKit

@[expose] public section

set_option maxRecDepth 16384

noncomputable section

namespace Cert.S5StepIdeal.Value

open Cert.S5StepIdeal Cert.S5StepIdeal.Gen Idealize.ShloMosaic Idealize.ShloMosaic.TcCoe Idealize.SL.Sem
open Idealize.ShloMosaic.Pipeline (Dat)
open Cert.S5StepRefIdeal.Value (REFR REFI REFY REFR_eq REFI_eq RY_eq gel pair)

variable (m : (ℓ : Loc nD τ sig) → Buf (Elt Ideal) ℓ)

/-- The windows' block indices at every grid point. -/
theorem idx : ∀ t : Fin cfg0.N, win0_0.index t = ![0, t.val] ∧ win0_1.index t = ![0, t.val] ∧ win0_2.index t = ![0, t.val]
    ∧ win0_3.index t = ![t.val, 0, 0] ∧ win0_4.index t = ![t.val, 0, 0, 0] ∧ win0_5.index t = ![t.val, 0, 0, 0] ∧ win0_6.index t = ![0, t.val]
    ∧ win0_7.index t = ![0, t.val] ∧ win0_8.index t = ![0, t.val] ∧ win0_9.index t = ![0, t.val] :=
  (by decide +kernel : ∀ t : Fin grid0.N, _)

abbrev AZ (c : Dev nD) : Vec Ideal S128x3072 .f32 := m ((c : Thread nD τ).loc main_arg0)
abbrev AR (c : Dev nD) : Vec Ideal S128x4096 .f32 := m ((c : Thread nD τ).loc main_arg1)
abbrev AI (c : Dev nD) : Vec Ideal S128x4096 .f32 := m ((c : Thread nD τ).loc main_arg2)
abbrev AWB (c : Dev nD) : Vec Ideal S8x128x1024 .bf16 := m ((c : Thread nD τ).loc main_arg3)
abbrev AWC (c : Dev nD) : Vec Ideal S8x4x128x256 .bf16 := m ((c : Thread nD τ).loc main_arg4)
abbrev AA (c : Dev nD) : Vec Ideal S32x2x8x128 .f32 := m ((c : Thread nD τ).loc main_arg5)
abbrev AD (c : Dev nD) : Vec Ideal S1x1024 .f32 := m ((c : Thread nD τ).loc main_arg6)

/-- The real parts of the states of pair 0 of a group. -/
theorem stR0 (c : Dev nD) (t : Fin cfg0.N) (a l : Fin 128) (s : Fin 4096) (hs : s.val = t.val * 512 + (0 + l.val)) :
    k0_pay5 (F := Ideal) (View.ld (iblk m c 0 t) r0_0) (View.ld (iblk m c 3 t) r0_1) (View.ld (iblk m c 5 t) r0_3) (View.ld (iblk m c 5 t) r0_4) (View.ld (iblk m c 1 t) r0_5) (View.ld (iblk m c 2 t) r0_5) (ix2 a l) = REFR (AZ m c) (AR m c) (AI m c) (AWB m c) (AA m c) (ix2 a s) := by
  have hN : t.val < 8 := lt_of_lt_of_eq t.isLt N_0
  rw [REFR_eq]
  pointwise [k0_pay5, k0_pay1, k0_pay3, k0_pay4]
  blk_point [iblk, V, idx t]

/-- The real parts of the states of pair 1 of a group. -/
theorem stR1 (c : Dev nD) (t : Fin cfg0.N) (a l : Fin 128) (s : Fin 4096) (hs : s.val = t.val * 512 + (128 + l.val)) :
    k0_pay10 (F := Ideal) (k0_pay23 (iblk m c 0 t) (iblk m c 1 t) (iblk m c 2 t) (iblk m c 3 t) (iblk m c 4 t) (iblk m c 5 t) (iblk m c 6 t)) (View.ld (iblk m c 5 t) r0_7) (View.ld (iblk m c 5 t) r0_8) (View.ld (iblk m c 1 t) r0_9) (View.ld (iblk m c 2 t) r0_9) (ix2 a l) = REFR (AZ m c) (AR m c) (AI m c) (AWB m c) (AA m c) (ix2 a s) := by
  have hN : t.val < 8 := lt_of_lt_of_eq t.isLt N_0
  rw [REFR_eq]
  pointwise [k0_pay10, k0_pay23, k0_pay1, k0_pay8, k0_pay9]
  blk_point [iblk, V, idx t]

/-- The real parts of the states of pair 2 of a group. -/
theorem stR2 (c : Dev nD) (t : Fin cfg0.N) (a l : Fin 128) (s : Fin 4096) (hs : s.val = t.val * 512 + (256 + l.val)) :
    k0_pay15 (F := Ideal) (k0_pay23 (iblk m c 0 t) (iblk m c 1 t) (iblk m c 2 t) (iblk m c 3 t) (iblk m c 4 t) (iblk m c 5 t) (iblk m c 6 t)) (View.ld (iblk m c 5 t) r0_11) (View.ld (iblk m c 5 t) r0_12) (View.ld (iblk m c 1 t) r0_13) (View.ld (iblk m c 2 t) r0_13) (ix2 a l) = REFR (AZ m c) (AR m c) (AI m c) (AWB m c) (AA m c) (ix2 a s) := by
  have hN : t.val < 8 := lt_of_lt_of_eq t.isLt N_0
  rw [REFR_eq]
  pointwise [k0_pay15, k0_pay23, k0_pay1, k0_pay13, k0_pay14]
  blk_point [iblk, V, idx t]

/-- The real parts of the states of pair 3 of a group. -/
theorem stR3 (c : Dev nD) (t : Fin cfg0.N) (a l : Fin 128) (s : Fin 4096) (hs : s.val = t.val * 512 + (384 + l.val)) :
    k0_pay20 (F := Ideal) (k0_pay23 (iblk m c 0 t) (iblk m c 1 t) (iblk m c 2 t) (iblk m c 3 t) (iblk m c 4 t) (iblk m c 5 t) (iblk m c 6 t)) (k0_pay24 (iblk m c 0 t) (iblk m c 1 t) (iblk m c 2 t) (iblk m c 3 t) (iblk m c 4 t) (iblk m c 5 t) (iblk m c 6 t)) (View.ld (iblk m c 5 t) r0_16) (View.ld (iblk m c 1 t) r0_17) (View.ld (iblk m c 2 t) r0_17) (ix2 a l) = REFR (AZ m c) (AR m c) (AI m c) (AWB m c) (AA m c) (ix2 a s) := by
  have hN : t.val < 8 := lt_of_lt_of_eq t.isLt N_0
  rw [REFR_eq]
  pointwise [k0_pay20, k0_pay23, k0_pay1, k0_pay24, k0_pay18, k0_pay19]
  blk_point [iblk, V, idx t]

/-- The imaginary parts of the states of pair 0 of a group. -/
theorem stI0 (c : Dev nD) (t : Fin cfg0.N) (a l : Fin 128) (s : Fin 4096) (hs : s.val = t.val * 512 + (0 + l.val)) :
    k0_pay6 (F := Ideal) (View.ld (iblk m c 0 t) r0_0) (View.ld (iblk m c 3 t) r0_1) (View.ld (iblk m c 5 t) r0_3) (View.ld (iblk m c 5 t) r0_4) (View.ld (iblk m c 1 t) r0_5) (View.ld (iblk m c 2 t) r0_5) (ix2 a l) = REFI (AZ m c) (AR m c) (AI m c) (AWB m c) (AA m c) (ix2 a s) := by
  have hN : t.val < 8 := lt_of_lt_of_eq t.isLt N_0
  rw [REFI_eq]
  pointwise [k0_pay6, k0_pay1, k0_pay3, k0_pay4]
  blk_point [iblk, V, idx t]

/-- The imaginary parts of the states of pair 1 of a group. -/
theorem stI1 (c : Dev nD) (t : Fin cfg0.N) (a l : Fin 128) (s : Fin 4096) (hs : s.val = t.val * 512 + (128 + l.val)) :
    k0_pay11 (F := Ideal) (k0_pay23 (iblk m c 0 t) (iblk m c 1 t) (iblk m c 2 t) (iblk m c 3 t) (iblk m c 4 t) (iblk m c 5 t) (iblk m c 6 t)) (View.ld (iblk m c 5 t) r0_7) (View.ld (iblk m c 5 t) r0_8) (View.ld (iblk m c 1 t) r0_9) (View.ld (iblk m c 2 t) r0_9) (ix2 a l) = REFI (AZ m c) (AR m c) (AI m c) (AWB m c) (AA m c) (ix2 a s) := by
  have hN : t.val < 8 := lt_of_lt_of_eq t.isLt N_0
  rw [REFI_eq]
  pointwise [k0_pay11, k0_pay23, k0_pay1, k0_pay8, k0_pay9]
  blk_point [iblk, V, idx t]

/-- The imaginary parts of the states of pair 2 of a group. -/
theorem stI2 (c : Dev nD) (t : Fin cfg0.N) (a l : Fin 128) (s : Fin 4096) (hs : s.val = t.val * 512 + (256 + l.val)) :
    k0_pay16 (F := Ideal) (k0_pay23 (iblk m c 0 t) (iblk m c 1 t) (iblk m c 2 t) (iblk m c 3 t) (iblk m c 4 t) (iblk m c 5 t) (iblk m c 6 t)) (View.ld (iblk m c 5 t) r0_11) (View.ld (iblk m c 5 t) r0_12) (View.ld (iblk m c 1 t) r0_13) (View.ld (iblk m c 2 t) r0_13) (ix2 a l) = REFI (AZ m c) (AR m c) (AI m c) (AWB m c) (AA m c) (ix2 a s) := by
  have hN : t.val < 8 := lt_of_lt_of_eq t.isLt N_0
  rw [REFI_eq]
  pointwise [k0_pay16, k0_pay23, k0_pay1, k0_pay13, k0_pay14]
  blk_point [iblk, V, idx t]

/-- The imaginary parts of the states of pair 3 of a group. -/
theorem stI3 (c : Dev nD) (t : Fin cfg0.N) (a l : Fin 128) (s : Fin 4096) (hs : s.val = t.val * 512 + (384 + l.val)) :
    k0_pay21 (F := Ideal) (k0_pay23 (iblk m c 0 t) (iblk m c 1 t) (iblk m c 2 t) (iblk m c 3 t) (iblk m c 4 t) (iblk m c 5 t) (iblk m c 6 t)) (k0_pay24 (iblk m c 0 t) (iblk m c 1 t) (iblk m c 2 t) (iblk m c 3 t) (iblk m c 4 t) (iblk m c 5 t) (iblk m c 6 t)) (View.ld (iblk m c 5 t) r0_16) (View.ld (iblk m c 1 t) r0_17) (View.ld (iblk m c 2 t) r0_17) (ix2 a l) = REFI (AZ m c) (AR m c) (AI m c) (AWB m c) (AA m c) (ix2 a s) := by
  have hN : t.val < 8 := lt_of_lt_of_eq t.isLt N_0
  rw [REFI_eq]
  pointwise [k0_pay21, k0_pay23, k0_pay1, k0_pay24, k0_pay18, k0_pay19]
  blk_point [iblk, V, idx t]

/-- One more pair's contribution to an output channel. -/
theorem y17 (v4 : FVec Ideal S128x1024 .f32) (v63 : FVec Ideal S128x128 .f32) (v64 v66 : Vec Ideal S1x1x1x128 .f32) (v68 v69 : Vec Ideal S128x128 .f32) (v88 : Vec Ideal S1x1x128x256 .bf16) (a l : Fin 128) :
    k0_pay17 (F := Ideal) v4 v63 v64 v66 v68 v69 v88 (ix2 a l) = v63 (ix2 a l) + (∑ x : Fin 128, k0_pay15 (F := Ideal) v4 v64 v66 v68 v69 (ix2 a x) * v88 (ix4 0 0 l ⟨x.val, by omega⟩) + ∑ x : Fin 128, k0_pay16 (F := Ideal) v4 v64 v66 v68 v69 (ix2 a x) * v88 (ix4 0 0 l ⟨128 + x.val, by omega⟩)) := by
  pointwise [k0_pay17]

/-- The last pair's contribution, and the error unit over the whole row. -/
theorem y22 (v4 : FVec Ideal S128x1024 .f32) (v91 : FVec Ideal S128x128 .f32) (v93 : FVec Ideal S1x128 .f32) (v94 : Vec Ideal S1x1x1x128 .f32) (v96 v97 : Vec Ideal S128x128 .f32) (v116 : Vec Ideal S1x1x128x256 .bf16) (a l : Fin 128) :
    k0_pay22 (F := Ideal) v4 v91 v93 v94 v96 v97 v116 (ix2 a l)
      = gel (v91 (ix2 a l) + (∑ x : Fin 128, k0_pay20 (F := Ideal) v4 v93 v94 v96 v97 (ix2 a x) * v116 (ix4 0 0 l ⟨x.val, by omega⟩) + ∑ x : Fin 128, k0_pay21 (F := Ideal) v4 v93 v94 v96 v97 (ix2 a x) * v116 (ix4 0 0 l ⟨128 + x.val, by omega⟩))) := by
  pointwise [k0_pay22]
  rfl

/-- The first two pairs' contributions over the skip term. -/
theorem y12 (v4 : FVec Ideal S128x1024 .f32) (v0 v12 v13 : Vec Ideal S128x128 .f32) (v2 : Vec Ideal S1x128x1024 .bf16) (v5 : Vec Ideal S1x128 .f32) (v8 v10 v36 v38 : Vec Ideal S1x1x1x128 .f32) (v40 v41 : Vec Ideal S128x128 .f32) (v32 v60 : Vec Ideal S1x1x128x256 .bf16) (a l : Fin 128) :
    k0_pay12 (F := Ideal) v4 (k0_pay2 v0 v5) (k0_pay7 v0 v2 v8 v10 v12 v13) v32 v36 v38 v40 v41 v60 (ix2 a l)
      = v5 (ix2 0 l) * v0 (ix2 a l) + (∑ x : Fin 128, k0_pay5 (F := Ideal) v0 v2 v8 v10 v12 v13 (ix2 a x) * v32 (ix4 0 0 l ⟨x.val, by omega⟩) + ∑ x : Fin 128, k0_pay6 (F := Ideal) v0 v2 v8 v10 v12 v13 (ix2 a x) * v32 (ix4 0 0 l ⟨128 + x.val, by omega⟩))
        + (∑ x : Fin 128, k0_pay10 (F := Ideal) v4 v36 v38 v40 v41 (ix2 a x) * v60 (ix4 0 0 l ⟨x.val, by omega⟩) + ∑ x : Fin 128, k0_pay11 (F := Ideal) v4 v36 v38 v40 v41 (ix2 a x) * v60 (ix4 0 0 l ⟨128 + x.val, by omega⟩)) := by
  pointwise [k0_pay12, k0_pay2, k0_pay7]

/-- The output weights of pair 0. -/
theorem w0 (c : Dev nD) (t : Fin cfg0.N) (g : Fin 8) (hg : g.val = t.val) (l : Fin 128) (x : Fin 256) :
    (View.ld (iblk m c 4 t) r0_6) (ix4 0 0 l x) = AWC m c (ix4 g 0 l x) := by
  blk_point [iblk, V, idx t]

/-- The contribution of pair 0 to an output channel is the reference's. -/
theorem pair0 (c : Dev nD) (t : Fin cfg0.N) (g : Fin 8) (hg : g.val = t.val) (a l : Fin 128) :
    (∑ x : Fin 128, k0_pay5 (F := Ideal) (View.ld (iblk m c 0 t) r0_0) (View.ld (iblk m c 3 t) r0_1) (View.ld (iblk m c 5 t) r0_3) (View.ld (iblk m c 5 t) r0_4) (View.ld (iblk m c 1 t) r0_5) (View.ld (iblk m c 2 t) r0_5) (ix2 a x) * (View.ld (iblk m c 4 t) r0_6) (ix4 0 0 l ⟨x.val, by omega⟩) + ∑ x : Fin 128, k0_pay6 (F := Ideal) (View.ld (iblk m c 0 t) r0_0) (View.ld (iblk m c 3 t) r0_1) (View.ld (iblk m c 5 t) r0_3) (View.ld (iblk m c 5 t) r0_4) (View.ld (iblk m c 1 t) r0_5) (View.ld (iblk m c 2 t) r0_5) (ix2 a x) * (View.ld (iblk m c 4 t) r0_6) (ix4 0 0 l ⟨128 + x.val, by omega⟩)) = pair (REFR (AZ m c) (AR m c) (AI m c) (AWB m c) (AA m c)) (REFI (AZ m c) (AR m c) (AI m c) (AWB m c) (AA m c)) (AWC m c) a g l 0 :=
  congrArg₂ (· + ·)
    (Finset.sum_congr rfl fun x _ => congrArg₂ (· * ·) (stR0 m c t a x ⟨g.val * 512 + ((0 : Fin 4).val) * 128 + x.val, by omega⟩ (by simp only [hg]; omega)) (w0 m c t g hg l _))
    (Finset.sum_congr rfl fun x _ => congrArg₂ (· * ·) (stI0 m c t a x ⟨g.val * 512 + ((0 : Fin 4).val) * 128 + x.val, by omega⟩ (by simp only [hg]; omega)) (w0 m c t g hg l _))

/-- The output weights of pair 1. -/
theorem w1 (c : Dev nD) (t : Fin cfg0.N) (g : Fin 8) (hg : g.val = t.val) (l : Fin 128) (x : Fin 256) :
    (View.ld (iblk m c 4 t) r0_10) (ix4 0 0 l x) = AWC m c (ix4 g 1 l x) := by
  blk_point [iblk, V, idx t]

/-- The contribution of pair 1 to an output channel is the reference's. -/
theorem pair1 (c : Dev nD) (t : Fin cfg0.N) (g : Fin 8) (hg : g.val = t.val) (a l : Fin 128) :
    (∑ x : Fin 128, k0_pay10 (F := Ideal) (k0_pay23 (iblk m c 0 t) (iblk m c 1 t) (iblk m c 2 t) (iblk m c 3 t) (iblk m c 4 t) (iblk m c 5 t) (iblk m c 6 t)) (View.ld (iblk m c 5 t) r0_7) (View.ld (iblk m c 5 t) r0_8) (View.ld (iblk m c 1 t) r0_9) (View.ld (iblk m c 2 t) r0_9) (ix2 a x) * (View.ld (iblk m c 4 t) r0_10) (ix4 0 0 l ⟨x.val, by omega⟩) + ∑ x : Fin 128, k0_pay11 (F := Ideal) (k0_pay23 (iblk m c 0 t) (iblk m c 1 t) (iblk m c 2 t) (iblk m c 3 t) (iblk m c 4 t) (iblk m c 5 t) (iblk m c 6 t)) (View.ld (iblk m c 5 t) r0_7) (View.ld (iblk m c 5 t) r0_8) (View.ld (iblk m c 1 t) r0_9) (View.ld (iblk m c 2 t) r0_9) (ix2 a x) * (View.ld (iblk m c 4 t) r0_10) (ix4 0 0 l ⟨128 + x.val, by omega⟩)) = pair (REFR (AZ m c) (AR m c) (AI m c) (AWB m c) (AA m c)) (REFI (AZ m c) (AR m c) (AI m c) (AWB m c) (AA m c)) (AWC m c) a g l 1 :=
  congrArg₂ (· + ·)
    (Finset.sum_congr rfl fun x _ => congrArg₂ (· * ·) (stR1 m c t a x ⟨g.val * 512 + ((1 : Fin 4).val) * 128 + x.val, by omega⟩ (by simp only [hg]; omega)) (w1 m c t g hg l _))
    (Finset.sum_congr rfl fun x _ => congrArg₂ (· * ·) (stI1 m c t a x ⟨g.val * 512 + ((1 : Fin 4).val) * 128 + x.val, by omega⟩ (by simp only [hg]; omega)) (w1 m c t g hg l _))

/-- The output weights of pair 2. -/
theorem w2 (c : Dev nD) (t : Fin cfg0.N) (g : Fin 8) (hg : g.val = t.val) (l : Fin 128) (x : Fin 256) :
    (View.ld (iblk m c 4 t) r0_14) (ix4 0 0 l x) = AWC m c (ix4 g 2 l x) := by
  blk_point [iblk, V, idx t]

/-- The contribution of pair 2 to an output channel is the reference's. -/
theorem pair2 (c : Dev nD) (t : Fin cfg0.N) (g : Fin 8) (hg : g.val = t.val) (a l : Fin 128) :
    (∑ x : Fin 128, k0_pay15 (F := Ideal) (k0_pay23 (iblk m c 0 t) (iblk m c 1 t) (iblk m c 2 t) (iblk m c 3 t) (iblk m c 4 t) (iblk m c 5 t) (iblk m c 6 t)) (View.ld (iblk m c 5 t) r0_11) (View.ld (iblk m c 5 t) r0_12) (View.ld (iblk m c 1 t) r0_13) (View.ld (iblk m c 2 t) r0_13) (ix2 a x) * (View.ld (iblk m c 4 t) r0_14) (ix4 0 0 l ⟨x.val, by omega⟩) + ∑ x : Fin 128, k0_pay16 (F := Ideal) (k0_pay23 (iblk m c 0 t) (iblk m c 1 t) (iblk m c 2 t) (iblk m c 3 t) (iblk m c 4 t) (iblk m c 5 t) (iblk m c 6 t)) (View.ld (iblk m c 5 t) r0_11) (View.ld (iblk m c 5 t) r0_12) (View.ld (iblk m c 1 t) r0_13) (View.ld (iblk m c 2 t) r0_13) (ix2 a x) * (View.ld (iblk m c 4 t) r0_14) (ix4 0 0 l ⟨128 + x.val, by omega⟩)) = pair (REFR (AZ m c) (AR m c) (AI m c) (AWB m c) (AA m c)) (REFI (AZ m c) (AR m c) (AI m c) (AWB m c) (AA m c)) (AWC m c) a g l 2 :=
  congrArg₂ (· + ·)
    (Finset.sum_congr rfl fun x _ => congrArg₂ (· * ·) (stR2 m c t a x ⟨g.val * 512 + ((2 : Fin 4).val) * 128 + x.val, by omega⟩ (by simp only [hg]; omega)) (w2 m c t g hg l _))
    (Finset.sum_congr rfl fun x _ => congrArg₂ (· * ·) (stI2 m c t a x ⟨g.val * 512 + ((2 : Fin 4).val) * 128 + x.val, by omega⟩ (by simp only [hg]; omega)) (w2 m c t g hg l _))

/-- The output weights of pair 3. -/
theorem w3 (c : Dev nD) (t : Fin cfg0.N) (g : Fin 8) (hg : g.val = t.val) (l : Fin 128) (x : Fin 256) :
    (View.ld (iblk m c 4 t) r0_18) (ix4 0 0 l x) = AWC m c (ix4 g 3 l x) := by
  blk_point [iblk, V, idx t]

/-- The contribution of pair 3 to an output channel is the reference's. -/
theorem pair3 (c : Dev nD) (t : Fin cfg0.N) (g : Fin 8) (hg : g.val = t.val) (a l : Fin 128) :
    (∑ x : Fin 128, k0_pay20 (F := Ideal) (k0_pay23 (iblk m c 0 t) (iblk m c 1 t) (iblk m c 2 t) (iblk m c 3 t) (iblk m c 4 t) (iblk m c 5 t) (iblk m c 6 t)) (k0_pay24 (iblk m c 0 t) (iblk m c 1 t) (iblk m c 2 t) (iblk m c 3 t) (iblk m c 4 t) (iblk m c 5 t) (iblk m c 6 t)) (View.ld (iblk m c 5 t) r0_16) (View.ld (iblk m c 1 t) r0_17) (View.ld (iblk m c 2 t) r0_17) (ix2 a x) * (View.ld (iblk m c 4 t) r0_18) (ix4 0 0 l ⟨x.val, by omega⟩) + ∑ x : Fin 128, k0_pay21 (F := Ideal) (k0_pay23 (iblk m c 0 t) (iblk m c 1 t) (iblk m c 2 t) (iblk m c 3 t) (iblk m c 4 t) (iblk m c 5 t) (iblk m c 6 t)) (k0_pay24 (iblk m c 0 t) (iblk m c 1 t) (iblk m c 2 t) (iblk m c 3 t) (iblk m c 4 t) (iblk m c 5 t) (iblk m c 6 t)) (View.ld (iblk m c 5 t) r0_16) (View.ld (iblk m c 1 t) r0_17) (View.ld (iblk m c 2 t) r0_17) (ix2 a x) * (View.ld (iblk m c 4 t) r0_18) (ix4 0 0 l ⟨128 + x.val, by omega⟩)) = pair (REFR (AZ m c) (AR m c) (AI m c) (AWB m c) (AA m c)) (REFI (AZ m c) (AR m c) (AI m c) (AWB m c) (AA m c)) (AWC m c) a g l 3 :=
  congrArg₂ (· + ·)
    (Finset.sum_congr rfl fun x _ => congrArg₂ (· * ·) (stR3 m c t a x ⟨g.val * 512 + ((3 : Fin 4).val) * 128 + x.val, by omega⟩ (by simp only [hg]; omega)) (w3 m c t g hg l _))
    (Finset.sum_congr rfl fun x _ => congrArg₂ (· * ·) (stI3 m c t a x ⟨g.val * 512 + ((3 : Fin 4).val) * 128 + x.val, by omega⟩ (by simp only [hg]; omega)) (w3 m c t g hg l _))

/-- The buffer of the states' real parts after the body. -/
theorem out8 (c : Dev nD) (t : Fin cfg0.N) (x : S128x512.Idx) (i : S128x4096.Idx) (h0 : (i 0 : ℕ) = x 0) (h1 : (i 1 : ℕ) = t.val * 512 + x 1) :
    out0_8 (F := Ideal) (iblk m c 0 t) (iblk m c 1 t) (iblk m c 2 t) (iblk m c 3 t) (iblk m c 4 t) (iblk m c 5 t) (iblk m c 6 t) x = REFR (AZ m c) (AR m c) (AI m c) (AWB m c) (AA m c) i := by
  obtain ⟨a', s, rfl⟩ : ∃ a s, i = ix2 a s := ⟨_, _, eq_ix2 i⟩
  replace h0 : (a' : ℕ) = x 0 := h0
  replace h1 : (s : ℕ) = t.val * 512 + x 1 := h1
  unfold out0_8
  canon_tiles x h
  · obtain ⟨a, l, rfl⟩ : ∃ a l, x = ix2 a l := ⟨_, _, eq_ix2 x⟩
    obtain rfl : a' = a := Fin.ext (by simp_all)
    exact stR3 m c t a' l s (by simp_all)
  · obtain ⟨a, l, rfl⟩ : ∃ a l, x = ix2 a l := ⟨_, _, eq_ix2 x⟩
    obtain rfl : a' = a := Fin.ext (by simp_all)
    exact stR2 m c t a' l s (by simp_all)
  · obtain ⟨a, l, rfl⟩ : ∃ a l, x = ix2 a l := ⟨_, _, eq_ix2 x⟩
    obtain rfl : a' = a := Fin.ext (by simp_all)
    exact stR1 m c t a' l s (by simp_all)
  · obtain ⟨a, l, rfl⟩ : ∃ a l, x = ix2 a l := ⟨_, _, eq_ix2 x⟩
    obtain rfl : a' = a := Fin.ext (by simp_all)
    exact stR0 m c t a' l s (by simp_all)

/-- The buffer of the states' imaginary parts after the body. -/
theorem out9 (c : Dev nD) (t : Fin cfg0.N) (x : S128x512.Idx) (i : S128x4096.Idx) (h0 : (i 0 : ℕ) = x 0) (h1 : (i 1 : ℕ) = t.val * 512 + x 1) :
    out0_9 (F := Ideal) (iblk m c 0 t) (iblk m c 1 t) (iblk m c 2 t) (iblk m c 3 t) (iblk m c 4 t) (iblk m c 5 t) (iblk m c 6 t) x = REFI (AZ m c) (AR m c) (AI m c) (AWB m c) (AA m c) i := by
  obtain ⟨a', s, rfl⟩ : ∃ a s, i = ix2 a s := ⟨_, _, eq_ix2 i⟩
  replace h0 : (a' : ℕ) = x 0 := h0
  replace h1 : (s : ℕ) = t.val * 512 + x 1 := h1
  unfold out0_9
  canon_tiles x h
  · obtain ⟨a, l, rfl⟩ : ∃ a l, x = ix2 a l := ⟨_, _, eq_ix2 x⟩
    obtain rfl : a' = a := Fin.ext (by simp_all)
    exact stI3 m c t a' l s (by simp_all)
  · obtain ⟨a, l, rfl⟩ : ∃ a l, x = ix2 a l := ⟨_, _, eq_ix2 x⟩
    obtain rfl : a' = a := Fin.ext (by simp_all)
    exact stI2 m c t a' l s (by simp_all)
  · obtain ⟨a, l, rfl⟩ : ∃ a l, x = ix2 a l := ⟨_, _, eq_ix2 x⟩
    obtain rfl : a' = a := Fin.ext (by simp_all)
    exact stI1 m c t a' l s (by simp_all)
  · obtain ⟨a, l, rfl⟩ : ∃ a l, x = ix2 a l := ⟨_, _, eq_ix2 x⟩
    obtain rfl : a' = a := Fin.ext (by simp_all)
    exact stI0 m c t a' l s (by simp_all)

/-- The output buffer after the body. -/
theorem out7 (c : Dev nD) (t : Fin cfg0.N) (x : S128x128.Idx) (i : S128x1024.Idx) (h0 : (i 0 : ℕ) = x 0) (h1 : (i 1 : ℕ) = t.val * 128 + x 1) :
    out0_7 (F := Ideal) (iblk m c 0 t) (iblk m c 1 t) (iblk m c 2 t) (iblk m c 3 t) (iblk m c 4 t) (iblk m c 5 t) (iblk m c 6 t) x = REFY (AZ m c) (AR m c) (AI m c) (AWB m c) (AWC m c) (AA m c) (AD m c) i := by
  have hN : t.val < 8 := lt_of_lt_of_eq t.isLt N_0
  obtain ⟨a', j, rfl⟩ : ∃ a s, i = ix2 a s := ⟨_, _, eq_ix2 i⟩
  replace h0 : (a' : ℕ) = x 0 := h0
  replace h1 : (j : ℕ) = t.val * 128 + x 1 := h1
  unfold out0_7
  canon_tiles x h
  obtain ⟨a, l, rfl⟩ : ∃ a l, x = ix2 a l := ⟨_, _, eq_ix2 x⟩
  obtain rfl : a' = a := Fin.ext (by simp_all)
  have hj : j.val = t.val * 128 + l.val := by simp_all
  have hl : (⟨j.val % 128, by omega⟩ : Fin 128) = l := Fin.ext (by simp only []; omega)
  have hg : j.val / 128 = t.val := by omega
  unfold REFY
  rw [RY_eq, hl]
  refine (y22 _ _ _ _ _ _ _ a' l).trans (congrArg gel ?_)
  refine congrArg₂ (· + ·) ((y17 _ _ _ _ _ _ _ a' l).trans ?_) (pair3 m c t _ hg a' l)
  refine congrArg₂ (· + ·) ((y12 _ _ _ _ _ _ _ _ _ _ _ _ _ _ a' l).trans ?_) (pair2 m c t _ hg a' l)
  refine congrArg₂ (· + ·) (congrArg₂ (· + ·) ?_ (pair0 m c t _ hg a' l)) (pair1 m c t _ hg a' l)
  blk_point [iblk, V, idx t]

/-- The first result array of the launch. -/
theorem final7 (c : Dev nD) : (dats m 0 c).arrAt 7 (cfgs 0).N = REFY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  refine out7 m c t y _ ?_ ?_
  all_goals (blk_simp [idx t] <;> try omega)

/-- The second result array of the launch. -/
theorem final8 (c : Dev nD) : (dats m 0 c).arrAt 8 (cfgs 0).N = REFR (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 8 _ (by decide +kernel) fun t hf y => ?_
  blk_simp
  rw [after0_8]
  refine out8 m c t y _ ?_ ?_
  all_goals (blk_simp [idx t] <;> try omega)

/-- The third result array of the launch. -/
theorem final9 (c : Dev nD) : (dats m 0 c).arrAt 9 (cfgs 0).N = REFI (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t hf y => ?_
  blk_simp
  rw [after0_9]
  refine out9 m c t y _ ?_ ?_
  all_goals (blk_simp [idx t] <;> try omega)

end Cert.S5StepIdeal.Value

end
-- ==== Proof.S5Step.Claims.lean ====
/- The five claims about one step of the diagonal state-space layer: its frames and its value. -/
module

public import proofs.«01_k».proof.Defs
public import proofs.«01_k».proof.Proof.Gen.S5Step.Frame
public import proofs.«01_k».proof.Proof.S5Step.Value
public import Idealize.ShloMosaic.Lib.Claim

@[expose] public section

set_option maxRecDepth 16384

noncomputable section

namespace Cert.S5StepClaims

open Idealize.ShloMosaic Idealize.ShloMosaic.TcCoe Idealize.SL.Sem
open Cert.S5StepRefIdeal.Value (REFY REFR REFI res_out)

/-- The kernel ends with its arguments and semaphores unchanged, as printed. -/
theorem frame : Cert.quiescent_S5Step := fun m g _ => Cert.S5Step.Gen.frame m g

/-- The same at exact operations. -/
theorem frame_ideal : Cert.quiescent_S5StepIdeal := fun m g _ => Cert.S5StepIdeal.Gen.frame m g

/-- The reference ends with its arguments unchanged; it declares no semaphore. -/
theorem frame_ref : Cert.quiescent_S5StepRefIdeal := fun m g _ =>
  (θ_run Cert.S5StepRefIdeal.defs _ _).mono (fun r h => ⟨fun c => (h c).2.2.2, sem_eq_zero_of_no_sems (by decide) r.2⟩)
    (Cert.S5StepRefIdeal.Value.run (F := Ideal) m g)

/-- The idealized program is the printed one. -/
theorem preserves : Cert.preserves_S5Step_S5StepIdeal := trivial

/-- At exact operations the kernel's three results are the reference's. -/
theorem algebraic : Cert.algebraic_S5StepIdeal_S5StepRefIdeal := by
  intro m g m' g' hpre hagree
  refine ⟨fun c => (Cert.S5StepIdeal.Gen.dats m 0 c).arrAt 7 (Cert.S5StepIdeal.cfgs 0).N,
    fun c => (Cert.S5StepIdeal.Gen.dats m 0 c).arrAt 8 (Cert.S5StepIdeal.cfgs 0).N,
    fun c => (Cert.S5StepIdeal.Gen.dats m 0 c).arrAt 9 (Cert.S5StepIdeal.cfgs 0).N, ?_, ?_⟩
  · exact θ_run_mono (θ_run_and (Cert.S5StepIdeal.Gen.run_main m g) (Cert.S5StepIdeal.Gen.frame m g)) fun r hr c =>
      ⟨(hr.1 c).1 7, (hr.1 c).1 8, (hr.1 c).1 9, hr.2.1 c⟩
  · refine (θ_run Cert.S5StepRefIdeal.defs _ _).mono (fun r h c => ⟨(h c).1.trans ?_, (h c).2.1.trans ?_, (h c).2.2.1.trans ?_, (h c).2.2.2⟩)
      (Cert.S5StepRefIdeal.Value.run (F := Ideal) m' g')
    · refine (res_out m' c).trans ?_
      show REFY (m' ((c.tc : Thread Cert.S5StepRefIdeal.nD Cert.S5StepRefIdeal.τ).loc Cert.S5StepRefIdeal.main_arg0)) (m' ((c.tc : Thread Cert.S5StepRefIdeal.nD Cert.S5StepRefIdeal.τ).loc Cert.S5StepRefIdeal.main_arg1)) (m' ((c.tc : Thread Cert.S5StepRefIdeal.nD Cert.S5StepRefIdeal.τ).loc Cert.S5StepRefIdeal.main_arg2)) (m' ((c.tc : Thread Cert.S5StepRefIdeal.nD Cert.S5StepRefIdeal.τ).loc Cert.S5StepRefIdeal.main_arg3)) (m' ((c.tc : Thread Cert.S5StepRefIdeal.nD Cert.S5StepRefIdeal.τ).loc Cert.S5StepRefIdeal.main_arg4)) (m' ((c.tc : Thread Cert.S5StepRefIdeal.nD Cert.S5StepRefIdeal.τ).loc Cert.S5StepRefIdeal.main_arg5)) (m' ((c.tc : Thread Cert.S5StepRefIdeal.nD Cert.S5StepRefIdeal.τ).loc Cert.S5StepRefIdeal.main_arg6)) = _
      obtain ⟨e0, e1, e2, e3, e4, e5, e6⟩ := hagree c
      rw [e0, e1, e2, e3, e4, e5, e6]
      exact (Cert.S5StepIdeal.Value.final7 m c).symm
    · show REFR (m' ((c.tc : Thread Cert.S5StepRefIdeal.nD Cert.S5StepRefIdeal.τ).loc Cert.S5StepRefIdeal.main_arg0)) (m' ((c.tc : Thread Cert.S5StepRefIdeal.nD Cert.S5StepRefIdeal.τ).loc Cert.S5StepRefIdeal.main_arg1)) (m' ((c.tc : Thread Cert.S5StepRefIdeal.nD Cert.S5StepRefIdeal.τ).loc Cert.S5StepRefIdeal.main_arg2)) (m' ((c.tc : Thread Cert.S5StepRefIdeal.nD Cert.S5StepRefIdeal.τ).loc Cert.S5StepRefIdeal.main_arg3)) (m' ((c.tc : Thread Cert.S5StepRefIdeal.nD Cert.S5StepRefIdeal.τ).loc Cert.S5StepRefIdeal.main_arg5)) = _
      obtain ⟨e0, e1, e2, e3, e4, e5, e6⟩ := hagree c
      rw [e0, e1, e2, e3, e5]
      exact (Cert.S5StepIdeal.Value.final8 m c).symm
    · show REFI (m' ((c.tc : Thread Cert.S5StepRefIdeal.nD Cert.S5StepRefIdeal.τ).loc Cert.S5StepRefIdeal.main_arg0)) (m' ((c.tc : Thread Cert.S5StepRefIdeal.nD Cert.S5StepRefIdeal.τ).loc Cert.S5StepRefIdeal.main_arg1)) (m' ((c.tc : Thread Cert.S5StepRefIdeal.nD Cert.S5StepRefIdeal.τ).loc Cert.S5StepRefIdeal.main_arg2)) (m' ((c.tc : Thread Cert.S5StepRefIdeal.nD Cert.S5StepRefIdeal.τ).loc Cert.S5StepRefIdeal.main_arg3)) (m' ((c.tc : Thread Cert.S5StepRefIdeal.nD Cert.S5StepRefIdeal.τ).loc Cert.S5StepRefIdeal.main_arg5)) = _
      obtain ⟨e0, e1, e2, e3, e4, e5, e6⟩ := hagree c
      rw [e0, e1, e2, e3, e5]
      exact (Cert.S5StepIdeal.Value.final9 m c).symm

end Cert.S5StepClaims

end
-- ==== Proof.Mlp.Points.lean ====
module

public import proofs.«01_k».proof.Proof.Gen.MlpIdeal.Skeleton
public import proofs.«01_k».proof.Proof.Gen.MlpIdeal.Frame

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The hidden block is the first one at the points divisible by eight. -/
theorem first_iff (t : Fin cfg0.N) : k0_cond1 (grid0.coords t) = 1#1 ↔ t.val % 8 = 0 := by
  have ht : t.val < 128 := Nat.lt_of_lt_of_eq t.isLt N_0
  have e1 : (grid0.coords t 1).val = t.val / 1 % 8 := Pipeline.Grid.coords_val t 1 (by decide) rfl
  simp only [k0_cond1, e1]
  word_cmp

/-- The hidden block is a later one at every other point. -/
theorem later_iff : ∀ t : Fin cfg0.N, k0_cond2 (grid0.coords t) = 1#1 ↔ 1 ≤ t.val % 8 :=
  (by decide +kernel : ∀ t : Fin grid0.N, k0_cond2 (grid0.coords t) = 1#1 ↔ 1 ≤ t.val % 8)

/-- The rows of the single step are computed beside the last row tile: from point 120 on. -/
theorem last_iff (t : Fin cfg0.N) : k0_cond3 (grid0.coords t) = 1#1 ↔ 120 ≤ t.val := by
  have ht : t.val < 128 := Nat.lt_of_lt_of_eq t.isLt N_0
  have e0 : (grid0.coords t 0).val = t.val / 8 % 16 := Pipeline.Grid.coords_val t 0 (by decide) rfl
  simp only [k0_cond3, e0]
  word_cmp

/-- The same first-block condition, as the single-step part of the body tests it. -/
theorem firstS_iff (t : Fin cfg0.N) : k0_cond4 (grid0.coords t) = 1#1 ↔ t.val % 8 = 0 := by
  have ht : t.val < 128 := Nat.lt_of_lt_of_eq t.isLt N_0
  have e1 : (grid0.coords t 1).val = t.val / 1 % 8 := Pipeline.Grid.coords_val t 1 (by decide) rfl
  simp only [k0_cond4, e1]
  word_cmp

/-- The same later-block condition, as the single-step part of the body tests it. -/
theorem laterS_iff : ∀ t : Fin cfg0.N, k0_cond5 (grid0.coords t) = 1#1 ↔ 1 ≤ t.val % 8 :=
  (by decide +kernel : ∀ t : Fin grid0.N, k0_cond5 (grid0.coords t) = 1#1 ↔ 1 ≤ t.val % 8)

/-- The output tile of the long rows is stored at every point. -/
theorem live5 : ∀ t : Fin cfg0.N, cfg0.idle 5 (grid0.coords t) = false :=
  (by decide +kernel : ∀ t : Fin grid0.N, idle0 5 (grid0.coords t) = false)

/-- The output tile of the single step is untouched before point 120, -/
theorem idle6 : ∀ t : Fin cfg0.N, ¬120 ≤ t.val → cfg0.idle 6 (grid0.coords t) = true :=
  (by decide +kernel : ∀ t : Fin grid0.N, ¬120 ≤ t.val → idle0 6 (grid0.coords t) = true)

/-- stored from there on, -/
theorem live6 : ∀ t : Fin cfg0.N, 120 ≤ t.val → cfg0.idle 6 (grid0.coords t) = false :=
  (by decide +kernel : ∀ t : Fin grid0.N, 120 ≤ t.val → idle0 6 (grid0.coords t) = false)

/-- and written back after the last point only. -/
theorem noFlush6 (t : Fin cfg0.N) (h : ¬120 ≤ t.val) : (cfg0.win 6).flush t = false := by
  rw [Bool.eq_false_iff]; intro hf
  have h' := (flush0_6 t).mp hf
  omega

/-- The staging tiles of the seven windows at a point, and the two scratch buffers, as the body gets them. -/
abbrev tX (t : Fin cfg0.N) : Memref sig .tc .vmem S512x2048 .f32 := win0_0.stage (cfg0.slots t 0)
abbrev tXs (t : Fin cfg0.N) : Memref sig .tc .vmem S128x2048 .f32 := win0_1.stage (cfg0.slots t 1)
abbrev tG (t : Fin cfg0.N) : Memref sig .tc .vmem S1x2048 .f32 := win0_2.stage (cfg0.slots t 2)
abbrev tU (t : Fin cfg0.N) : Memref sig .tc .vmem S2048x1024 .bf16 := win0_3.stage (cfg0.slots t 3)
abbrev tD (t : Fin cfg0.N) : Memref sig .tc .vmem S1024x2048 .bf16 := win0_4.stage (cfg0.slots t 4)
abbrev tO (t : Fin cfg0.N) : Memref sig .tc .vmem S512x2048 .f32 := win0_5.stage (cfg0.slots t 5)
abbrev tOs (t : Fin cfg0.N) : Memref sig .tc .vmem S128x2048 .f32 := win0_6.stage (cfg0.slots t 6)
abbrev scH : Memref sig .tc .vmem S512x2048 .bf16 := Memref.whole cc0_scratch0
abbrev scHs : Memref sig .tc .vmem S128x2048 .bf16 := Memref.whole cc0_scratch1

/-- Before the first point the region holds both scratch buffers at some contents and the generator register. -/
theorem region_eq (c : Dev nD) :
    (Pipeline.ΦA spec0 c : sProp 𝕄)
      = iprop(((∃ d, owns (c : Thread nD τ) scH fullShare d) ∗ (∃ d, owns (c : Thread nD τ) scHs fullShare d)) ∗ (∃ r, prngReg c r)) := by
  unfold Pipeline.ΦA; rw [scopedRest0_eq]; simp only [scH, scHs, owns_whole]; try rfl

end Cert.MlpFrame

end
-- ==== Proof.Mlp.RunA.lean ====
module

public import proofs.«01_k».proof.Proof.Mlp.Points

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof is long
set_option maxHeartbeats 1000000 in
/-- The stores the body leaves at the first hidden block of a row tile that is not the last, with the proof that it runs: from the input tiles, the output tiles and
    the two scratch buffers, back to the same with the found stores written. -/
noncomputable def runA (c : Dev nD) (i : grid0.Coords)
    (arg2 : Memref sig .tc .vmem S512x2048 .f32) (harg2 : arg2.IsWhole)
    (arg3 : Memref sig .tc .vmem S128x2048 .f32) (harg3 : arg3.IsWhole)
    (arg4 : Memref sig .tc .vmem S1x2048 .f32) (harg4 : arg4.IsWhole)
    (arg5 : Memref sig .tc .vmem S2048x1024 .bf16) (harg5 : arg5.IsWhole)
    (arg6 : Memref sig .tc .vmem S1024x2048 .bf16) (harg6 : arg6.IsWhole)
    (arg7 : Memref sig .tc .vmem S512x2048 .f32) (harg7 : arg7.IsWhole)
    (arg8 : Memref sig .tc .vmem S128x2048 .f32) (harg8 : arg8.IsWhole)
    (arg9 : Memref sig .tc .vmem S512x2048 .bf16) (harg9 : arg9.IsWhole)
    (arg10 : Memref sig .tc .vmem S128x2048 .bf16) (harg10 : arg10.IsWhole)
    (hc0 : k0_cond1 i = 1#1) (hc1 : ¬k0_cond2 i = 1#1) (hc2 : ¬k0_cond3 i = 1#1)
    (x0 : Vec F S512x2048 .f32) (x1 : Vec F S128x2048 .f32) (x2 : Vec F S1x2048 .f32) (x3 : Vec F S2048x1024 .bf16) (x4 : Vec F S1024x2048 .bf16) :
    Σ' (L5 : List (View.Piece (Elt F) S512x2048 .f32)), { LH : List (View.Piece (Elt F) S512x2048 .bf16) //
      ∀ (y6 : Vec F S128x2048 .f32) (z1 : Vec F S128x2048 .bf16) (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ d, owns (c : Thread nD τ) arg7 fullShare d)
          ∗ owns (c : Thread nD τ) arg8 fullShare y6
          ∗ (∃ d, owns (c : Thread nD τ) arg9 fullShare d)
          ∗ owns (c : Thread nD τ) arg10 fullShare z1
            ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ f, arg7.view.loc (c : Thread nD τ) ↦[arg7.view.set]{fullShare} arg7.view.writes (Elt F) f L5)
          ∗ owns (c : Thread nD τ) arg8 fullShare y6
          ∗ (∃ f, arg9.view.loc (c : Thread nD τ) ↦[arg9.view.set]{fullShare} arg9.view.writes (Elt F) f LH)
          ∗ owns (c : Thread nD τ) arg10 fullShare z1) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, ?_, fun y6 z1 E K => ?run⟩
  case run =>
    simp only [cc0_mlp_eq_skeleton]; unfold cc0_mlp_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, ⟨%f6, %e6, H6⟩, ⟨%d7, %f7, -, H7⟩, ⟨%f8, %e8, H8⟩, Hk⟩
    obtain rfl := harg2.eq_unread e0
    obtain rfl := harg3.eq_unread e1
    obtain rfl := harg4.eq_unread e2
    obtain rfl := harg5.eq_unread e3
    obtain rfl := harg6.eq_unread e4
    obtain rfl := harg8.eq_unread e6
    obtain rfl := harg10.eq_unread e8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    iexists _; isplitr; · ipureintro; exact harg10.read_unread _
    iexact H8

end Cert.MlpFrame

end
-- ==== Proof.Mlp.RunB.lean ====
module

public import proofs.«01_k».proof.Proof.Mlp.RunA

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof is long
set_option maxHeartbeats 1000000 in
/-- The stores the body leaves at a later hidden block of a row tile that is not the last, with the proof that it runs: from the input tiles, the output tiles and
    the two scratch buffers, back to the same with the found stores written. -/
noncomputable def runB (c : Dev nD) (i : grid0.Coords)
    (arg2 : Memref sig .tc .vmem S512x2048 .f32) (harg2 : arg2.IsWhole)
    (arg3 : Memref sig .tc .vmem S128x2048 .f32) (harg3 : arg3.IsWhole)
    (arg4 : Memref sig .tc .vmem S1x2048 .f32) (harg4 : arg4.IsWhole)
    (arg5 : Memref sig .tc .vmem S2048x1024 .bf16) (harg5 : arg5.IsWhole)
    (arg6 : Memref sig .tc .vmem S1024x2048 .bf16) (harg6 : arg6.IsWhole)
    (arg7 : Memref sig .tc .vmem S512x2048 .f32) (harg7 : arg7.IsWhole)
    (arg8 : Memref sig .tc .vmem S128x2048 .f32) (harg8 : arg8.IsWhole)
    (arg9 : Memref sig .tc .vmem S512x2048 .bf16) (harg9 : arg9.IsWhole)
    (arg10 : Memref sig .tc .vmem S128x2048 .bf16) (harg10 : arg10.IsWhole)
    (hc0 : ¬k0_cond1 i = 1#1) (hc1 : k0_cond2 i = 1#1) (hc2 : ¬k0_cond3 i = 1#1)
    (x0 : Vec F S512x2048 .f32) (x1 : Vec F S128x2048 .f32) (x2 : Vec F S1x2048 .f32) (x3 : Vec F S2048x1024 .bf16) (x4 : Vec F S1024x2048 .bf16) (y5 : Vec F S512x2048 .f32) (z0 : Vec F S512x2048 .bf16) :
    { L5 : List (View.Piece (Elt F) S512x2048 .f32) //
      ∀ (y6 : Vec F S128x2048 .f32) (z1 : Vec F S128x2048 .bf16) (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare y5
          ∗ owns (c : Thread nD τ) arg8 fullShare y6
          ∗ owns (c : Thread nD τ) arg9 fullShare z0
          ∗ owns (c : Thread nD τ) arg10 fullShare z1
            ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ f, arg7.view.loc (c : Thread nD τ) ↦[arg7.view.set]{fullShare} arg7.view.writes (Elt F) f L5)
          ∗ owns (c : Thread nD τ) arg8 fullShare y6
          ∗ owns (c : Thread nD τ) arg9 fullShare z0
          ∗ owns (c : Thread nD τ) arg10 fullShare z1) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, fun y6 z1 E K => ?run⟩
  case run =>
    simp only [cc0_mlp_eq_skeleton]; unfold cc0_mlp_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
    obtain rfl := harg2.eq_unread e0
    obtain rfl := harg3.eq_unread e1
    obtain rfl := harg4.eq_unread e2
    obtain rfl := harg5.eq_unread e3
    obtain rfl := harg6.eq_unread e4
    obtain rfl := harg7.eq_unread e5
    obtain rfl := harg8.eq_unread e6
    obtain rfl := harg9.eq_unread e7
    obtain rfl := harg10.eq_unread e8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8

end Cert.MlpFrame

end
-- ==== Proof.Mlp.RunC.lean ====
module

public import proofs.«01_k».proof.Proof.Mlp.RunB

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof is long
set_option maxHeartbeats 1000000 in
/-- The stores the body leaves at the first hidden block of the last row tile, with the proof that it runs: from the input tiles, the output tiles and
    the two scratch buffers, back to the same with the found stores written. -/
noncomputable def runC (c : Dev nD) (i : grid0.Coords)
    (arg2 : Memref sig .tc .vmem S512x2048 .f32) (harg2 : arg2.IsWhole)
    (arg3 : Memref sig .tc .vmem S128x2048 .f32) (harg3 : arg3.IsWhole)
    (arg4 : Memref sig .tc .vmem S1x2048 .f32) (harg4 : arg4.IsWhole)
    (arg5 : Memref sig .tc .vmem S2048x1024 .bf16) (harg5 : arg5.IsWhole)
    (arg6 : Memref sig .tc .vmem S1024x2048 .bf16) (harg6 : arg6.IsWhole)
    (arg7 : Memref sig .tc .vmem S512x2048 .f32) (harg7 : arg7.IsWhole)
    (arg8 : Memref sig .tc .vmem S128x2048 .f32) (harg8 : arg8.IsWhole)
    (arg9 : Memref sig .tc .vmem S512x2048 .bf16) (harg9 : arg9.IsWhole)
    (arg10 : Memref sig .tc .vmem S128x2048 .bf16) (harg10 : arg10.IsWhole)
    (hc0 : k0_cond1 i = 1#1) (hc1 : ¬k0_cond2 i = 1#1) (hc2 : k0_cond3 i = 1#1) (hc3 : k0_cond4 i = 1#1) (hc4 : ¬k0_cond5 i = 1#1)
    (x0 : Vec F S512x2048 .f32) (x1 : Vec F S128x2048 .f32) (x2 : Vec F S1x2048 .f32) (x3 : Vec F S2048x1024 .bf16) (x4 : Vec F S1024x2048 .bf16) :
    Σ' (L5 : List (View.Piece (Elt F) S512x2048 .f32)), Σ' (LH : List (View.Piece (Elt F) S512x2048 .bf16)), Σ' (L6 : List (View.Piece (Elt F) S128x2048 .f32)), { LS : List (View.Piece (Elt F) S128x2048 .bf16) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ d, owns (c : Thread nD τ) arg7 fullShare d)
          ∗ (∃ d, owns (c : Thread nD τ) arg8 fullShare d)
          ∗ (∃ d, owns (c : Thread nD τ) arg9 fullShare d)
          ∗ (∃ d, owns (c : Thread nD τ) arg10 fullShare d)
            ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ f, arg7.view.loc (c : Thread nD τ) ↦[arg7.view.set]{fullShare} arg7.view.writes (Elt F) f L5)
          ∗ (∃ f, arg8.view.loc (c : Thread nD τ) ↦[arg8.view.set]{fullShare} arg8.view.writes (Elt F) f L6)
          ∗ (∃ f, arg9.view.loc (c : Thread nD τ) ↦[arg9.view.set]{fullShare} arg9.view.writes (Elt F) f LH)
          ∗ (∃ f, arg10.view.loc (c : Thread nD τ) ↦[arg10.view.set]{fullShare} arg10.view.writes (Elt F) f LS)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_mlp_eq_skeleton]; unfold cc0_mlp_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
    obtain rfl := harg2.eq_unread e0
    obtain rfl := harg3.eq_unread e1
    obtain rfl := harg4.eq_unread e2
    obtain rfl := harg5.eq_unread e3
    obtain rfl := harg6.eq_unread e4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

end Cert.MlpFrame

end
-- ==== Proof.Mlp.RunD.lean ====
module

public import proofs.«01_k».proof.Proof.Mlp.RunC

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof is long
set_option maxHeartbeats 1000000 in
/-- The stores the body leaves at a later hidden block of the last row tile, with the proof that it runs: from the input tiles, the output tiles and
    the two scratch buffers, back to the same with the found stores written. -/
noncomputable def runD (c : Dev nD) (i : grid0.Coords)
    (arg2 : Memref sig .tc .vmem S512x2048 .f32) (harg2 : arg2.IsWhole)
    (arg3 : Memref sig .tc .vmem S128x2048 .f32) (harg3 : arg3.IsWhole)
    (arg4 : Memref sig .tc .vmem S1x2048 .f32) (harg4 : arg4.IsWhole)
    (arg5 : Memref sig .tc .vmem S2048x1024 .bf16) (harg5 : arg5.IsWhole)
    (arg6 : Memref sig .tc .vmem S1024x2048 .bf16) (harg6 : arg6.IsWhole)
    (arg7 : Memref sig .tc .vmem S512x2048 .f32) (harg7 : arg7.IsWhole)
    (arg8 : Memref sig .tc .vmem S128x2048 .f32) (harg8 : arg8.IsWhole)
    (arg9 : Memref sig .tc .vmem S512x2048 .bf16) (harg9 : arg9.IsWhole)
    (arg10 : Memref sig .tc .vmem S128x2048 .bf16) (harg10 : arg10.IsWhole)
    (hc0 : ¬k0_cond1 i = 1#1) (hc1 : k0_cond2 i = 1#1) (hc2 : k0_cond3 i = 1#1) (hc3 : ¬k0_cond4 i = 1#1) (hc4 : k0_cond5 i = 1#1)
    (x0 : Vec F S512x2048 .f32) (x1 : Vec F S128x2048 .f32) (x2 : Vec F S1x2048 .f32) (x3 : Vec F S2048x1024 .bf16) (x4 : Vec F S1024x2048 .bf16) (y5 : Vec F S512x2048 .f32) (y6 : Vec F S128x2048 .f32) (z0 : Vec F S512x2048 .bf16) (z1 : Vec F S128x2048 .bf16) :
    Σ' (L5 : List (View.Piece (Elt F) S512x2048 .f32)), { L6 : List (View.Piece (Elt F) S128x2048 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare y5
          ∗ owns (c : Thread nD τ) arg8 fullShare y6
          ∗ owns (c : Thread nD τ) arg9 fullShare z0
          ∗ owns (c : Thread nD τ) arg10 fullShare z1
            ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ f, arg7.view.loc (c : Thread nD τ) ↦[arg7.view.set]{fullShare} arg7.view.writes (Elt F) f L5)
          ∗ (∃ f, arg8.view.loc (c : Thread nD τ) ↦[arg8.view.set]{fullShare} arg8.view.writes (Elt F) f L6)
          ∗ owns (c : Thread nD τ) arg9 fullShare z0
          ∗ owns (c : Thread nD τ) arg10 fullShare z1) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, ?_, fun E K => ?run⟩
  case run =>
    simp only [cc0_mlp_eq_skeleton]; unfold cc0_mlp_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
    obtain rfl := harg2.eq_unread e0
    obtain rfl := harg3.eq_unread e1
    obtain rfl := harg4.eq_unread e2
    obtain rfl := harg5.eq_unread e3
    obtain rfl := harg6.eq_unread e4
    obtain rfl := harg7.eq_unread e5
    obtain rfl := harg8.eq_unread e6
    obtain rfl := harg9.eq_unread e7
    obtain rfl := harg10.eq_unread e8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; isplitr; · ipureintro; exact harg10.read_unread _
    iexact H8

end Cert.MlpFrame

end
-- ==== Proof.Mlp.Data.lean ====
module

public import proofs.«01_k».proof.Proof.Mlp.RunD

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point that meets the first hidden block of a row tile that is not the last, on the point's own tiles. -/
abbrev atA (c : Dev nD) (t : Fin cfg0.N) (h0 : t.val % 8 = 0) (h1 : ¬120 ≤ t.val) :=
  runA c (grid0.coords t) (tX t) (hstage0_0 ((cfg0.slots t 0).cast nbuf0_0)) (tXs t) (hstage0_1 ((cfg0.slots t 1).cast nbuf0_1)) (tG t) (hstage0_2 ((cfg0.slots t 2).cast nbuf0_2)) (tU t) (hstage0_3 ((cfg0.slots t 3).cast nbuf0_3)) (tD t) (hstage0_4 ((cfg0.slots t 4).cast nbuf0_4)) (tO t) (hstage0_5 ((cfg0.slots t 5).cast nbuf0_5)) (tOs t) (hstage0_6 ((cfg0.slots t 6).cast nbuf0_6)) scH (Memref.isWhole_whole _) scHs (Memref.isWhole_whole _) ((first_iff t).mpr h0) (fun h => absurd ((later_iff t).mp h) (by omega)) (fun h => h1 ((last_iff t).mp h)) (iblk m c 0 t) (iblk m c 1 t) (iblk m c 2 t) (iblk m c 3 t) (iblk m c 4 t)

/-- Those stores cover their buffer, -/
theorem coverAO (c : Dev nD) (t : Fin cfg0.N) (h0 : t.val % 8 = 0) (h1 : ¬120 ≤ t.val) (y : S512x2048.Idx) :
    ∃ p ∈ (atA m c t h0 h1).1, y ∈ p.1.set :=
  View.cover_of_tiledL (atA m c t h0 h1).1 S128x2048.size (by sl_kernel_rfl) y

/-- and so leave it at these contents, whatever it held. -/
@[irreducible] def leftAO (c : Dev nD) (t : Fin cfg0.N) (h0 : t.val % 8 = 0) (h1 : ¬120 ≤ t.val) : Vec F S512x2048 .f32 :=
  View.canon (atA m c t h0 h1).1

/-- Those stores cover their buffer, -/
theorem coverAH (c : Dev nD) (t : Fin cfg0.N) (h0 : t.val % 8 = 0) (h1 : ¬120 ≤ t.val) (y : S512x2048.Idx) :
    ∃ p ∈ (atA m c t h0 h1).2.1, y ∈ p.1.set :=
  View.cover_of_tiledL (atA m c t h0 h1).2.1 S128x2048.size (by sl_kernel_rfl) y

/-- and so leave it at these contents, whatever it held. -/
@[irreducible] def leftAH (c : Dev nD) (t : Fin cfg0.N) (h0 : t.val % 8 = 0) (h1 : ¬120 ≤ t.val) : Vec F S512x2048 .bf16 :=
  View.canon (atA m c t h0 h1).2.1

/-- The body's run at a point that meets a later hidden block of a row tile that is not the last, on the point's own tiles. -/
abbrev atB (c : Dev nD) (t : Fin cfg0.N) (h0 : ¬t.val % 8 = 0) (h1 : ¬120 ≤ t.val) (y5 : Vec F S512x2048 .f32) (z0 : Vec F S512x2048 .bf16) :=
  runB c (grid0.coords t) (tX t) (hstage0_0 ((cfg0.slots t 0).cast nbuf0_0)) (tXs t) (hstage0_1 ((cfg0.slots t 1).cast nbuf0_1)) (tG t) (hstage0_2 ((cfg0.slots t 2).cast nbuf0_2)) (tU t) (hstage0_3 ((cfg0.slots t 3).cast nbuf0_3)) (tD t) (hstage0_4 ((cfg0.slots t 4).cast nbuf0_4)) (tO t) (hstage0_5 ((cfg0.slots t 5).cast nbuf0_5)) (tOs t) (hstage0_6 ((cfg0.slots t 6).cast nbuf0_6)) scH (Memref.isWhole_whole _) scHs (Memref.isWhole_whole _) (fun h => h0 ((first_iff t).mp h)) ((later_iff t).mpr (by omega)) (fun h => h1 ((last_iff t).mp h)) (iblk m c 0 t) (iblk m c 1 t) (iblk m c 2 t) (iblk m c 3 t) (iblk m c 4 t) y5 z0

/-- Those stores cover their buffer, -/
theorem coverBO (c : Dev nD) (t : Fin cfg0.N) (h0 : ¬t.val % 8 = 0) (h1 : ¬120 ≤ t.val) (y5 : Vec F S512x2048 .f32) (z0 : Vec F S512x2048 .bf16) (y : S512x2048.Idx) :
    ∃ p ∈ (atB m c t h0 h1 y5 z0).1, y ∈ p.1.set :=
  View.cover_of_tiledL (atB m c t h0 h1 y5 z0).1 S512x2048.size (by sl_kernel_rfl) y

/-- and so leave it at these contents, whatever it held. -/
@[irreducible] def leftBO (c : Dev nD) (t : Fin cfg0.N) (h0 : ¬t.val % 8 = 0) (h1 : ¬120 ≤ t.val) (y5 : Vec F S512x2048 .f32) (z0 : Vec F S512x2048 .bf16) : Vec F S512x2048 .f32 :=
  View.canon (atB m c t h0 h1 y5 z0).1

/-- The body's run at a point that meets the first hidden block of the last row tile, on the point's own tiles. -/
abbrev atC (c : Dev nD) (t : Fin cfg0.N) (h0 : t.val % 8 = 0) (h1 : 120 ≤ t.val) :=
  runC c (grid0.coords t) (tX t) (hstage0_0 ((cfg0.slots t 0).cast nbuf0_0)) (tXs t) (hstage0_1 ((cfg0.slots t 1).cast nbuf0_1)) (tG t) (hstage0_2 ((cfg0.slots t 2).cast nbuf0_2)) (tU t) (hstage0_3 ((cfg0.slots t 3).cast nbuf0_3)) (tD t) (hstage0_4 ((cfg0.slots t 4).cast nbuf0_4)) (tO t) (hstage0_5 ((cfg0.slots t 5).cast nbuf0_5)) (tOs t) (hstage0_6 ((cfg0.slots t 6).cast nbuf0_6)) scH (Memref.isWhole_whole _) scHs (Memref.isWhole_whole _) ((first_iff t).mpr h0) (fun h => absurd ((later_iff t).mp h) (by omega)) ((last_iff t).mpr h1) ((firstS_iff t).mpr h0) (fun h => absurd ((laterS_iff t).mp h) (by omega)) (iblk m c 0 t) (iblk m c 1 t) (iblk m c 2 t) (iblk m c 3 t) (iblk m c 4 t)

/-- Those stores cover their buffer, -/
theorem coverCO (c : Dev nD) (t : Fin cfg0.N) (h0 : t.val % 8 = 0) (h1 : 120 ≤ t.val) (y : S512x2048.Idx) :
    ∃ p ∈ (atC m c t h0 h1).1, y ∈ p.1.set :=
  View.cover_of_tiledL (atC m c t h0 h1).1 S128x2048.size (by sl_kernel_rfl) y

/-- and so leave it at these contents, whatever it held. -/
@[irreducible] def leftCO (c : Dev nD) (t : Fin cfg0.N) (h0 : t.val % 8 = 0) (h1 : 120 ≤ t.val) : Vec F S512x2048 .f32 :=
  View.canon (atC m c t h0 h1).1

/-- Those stores cover their buffer, -/
theorem coverCH (c : Dev nD) (t : Fin cfg0.N) (h0 : t.val % 8 = 0) (h1 : 120 ≤ t.val) (y : S512x2048.Idx) :
    ∃ p ∈ (atC m c t h0 h1).2.1, y ∈ p.1.set :=
  View.cover_of_tiledL (atC m c t h0 h1).2.1 S128x2048.size (by sl_kernel_rfl) y

/-- and so leave it at these contents, whatever it held. -/
@[irreducible] def leftCH (c : Dev nD) (t : Fin cfg0.N) (h0 : t.val % 8 = 0) (h1 : 120 ≤ t.val) : Vec F S512x2048 .bf16 :=
  View.canon (atC m c t h0 h1).2.1

/-- Those stores cover their buffer, -/
theorem coverCOs (c : Dev nD) (t : Fin cfg0.N) (h0 : t.val % 8 = 0) (h1 : 120 ≤ t.val) (y : S128x2048.Idx) :
    ∃ p ∈ (atC m c t h0 h1).2.2.1, y ∈ p.1.set :=
  View.cover_of_tiledL (atC m c t h0 h1).2.2.1 S128x2048.size (by sl_kernel_rfl) y

/-- and so leave it at these contents, whatever it held. -/
@[irreducible] def leftCOs (c : Dev nD) (t : Fin cfg0.N) (h0 : t.val % 8 = 0) (h1 : 120 ≤ t.val) : Vec F S128x2048 .f32 :=
  View.canon (atC m c t h0 h1).2.2.1

/-- Those stores cover their buffer, -/
theorem coverCHs (c : Dev nD) (t : Fin cfg0.N) (h0 : t.val % 8 = 0) (h1 : 120 ≤ t.val) (y : S128x2048.Idx) :
    ∃ p ∈ (atC m c t h0 h1).2.2.2.1, y ∈ p.1.set :=
  View.cover_of_tiledL (atC m c t h0 h1).2.2.2.1 S128x2048.size (by sl_kernel_rfl) y

/-- and so leave it at these contents, whatever it held. -/
@[irreducible] def leftCHs (c : Dev nD) (t : Fin cfg0.N) (h0 : t.val % 8 = 0) (h1 : 120 ≤ t.val) : Vec F S128x2048 .bf16 :=
  View.canon (atC m c t h0 h1).2.2.2.1

/-- The body's run at a point that meets a later hidden block of the last row tile, on the point's own tiles. -/
abbrev atD (c : Dev nD) (t : Fin cfg0.N) (h0 : ¬t.val % 8 = 0) (h1 : 120 ≤ t.val) (y5 : Vec F S512x2048 .f32) (y6 : Vec F S128x2048 .f32) (z0 : Vec F S512x2048 .bf16) (z1 : Vec F S128x2048 .bf16) :=
  runD c (grid0.coords t) (tX t) (hstage0_0 ((cfg0.slots t 0).cast nbuf0_0)) (tXs t) (hstage0_1 ((cfg0.slots t 1).cast nbuf0_1)) (tG t) (hstage0_2 ((cfg0.slots t 2).cast nbuf0_2)) (tU t) (hstage0_3 ((cfg0.slots t 3).cast nbuf0_3)) (tD t) (hstage0_4 ((cfg0.slots t 4).cast nbuf0_4)) (tO t) (hstage0_5 ((cfg0.slots t 5).cast nbuf0_5)) (tOs t) (hstage0_6 ((cfg0.slots t 6).cast nbuf0_6)) scH (Memref.isWhole_whole _) scHs (Memref.isWhole_whole _) (fun h => h0 ((first_iff t).mp h)) ((later_iff t).mpr (by omega)) ((last_iff t).mpr h1) (fun h => h0 ((firstS_iff t).mp h)) ((laterS_iff t).mpr (by omega)) (iblk m c 0 t) (iblk m c 1 t) (iblk m c 2 t) (iblk m c 3 t) (iblk m c 4 t) y5 y6 z0 z1

/-- Those stores cover their buffer, -/
theorem coverDO (c : Dev nD) (t : Fin cfg0.N) (h0 : ¬t.val % 8 = 0) (h1 : 120 ≤ t.val) (y5 : Vec F S512x2048 .f32) (y6 : Vec F S128x2048 .f32) (z0 : Vec F S512x2048 .bf16) (z1 : Vec F S128x2048 .bf16) (y : S512x2048.Idx) :
    ∃ p ∈ (atD m c t h0 h1 y5 y6 z0 z1).1, y ∈ p.1.set :=
  View.cover_of_tiledL (atD m c t h0 h1 y5 y6 z0 z1).1 S512x2048.size (by sl_kernel_rfl) y

/-- and so leave it at these contents, whatever it held. -/
@[irreducible] def leftDO (c : Dev nD) (t : Fin cfg0.N) (h0 : ¬t.val % 8 = 0) (h1 : 120 ≤ t.val) (y5 : Vec F S512x2048 .f32) (y6 : Vec F S128x2048 .f32) (z0 : Vec F S512x2048 .bf16) (z1 : Vec F S128x2048 .bf16) : Vec F S512x2048 .f32 :=
  View.canon (atD m c t h0 h1 y5 y6 z0 z1).1

/-- Those stores cover their buffer, -/
theorem coverDOs (c : Dev nD) (t : Fin cfg0.N) (h0 : ¬t.val % 8 = 0) (h1 : 120 ≤ t.val) (y5 : Vec F S512x2048 .f32) (y6 : Vec F S128x2048 .f32) (z0 : Vec F S512x2048 .bf16) (z1 : Vec F S128x2048 .bf16) (y : S128x2048.Idx) :
    ∃ p ∈ (atD m c t h0 h1 y5 y6 z0 z1).2.1, y ∈ p.1.set :=
  View.cover_of_tiledL (atD m c t h0 h1 y5 y6 z0 z1).2.1 S128x2048.size (by sl_kernel_rfl) y

/-- and so leave it at these contents, whatever it held. -/
@[irreducible] def leftDOs (c : Dev nD) (t : Fin cfg0.N) (h0 : ¬t.val % 8 = 0) (h1 : 120 ≤ t.val) (y5 : Vec F S512x2048 .f32) (y6 : Vec F S128x2048 .f32) (z0 : Vec F S512x2048 .bf16) (z1 : Vec F S128x2048 .bf16) : Vec F S128x2048 .f32 :=
  View.canon (atD m c t h0 h1 y5 y6 z0 z1).2.1

/-- What the two output tiles and the two scratch buffers hold: the long rows' tile, their normalised rows, the
    single step's tile, its normalised rows. -/
abbrev St (F : FTy → Type) := Vec F S512x2048 .f32 × Vec F S512x2048 .bf16 × Vec F S128x2048 .f32 × Vec F S128x2048 .bf16

/-- The four buffers after point `n`, from the first point on: a first hidden block fills the long rows' two afresh, a
    later one adds to the tile; from point 120 on the single step's two follow likewise. -/
def stAt (c : Dev nD) : (n : ℕ) → n < cfg0.N → St F
  | 0, hn => (leftAO m c ⟨0, hn⟩ (Nat.zero_mod 8) (by decide : ¬120 ≤ 0), leftAH m c ⟨0, hn⟩ (Nat.zero_mod 8) (by decide : ¬120 ≤ 0), View.canon [], View.canon [])
  | n + 1, hn =>
    let s := stAt c n (Nat.lt_of_succ_lt hn)
    if h1 : 120 ≤ n + 1 then
      if h0 : (n + 1) % 8 = 0 then
        (leftCO m c ⟨n + 1, hn⟩ h0 h1, leftCH m c ⟨n + 1, hn⟩ h0 h1, leftCOs m c ⟨n + 1, hn⟩ h0 h1, leftCHs m c ⟨n + 1, hn⟩ h0 h1)
      else (leftDO m c ⟨n + 1, hn⟩ h0 h1 s.1 s.2.2.1 s.2.1 s.2.2.2, s.2.1, leftDOs m c ⟨n + 1, hn⟩ h0 h1 s.1 s.2.2.1 s.2.1 s.2.2.2, s.2.2.2)
    else
      if h0 : (n + 1) % 8 = 0 then (leftAO m c ⟨n + 1, hn⟩ h0 h1, leftAH m c ⟨n + 1, hn⟩ h0 h1, s.2.2)
      else (leftBO m c ⟨n + 1, hn⟩ h0 h1 s.1 s.2.1, s.2)

/-- The four buffers after the point before `t`. -/
abbrev stBefore (c : Dev nD) (t : Fin cfg0.N) : St F := stAt m c (t.val - 1) (Nat.lt_of_le_of_lt (Nat.sub_le _ _) t.isLt)

/-- After a first hidden block of an earlier row tile the long rows' buffers are filled afresh; -/
theorem stAt_A (c : Dev nD) (t : Fin cfg0.N) (h0 : t.val % 8 = 0) (h1 : ¬120 ≤ t.val) :
    (stAt m c t.val t.isLt).1 = leftAO m c t h0 h1 ∧ (stAt m c t.val t.isLt).2.1 = leftAH m c t h0 h1 := by
  obtain ⟨n, hn⟩ := t
  cases n with
  | zero =>
    have e := stAt.eq_1 m c hn
    exact ⟨congrArg (·.1) e, congrArg (·.2.1) e⟩
  | succ n =>
    have e := (stAt.eq_2 m c n hn).trans ((dif_neg h1).trans (dif_pos h0))
    exact ⟨congrArg (·.1) e, congrArg (·.2.1) e⟩

/-- after a later one only the tile has changed; -/
theorem stAt_B (c : Dev nD) (t : Fin cfg0.N) (h0 : ¬t.val % 8 = 0) (h1 : ¬120 ≤ t.val) :
    stAt m c t.val t.isLt = (leftBO m c t h0 h1 (stBefore m c t).1 (stBefore m c t).2.1, (stBefore m c t).2) := by
  obtain ⟨n, hn⟩ := t
  cases n with
  | zero => exact absurd (Nat.zero_mod _) h0
  | succ n => exact (stAt.eq_2 m c n hn).trans ((dif_neg h1).trans (dif_neg h0))

/-- at the last row tile's first hidden block all four are filled afresh, -/
theorem stAt_C (c : Dev nD) (t : Fin cfg0.N) (h0 : t.val % 8 = 0) (h1 : 120 ≤ t.val) :
    stAt m c t.val t.isLt = (leftCO m c t h0 h1, leftCH m c t h0 h1, leftCOs m c t h0 h1, leftCHs m c t h0 h1) := by
  obtain ⟨n, hn⟩ := t
  cases n with
  | zero => exact absurd h1 (by decide : ¬120 ≤ 0)
  | succ n => exact (stAt.eq_2 m c n hn).trans ((dif_pos h1).trans (dif_pos h0))

/-- and at its later ones both tiles change. -/
theorem stAt_D (c : Dev nD) (t : Fin cfg0.N) (h0 : ¬t.val % 8 = 0) (h1 : 120 ≤ t.val) :
    stAt m c t.val t.isLt = (leftDO m c t h0 h1 (stBefore m c t).1 (stBefore m c t).2.2.1 (stBefore m c t).2.1 (stBefore m c t).2.2.2,
      (stBefore m c t).2.1, leftDOs m c t h0 h1 (stBefore m c t).1 (stBefore m c t).2.2.1 (stBefore m c t).2.1 (stBefore m c t).2.2.2,
      (stBefore m c t).2.2.2) := by
  obtain ⟨n, hn⟩ := t
  cases n with
  | zero => exact absurd (Nat.zero_mod _) h0
  | succ n => exact (stAt.eq_2 m c n hn).trans ((dif_pos h1).trans (dif_neg h0))

/-- Before point `n`: the scratch buffers at some contents — the long rows' at what the point before left, from the second
    point on; the single step's likewise, from the point after 120 on — and the generator register at some state. -/
def inv (c : Dev nD) (n : ℕ) (hn : n ≤ cfg0.N) : sProp 𝕄 :=
  iprop((∃ d, ⌜∀ h : n ≠ 0, d = (stAt m c (n - 1) (by omega)).2.1⌝ ∗ owns (c : Thread nD τ) scH fullShare d)
    ∗ (∃ d, ⌜∀ h : 120 < n, d = (stAt m c (n - 1) (by omega)).2.2.2⌝ ∗ owns (c : Thread nD τ) scHs fullShare d)
    ∗ (∃ r, prngReg c r))

/-- The proof data: the arrays as the region finds them, each input tile at its block, the output tiles at `stAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).1
    | ⟨6, _⟩ => (stAt m c t.val t.isLt).2.2.1
  Φ t := inv m c t.val (Nat.le_of_lt_succ t.isLt)
  q _ := fullShare
  owed _ := 0

/-- The data's arrays are the region's. -/
theorem A_eq (c : Dev nD) (w : Fin cfg0.W) : (dats m 0 c).A w = V m c (Pipeline.arrRef spec0 w) := by
  dsimp only [dats]

/-- What each window's tile holds after a point. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stAt m c t.val t.isLt).1 := by dsimp only [dats]
theorem after6 (c : Dev nD) (t : Fin cfg0.N) : (dats m 0 c).after 6 t = (stAt m c t.val t.isLt).2.2.1 := by dsimp only [dats]

/-- Before a point each input tile holds its block. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The invariant at a point's start, at the point's number. -/
theorem inv_castSucc (c : Dev nD) (t : Fin cfg0.N) :
    (dats m 0 c).Φ t.castSucc = inv m c t.val (Nat.le_of_lt t.isLt) := by
  dsimp only [dats]; exact Pipeline.Dat.Φ_castSucc (inv m c) t

end Cert.MlpFrame

end
-- ==== Proof.Mlp.Steps.lean ====
module

public import proofs.«01_k».proof.Proof.Mlp.Data
public import Idealize.ShloMosaic.Lib.Pipeline.TableIdle

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The long rows' tile is handed on from point to point within a row tile. -/
theorem before5 (c : Dev nD) (t : Fin cfg0.N) (h0 : ¬t.val % 8 = 0) (d) :
    (dats m 0 c).before 5 t d = (stBefore m c t).1 := by
  have ht : t.val ≠ 0 := fun h => h0 (by rw [h])
  have hfl : (cfg0.win 5).flush ⟨t.val - 1, Nat.lt_of_le_of_lt (Nat.sub_le _ _) t.isLt⟩ = false := by
    rw [Bool.eq_false_iff]; intro hf
    have h' := (flush0_5 _).mp hf
    dsimp only at h'
    omega
  rw [Dat.before_out_traj (dats m 0 c) 5 rfl (fun _ _ => rfl)
    (fun t _ hi _ => absurd hi (by rw [live5]; exact Bool.false_ne_true)) t.val t rfl d]
  obtain ⟨n, hn⟩ : ∃ n, t.val = n + 1 := ⟨t.val - 1, by omega⟩
  have hnN : n < cfg0.N := by have := t.isLt; omega
  have hfr : cfg0.fresh 5 t.val = false := by
    rw [hn, Cfg.fresh_succ cfg0 5 n hnN, live5]
    have e : (⟨t.val - 1, Nat.lt_of_le_of_lt (Nat.sub_le _ _) t.isLt⟩ : Fin cfg0.N) = ⟨n, hnN⟩ := Fin.ext (by simp only [hn]; rfl)
    rw [e] at hfl; rw [hfl]; rfl
  rw [hfr, if_neg Bool.false_ne_true, after5]

/-- The single step's tile is handed on from point to point after point 120. -/
theorem before6 (c : Dev nD) (t : Fin cfg0.N) (h : 120 < t.val) (d) :
    (dats m 0 c).before 6 t d = (stBefore m c t).2.2.1 := by
  have ht : t.val ≠ 0 := by omega
  obtain ⟨n, hn⟩ : ∃ n, t.val = n + 1 := ⟨t.val - 1, by omega⟩
  have hN : t.val < 128 := Nat.lt_of_lt_of_eq t.isLt N_0
  have hnN : n < cfg0.N := by have := t.isLt; omega
  have e : (⟨t.val - 1, Nat.lt_of_le_of_lt (Nat.sub_le _ _) t.isLt⟩ : Fin cfg0.N) = ⟨n, hnN⟩ := Fin.ext (by simp only [hn]; rfl)
  have hfl : (cfg0.win 6).flush ⟨t.val - 1, Nat.lt_of_le_of_lt (Nat.sub_le _ _) t.isLt⟩ = false := by
    rw [Bool.eq_false_iff]; intro hf
    have h' := (flush0_6 _).mp hf
    dsimp only at h'
    omega
  have hlv : cfg0.idle 6 (cfg0.grid.coords ⟨t.val - 1, Nat.lt_of_le_of_lt (Nat.sub_le _ _) t.isLt⟩) = false :=
    live6 _ (by dsimp only; omega)
  rw [Dat.before_of_pos (dats m 0 c) 6 t ht ((cfg0.win 6).fetch_out rfl t) d, hfl, if_neg Bool.false_ne_true]
  unfold Dat.left; rw [hlv]; dsimp only
  unfold Dat.kept
  rw [Pipeline.fill_of_clip_none 6 _ (fun _ => rfl), Pipeline.Window.fill_cut, after6]

/-- What the body is called with at a point, window by window, -/
def pre (c : Dev nD) (t : Fin cfg0.N) : sProp 𝕄 :=
  iprop((dats m 0 c).Φ t.castSucc ∗ (dats m 0 c).owesAt () t.castSucc
    ∗ (∃ d, owns (c : Thread nD τ) (tX t) fullShare ((dats m 0 c).before 0 t d))
    ∗ (∃ d, owns (c : Thread nD τ) (tXs t) fullShare ((dats m 0 c).before 1 t d))
    ∗ (∃ d, owns (c : Thread nD τ) (tG t) fullShare ((dats m 0 c).before 2 t d))
    ∗ (∃ d, owns (c : Thread nD τ) (tU t) fullShare ((dats m 0 c).before 3 t d))
    ∗ (∃ d, owns (c : Thread nD τ) (tD t) fullShare ((dats m 0 c).before 4 t d))
    ∗ (∃ d, owns (c : Thread nD τ) (tO t) fullShare ((dats m 0 c).before 5 t d))
    ∗ (∃ d, owns (c : Thread nD τ) (tOs t) fullShare ((dats m 0 c).before 6 t d)))

/-- and what it hands back. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- An input tile is handed back as it was. -/
theorem leaves0 (c : Dev nD) (t : Fin cfg0.N) : (dats m 0 c).leavesExact 0 t = owns (c : Thread nD τ) (tX t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (tXs t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (tG t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (tU t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (tD t) fullShare (iblk m c 4 t) := by
  unfold Dat.leavesExact; rw [show cfg0.idle 4 (cfg0.grid.coords t) = false from rfl, after4]

/-- The long rows' tile is handed back at `stAt`. -/
theorem leaves5 (c : Dev nD) (t : Fin cfg0.N) :
    (dats m 0 c).leavesExact 5 t = owns (c : Thread nD τ) (tO t) fullShare (stAt m c t.val t.isLt).1 := by
  unfold Dat.leavesExact; rw [live5 t, after5]

/-- So is the single step's from point 120 on. -/
theorem leaves6 (c : Dev nD) (t : Fin cfg0.N) (h : 120 ≤ t.val) :
    (dats m 0 c).leavesExact 6 t = owns (c : Thread nD τ) (tOs t) fullShare (stAt m c t.val t.isLt).2.2.1 := by
  unfold Dat.leavesExact; rw [live6 t h, after6]

/-- A buffer holding stores that cover it holds their contents. -/
theorem owns_of_stores {s : Shape} {e : EltTy} (c : Dev nD) (a : Memref sig .tc .vmem s e) (L : List (View.Piece (Elt F) s e))
    (v : Vec F s e) (hc : ∀ y, ∃ p ∈ L, y ∈ p.1.set) (hv : View.canon L = v) :
    (iprop(∃ f, a.view.loc (c : Thread nD τ) ↦[a.view.set]{fullShare} a.view.writes (Elt F) f L) : sProp 𝕄)
      ⊢ owns (c : Thread nD τ) a fullShare v := by
  iintro ⟨%f, H⟩
  unfold owns; iexists _; isplitr
  swap; · iexact H
  ipureintro; exact (View.read_writes_eq_canon _ _ _ hc).trans hv

/-- So each case leaves its buffers at `stAt`. -/
theorem fillAO (c : Dev nD) (t : Fin cfg0.N) (h0 : t.val % 8 = 0) (h1 : ¬120 ≤ t.val) :
    (iprop(∃ f, ((tO t)).view.loc (c : Thread nD τ) ↦[((tO t)).view.set]{fullShare} ((tO t)).view.writes (Elt F) f (atA m c t h0 h1).1) : sProp 𝕄)
      ⊢ owns (c : Thread nD τ) (tO t) fullShare (stAt m c t.val t.isLt).1 :=
  owns_of_stores c (tO t) _ _ (coverAO m c t h0 h1)
    ((show View.canon (atA m c t h0 h1).1 = leftAO m c t h0 h1 by unfold leftAO; rfl).trans ((stAt_A m c t h0 h1).1).symm)

theorem fillAH (c : Dev nD) (t : Fin cfg0.N) (h0 : t.val % 8 = 0) (h1 : ¬120 ≤ t.val) :
    (iprop(∃ f, (scH).view.loc (c : Thread nD τ) ↦[(scH).view.set]{fullShare} (scH).view.writes (Elt F) f (atA m c t h0 h1).2.1) : sProp 𝕄)
      ⊢ owns (c : Thread nD τ) scH fullShare (stAt m c t.val t.isLt).2.1 :=
  owns_of_stores c scH _ _ (coverAH m c t h0 h1)
    ((show View.canon (atA m c t h0 h1).2.1 = leftAH m c t h0 h1 by unfold leftAH; rfl).trans ((stAt_A m c t h0 h1).2).symm)

theorem fillBO (c : Dev nD) (t : Fin cfg0.N) (h0 : ¬t.val % 8 = 0) (h1 : ¬120 ≤ t.val) :
    (iprop(∃ f, ((tO t)).view.loc (c : Thread nD τ) ↦[((tO t)).view.set]{fullShare} ((tO t)).view.writes (Elt F) f (atB m c t h0 h1 (stBefore m c t).1 (stBefore m c t).2.1).1) : sProp 𝕄)
      ⊢ owns (c : Thread nD τ) (tO t) fullShare (stAt m c t.val t.isLt).1 :=
  owns_of_stores c (tO t) _ _ (coverBO m c t h0 h1 (stBefore m c t).1 (stBefore m c t).2.1)
    ((show View.canon (atB m c t h0 h1 (stBefore m c t).1 (stBefore m c t).2.1).1 = leftBO m c t h0 h1 (stBefore m c t).1 (stBefore m c t).2.1 by unfold leftBO; rfl).trans (congrArg (fun s => s.1) (stAt_B m c t h0 h1)).symm)

theorem fillCO (c : Dev nD) (t : Fin cfg0.N) (h0 : t.val % 8 = 0) (h1 : 120 ≤ t.val) :
    (iprop(∃ f, ((tO t)).view.loc (c : Thread nD τ) ↦[((tO t)).view.set]{fullShare} ((tO t)).view.writes (Elt F) f (atC m c t h0 h1).1) : sProp 𝕄)
      ⊢ owns (c : Thread nD τ) (tO t) fullShare (stAt m c t.val t.isLt).1 :=
  owns_of_stores c (tO t) _ _ (coverCO m c t h0 h1)
    ((show View.canon (atC m c t h0 h1).1 = leftCO m c t h0 h1 by unfold leftCO; rfl).trans (congrArg (fun s => s.1) (stAt_C m c t h0 h1)).symm)

theorem fillCH (c : Dev nD) (t : Fin cfg0.N) (h0 : t.val % 8 = 0) (h1 : 120 ≤ t.val) :
    (iprop(∃ f, (scH).view.loc (c : Thread nD τ) ↦[(scH).view.set]{fullShare} (scH).view.writes (Elt F) f (atC m c t h0 h1).2.1) : sProp 𝕄)
      ⊢ owns (c : Thread nD τ) scH fullShare (stAt m c t.val t.isLt).2.1 :=
  owns_of_stores c scH _ _ (coverCH m c t h0 h1)
    ((show View.canon (atC m c t h0 h1).2.1 = leftCH m c t h0 h1 by unfold leftCH; rfl).trans (congrArg (fun s => s.2.1) (stAt_C m c t h0 h1)).symm)

theorem fillCOs (c : Dev nD) (t : Fin cfg0.N) (h0 : t.val % 8 = 0) (h1 : 120 ≤ t.val) :
    (iprop(∃ f, ((tOs t)).view.loc (c : Thread nD τ) ↦[((tOs t)).view.set]{fullShare} ((tOs t)).view.writes (Elt F) f (atC m c t h0 h1).2.2.1) : sProp 𝕄)
      ⊢ owns (c : Thread nD τ) (tOs t) fullShare (stAt m c t.val t.isLt).2.2.1 :=
  owns_of_stores c (tOs t) _ _ (coverCOs m c t h0 h1)
    ((show View.canon (atC m c t h0 h1).2.2.1 = leftCOs m c t h0 h1 by unfold leftCOs; rfl).trans (congrArg (fun s => s.2.2.1) (stAt_C m c t h0 h1)).symm)

theorem fillCHs (c : Dev nD) (t : Fin cfg0.N) (h0 : t.val % 8 = 0) (h1 : 120 ≤ t.val) :
    (iprop(∃ f, (scHs).view.loc (c : Thread nD τ) ↦[(scHs).view.set]{fullShare} (scHs).view.writes (Elt F) f (atC m c t h0 h1).2.2.2.1) : sProp 𝕄)
      ⊢ owns (c : Thread nD τ) scHs fullShare (stAt m c t.val t.isLt).2.2.2 :=
  owns_of_stores c scHs _ _ (coverCHs m c t h0 h1)
    ((show View.canon (atC m c t h0 h1).2.2.2.1 = leftCHs m c t h0 h1 by unfold leftCHs; rfl).trans (congrArg (fun s => s.2.2.2) (stAt_C m c t h0 h1)).symm)

theorem fillDO (c : Dev nD) (t : Fin cfg0.N) (h0 : ¬t.val % 8 = 0) (h1 : 120 ≤ t.val) :
    (iprop(∃ f, ((tO t)).view.loc (c : Thread nD τ) ↦[((tO t)).view.set]{fullShare} ((tO t)).view.writes (Elt F) f (atD m c t h0 h1 (stBefore m c t).1 (stBefore m c t).2.2.1 (stBefore m c t).2.1 (stBefore m c t).2.2.2).1) : sProp 𝕄)
      ⊢ owns (c : Thread nD τ) (tO t) fullShare (stAt m c t.val t.isLt).1 :=
  owns_of_stores c (tO t) _ _ (coverDO m c t h0 h1 (stBefore m c t).1 (stBefore m c t).2.2.1 (stBefore m c t).2.1 (stBefore m c t).2.2.2)
    ((show View.canon (atD m c t h0 h1 (stBefore m c t).1 (stBefore m c t).2.2.1 (stBefore m c t).2.1 (stBefore m c t).2.2.2).1 = leftDO m c t h0 h1 (stBefore m c t).1 (stBefore m c t).2.2.1 (stBefore m c t).2.1 (stBefore m c t).2.2.2 by unfold leftDO; rfl).trans (congrArg (fun s => s.1) (stAt_D m c t h0 h1)).symm)

theorem fillDOs (c : Dev nD) (t : Fin cfg0.N) (h0 : ¬t.val % 8 = 0) (h1 : 120 ≤ t.val) :
    (iprop(∃ f, ((tOs t)).view.loc (c : Thread nD τ) ↦[((tOs t)).view.set]{fullShare} ((tOs t)).view.writes (Elt F) f (atD m c t h0 h1 (stBefore m c t).1 (stBefore m c t).2.2.1 (stBefore m c t).2.1 (stBefore m c t).2.2.2).2.1) : sProp 𝕄)
      ⊢ owns (c : Thread nD τ) (tOs t) fullShare (stAt m c t.val t.isLt).2.2.1 :=
  owns_of_stores c (tOs t) _ _ (coverDOs m c t h0 h1 (stBefore m c t).1 (stBefore m c t).2.2.1 (stBefore m c t).2.1 (stBefore m c t).2.2.2)
    ((show View.canon (atD m c t h0 h1 (stBefore m c t).1 (stBefore m c t).2.2.1 (stBefore m c t).2.1 (stBefore m c t).2.2.2).2.1 = leftDOs m c t h0 h1 (stBefore m c t).1 (stBefore m c t).2.2.1 (stBefore m c t).2.1 (stBefore m c t).2.2.2 by unfold leftDOs; rfl).trans (congrArg (fun s => s.2.2.1) (stAt_D m c t h0 h1)).symm)

end Cert.MlpFrame

end
-- ==== Proof.Mlp.BodyA.lean ====
module

public import proofs.«01_k».proof.Proof.Mlp.Steps

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point that meets the first hidden block of a row tile that is not the last. -/
theorem bodyA (c : Dev nD) (t : Fin cfg0.N) (h0 : t.val % 8 = 0) (h1 : ¬120 ≤ t.val) :
    pre m c t ⊢ wp frame (wpE (defs₀ (F := F)) Variants.none c none) Set.univ (bodyAt0 t) (fun _ => post m c t) := by
  unfold pre post bodyAt0
  simp only [before0, before1, before2, before3, before4, leaves0, leaves1, leaves2, leaves3, leaves4, leaves5]
  rw [Dat.leavesExact_idle (dats m 0 c) 6 t (idle6 t h1) (noFlush6 t h1)]
  rw [inv_castSucc, show (dats m 0 c).Φ t.succ = inv m c (t.val + 1) t.isLt from rfl]
  rw [show (dats m 0 c).owesAt () t.succ = (dats m 0 c).owesAt () t.castSucc from rfl]
  unfold inv
  iintro ⟨⟨⟨%z0, %hz0, S0⟩, ⟨%z1, %hz1, S1⟩, Hg⟩, Ho, ⟨%d0, H0⟩, ⟨%d1, H1⟩, ⟨%d2, H2⟩, ⟨%d3, H3⟩, ⟨%d4, H4⟩, ⟨%d5, H5⟩, ⟨%d6, H6⟩⟩
  iapply ((atA m c t h0 h1).2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [S0]; · iexists _; iexact S0
  isplitl [S1]; · iexact S1
  iintro ⟨H0, H1, H2, H3, H4, H5, H6, S0, S1⟩
  isplitl [S0 S1 Hg]
  · isplitl [S0]
    · iexists (stAt m c t.val t.isLt).2.1; isplitr
      · ipureintro; exact fun _ => rfl
      · iapply (fillAH m c t h0 h1); iexact S0
    isplitl [S1]
    · iexists _; isplitr
      swap; · iexact S1
      ipureintro; intro h; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (fillAO m c t h0 h1); iexact H5
  iexists _; iexact H6

end Cert.MlpFrame

end
-- ==== Proof.Mlp.BodyB.lean ====
module

public import proofs.«01_k».proof.Proof.Mlp.Steps

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point that meets a later hidden block of a row tile that is not the last. -/
theorem bodyB (c : Dev nD) (t : Fin cfg0.N) (h0 : ¬t.val % 8 = 0) (h1 : ¬120 ≤ t.val) :
    pre m c t ⊢ wp frame (wpE (defs₀ (F := F)) Variants.none c none) Set.univ (bodyAt0 t) (fun _ => post m c t) := by
  unfold pre post bodyAt0
  simp only [before0, before1, before2, before3, before4, leaves0, leaves1, leaves2, leaves3, leaves4, leaves5]
  simp only [before5 m c t h0]
  rw [Dat.leavesExact_idle (dats m 0 c) 6 t (idle6 t h1) (noFlush6 t h1)]
  rw [inv_castSucc, show (dats m 0 c).Φ t.succ = inv m c (t.val + 1) t.isLt from rfl]
  rw [show (dats m 0 c).owesAt () t.succ = (dats m 0 c).owesAt () t.castSucc from rfl]
  unfold inv
  iintro ⟨⟨⟨%z0, %hz0, S0⟩, ⟨%z1, %hz1, S1⟩, Hg⟩, Ho, ⟨%d0, H0⟩, ⟨%d1, H1⟩, ⟨%d2, H2⟩, ⟨%d3, H3⟩, ⟨%d4, H4⟩, ⟨%d5, H5⟩, ⟨%d6, H6⟩⟩
  obtain rfl := hz0 (fun h => h0 (by rw [h]))
  iapply ((atB m c t h0 h1 _ _).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  iintro ⟨H0, H1, H2, H3, H4, H5, H6, S0, S1⟩
  isplitl [S0 S1 Hg]
  · isplitl [S0]
    · iexists _; isplitr
      swap; · iexact S0
      ipureintro; intro _; show _ = (stAt m c t.val t.isLt).2.1; rw [stAt_B m c t h0 h1]
    isplitl [S1]
    · iexists _; isplitr
      swap; · iexact S1
      ipureintro; intro h; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (fillBO m c t h0 h1); iexact H5
  iexists _; iexact H6

end Cert.MlpFrame

end
-- ==== Proof.Mlp.BodyC.lean ====
module

public import proofs.«01_k».proof.Proof.Mlp.Steps

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point that meets the first hidden block of the last row tile. -/
theorem bodyC (c : Dev nD) (t : Fin cfg0.N) (h0 : t.val % 8 = 0) (h1 : 120 ≤ t.val) :
    pre m c t ⊢ wp frame (wpE (defs₀ (F := F)) Variants.none c none) Set.univ (bodyAt0 t) (fun _ => post m c t) := by
  unfold pre post bodyAt0
  simp only [before0, before1, before2, before3, before4, leaves0, leaves1, leaves2, leaves3, leaves4, leaves5]
  rw [leaves6 m c t h1]
  rw [inv_castSucc, show (dats m 0 c).Φ t.succ = inv m c (t.val + 1) t.isLt from rfl]
  rw [show (dats m 0 c).owesAt () t.succ = (dats m 0 c).owesAt () t.castSucc from rfl]
  unfold inv
  iintro ⟨⟨⟨%z0, %hz0, S0⟩, ⟨%z1, %hz1, S1⟩, Hg⟩, Ho, ⟨%d0, H0⟩, ⟨%d1, H1⟩, ⟨%d2, H2⟩, ⟨%d3, H3⟩, ⟨%d4, H4⟩, ⟨%d5, H5⟩, ⟨%d6, H6⟩⟩
  iapply ((atC m c t h0 h1).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexists _; iexact S0
  isplitl [S1]; · iexists _; iexact S1
  iintro ⟨H0, H1, H2, H3, H4, H5, H6, S0, S1⟩
  isplitl [S0 S1 Hg]
  · isplitl [S0]
    · iexists (stAt m c t.val t.isLt).2.1; isplitr
      · ipureintro; exact fun _ => rfl
      · iapply (fillCH m c t h0 h1); iexact S0
    isplitl [S1]
    · iexists (stAt m c t.val t.isLt).2.2.2; isplitr
      · ipureintro; exact fun _ => rfl
      · iapply (fillCHs m c t h0 h1); iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (fillCO m c t h0 h1); iexact H5
  iapply (fillCOs m c t h0 h1); iexact H6

end Cert.MlpFrame

end
-- ==== Proof.Mlp.BodyD.lean ====
module

public import proofs.«01_k».proof.Proof.Mlp.Steps

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point that meets a later hidden block of the last row tile. -/
theorem bodyD (c : Dev nD) (t : Fin cfg0.N) (h0 : ¬t.val % 8 = 0) (h1 : 120 ≤ t.val) :
    pre m c t ⊢ wp frame (wpE (defs₀ (F := F)) Variants.none c none) Set.univ (bodyAt0 t) (fun _ => post m c t) := by
  unfold pre post bodyAt0
  simp only [before0, before1, before2, before3, before4, leaves0, leaves1, leaves2, leaves3, leaves4, leaves5]
  simp only [before5 m c t h0]
  simp only [before6 m c t (by omega)]
  rw [leaves6 m c t h1]
  rw [inv_castSucc, show (dats m 0 c).Φ t.succ = inv m c (t.val + 1) t.isLt from rfl]
  rw [show (dats m 0 c).owesAt () t.succ = (dats m 0 c).owesAt () t.castSucc from rfl]
  unfold inv
  iintro ⟨⟨⟨%z0, %hz0, S0⟩, ⟨%z1, %hz1, S1⟩, Hg⟩, Ho, ⟨%d0, H0⟩, ⟨%d1, H1⟩, ⟨%d2, H2⟩, ⟨%d3, H3⟩, ⟨%d4, H4⟩, ⟨%d5, H5⟩, ⟨%d6, H6⟩⟩
  obtain rfl := hz0 (fun h => h0 (by rw [h]))
  obtain rfl := hz1 (by omega)
  iapply ((atD m c t h0 h1 _ _ _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  iintro ⟨H0, H1, H2, H3, H4, H5, H6, S0, S1⟩
  isplitl [S0 S1 Hg]
  · isplitl [S0]
    · iexists _; isplitr
      swap; · iexact S0
      ipureintro; intro _; show _ = (stAt m c t.val t.isLt).2.1; rw [stAt_D m c t h0 h1]
    isplitl [S1]
    · iexists _; isplitr
      swap; · iexact S1
      ipureintro; intro _; show _ = (stAt m c t.val t.isLt).2.2.2; rw [stAt_D m c t h0 h1]
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (fillDO m c t h0 h1); iexact H5
  iapply (fillDOs m c t h0 h1); iexact H6

end Cert.MlpFrame

end
-- ==== Proof.Mlp.Frame.lean ====
module

public import proofs.«01_k».proof.Proof.Mlp.BodyA
public import proofs.«01_k».proof.Proof.Mlp.BodyB
public import proofs.«01_k».proof.Proof.Mlp.BodyC
public import proofs.«01_k».proof.Proof.Mlp.BodyD
public import Idealize.ShloMosaic.Lib.Claim

@[expose] public section

set_option maxRecDepth 16384

noncomputable section

namespace Cert.MlpFrame

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem body_at (c : Dev nD) (t : Fin cfg0.N) :
    pre m c t ⊢ wp frame (wpE (defs₀ (F := F)) Variants.none c none) Set.univ (bodyAt0 t) (fun _ => post m c t) := by
  by_cases h1 : 120 ≤ t.val
  · by_cases h0 : t.val % 8 = 0
    · exact bodyC m c t h0 h1
    · exact bodyD m c t h0 h1
  · by_cases h0 : t.val % 8 = 0
    · exact bodyA m c t h0 h1
    · exact bodyB m c t h0 h1

/-- The pipeline calls the body as `bodyAt0` spells it. -/
theorem call_eq (t : Fin cfg0.N) : defs₀ (F := F) .tc cfg0.body (cfg0.bodyArgs t (cfg0.slots t)) = bodyAt0 t := by
  unfold defs₀; rw [Defs.onTc_tc]

/-- The pipeline's obligation on the body holds. -/
theorem obligation (c : Dev nD) : BodyObligation (dats (F := F) m 0 c) (defs₀ (F := F)) Variants.none () Set.univ := fun t => by
  rw [bigSep_W0, bigSep_W0, call_eq]
  exact triple_restated (body_at m c t) rfl .rfl fun _ => .rfl

/-- What the region starts with gives the invariant before the first point, -/
theorem inv_start (c : Dev nD) : Pipeline.ΦA spec0 c ⊢ (dats m 0 c).Φ 0 := by
  rw [show (dats m 0 c).Φ 0 = inv m c 0 (Nat.zero_le _) from rfl, region_eq]
  unfold inv
  iintro ⟨⟨⟨%d0, S0⟩, ⟨%d1, S1⟩⟩, Hg⟩
  isplitl [S0]
  · iexists _; isplitr
    swap; · iexact S0
    ipureintro; intro h; exact absurd rfl h
  isplitl [S1]
  · iexists _; isplitr
    swap; · iexact S1
    ipureintro; intro h; exact absurd h (by decide)
  iexact Hg

/-- and the invariant after the last gives it back. -/
theorem inv_end (c : Dev nD) : (dats m 0 c).Φ (Fin.last cfg0.N) ⊢ Pipeline.ΦA spec0 c := by
  rw [show (dats m 0 c).Φ (Fin.last cfg0.N) = inv m c cfg0.N (Nat.le_refl _) from rfl, region_eq]
  unfold inv
  iintro ⟨⟨%d0, %e0, S0⟩, ⟨%d1, %e1, S1⟩, Hg⟩
  isplitr [Hg]
  · isplitl [S0]
    · iexists _; iexact S0
    iexists _; iexact S1
  iexact Hg

set_option backward.isDefEq.respectTransparency.types false in
/-- Every execution ends, with the arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_start m) (hout := inv_end m)

/-- Every execution ends with the arrays at what the proof data says. -/
theorem run_main : θ_run defs (onTc (τ := τ) (main (F := F))) (s₀ m ρ) (Pipeline.FramePost cfgs (dats m) 0 (V m)) :=
  (θ_run defs _ _).mono (fun _ h => h.1) (run_quiescent m ρ)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.MlpFrame

end
-- ==== Proof.Mlp.Ref.lean ====
/- The MLP's reference results as terms over its argument arrays. -/
module

public import proofs.«01_k».proof.Proof.Gen.MlpRefIdeal.Run
public import Idealize.ShloMosaic.Lib.Pipeline.ValueKit

@[expose] public section

set_option maxRecDepth 16384

noncomputable section

namespace Cert.MlpRefIdeal.Value

open Cert.MlpRefIdeal Cert.MlpRefIdeal.Gen Idealize.ShloMosaic Idealize.ShloMosaic.TcCoe Idealize.SL.Sem Idealize.ShloMosaic.StableHlo

/-- The reference's result for the prompt rows. -/
def REFP (X : FVec Ideal S8192x2048 .f32) (G : FVec Ideal S2048 .f32) (WU : FVec Ideal S2048x8192 .bf16) (WD : FVec Ideal S8192x2048 .bf16) : FVec Ideal S8192x2048 .f32 :=
  addf X (Host.dotGeneral dot_S8192x8192_S8192x2048_S8192x2048_1_0_0_1_n_n none (mulf (maximumf (Host.dotGeneral dot_S8192x2048_S2048x8192_S8192x8192_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (extf .f32 WU bitsLt_bf16_f32)) (broadcastInDim S8192x8192 ![] bcast_S_S8192x8192 (constant S_ .f32 0x00000000#32))) (maximumf (Host.dotGeneral dot_S8192x2048_S2048x8192_S8192x8192_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (extf .f32 WU bitsLt_bf16_f32)) (broadcastInDim S8192x8192 ![] bcast_S_S8192x8192 (constant S_ .f32 0x00000000#32)))) (extf .f32 WD bitsLt_bf16_f32))

/-- The reference's result for the sample rows. -/
def REFS (X : FVec Ideal S128x2048 .f32) (G : FVec Ideal S2048 .f32) (WU : FVec Ideal S2048x8192 .bf16) (WD : FVec Ideal S8192x2048 .bf16) : FVec Ideal S128x2048 .f32 :=
  addf X (Host.dotGeneral dot_S128x8192_S8192x2048_S128x2048_1_0_0_1_n_n none (mulf (maximumf (Host.dotGeneral dot_S128x2048_S2048x8192_S128x8192_1_0_0_1_n_n none (mulf (mulf X (broadcastInDim S128x2048 ![0, 1] bcast_S128x1_S128x2048_0_1 (Host.rsqrt (addf (Host.divf (broadcastInDim S128x1 ![0] bcast_S128_S128x1_0 (Host.reduceAdd (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))) (extf .f32 WU bitsLt_bf16_f32)) (broadcastInDim S128x8192 ![] bcast_S_S128x8192 (constant S_ .f32 0x00000000#32))) (maximumf (Host.dotGeneral dot_S128x2048_S2048x8192_S128x8192_1_0_0_1_n_n none (mulf (mulf X (broadcastInDim S128x2048 ![0, 1] bcast_S128x1_S128x2048_0_1 (Host.rsqrt (addf (Host.divf (broadcastInDim S128x1 ![0] bcast_S128_S128x1_0 (Host.reduceAdd (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))) (extf .f32 WU bitsLt_bf16_f32)) (broadcastInDim S128x8192 ![] bcast_S_S128x8192 (constant S_ .f32 0x00000000#32)))) (extf .f32 WD bitsLt_bf16_f32))

end Cert.MlpRefIdeal.Value

end
-- ==== Proof.Mlp.Value.lean ====
/- The feed-forward call's two result arrays are the reference's terms over the argument arrays: every row is the row
   itself plus its hidden blocks' terms, added up block by block. -/
module

public import proofs.«01_k».proof.Proof.Mlp.Frame
public import proofs.«01_k».proof.Proof.Mlp.Ref
public import Idealize.ShloMosaic.Lib.Pipeline.ValueKit
public import Idealize.ShloMosaic.Lib.Pipeline.ReadBack

@[expose] public section

set_option maxRecDepth 16384

noncomputable section

namespace Cert.MlpIdeal.Value

open Cert.MlpIdeal Cert.MlpIdeal.Gen Cert.MlpFrame Idealize.ShloMosaic Idealize.ShloMosaic.TcCoe Idealize.SL.Sem
open Idealize.ShloMosaic.Pipeline (Dat)
open Idealize.ShloMosaic.ValueKit
open Cert.MlpRefIdeal.Value (REFP REFS)

/-! ## A row's normalisation and its hidden units -/

/-- A row divided by the root of its mean square, times the gain. -/
def nrm (x g : Fin 2048 → EReal) (k : Fin 2048) : EReal :=
  x k * Ideal.rsqrt (Ideal.div (∑ l, x l * x l) (Ideal.ofBits FTy.f32 1157627904#32) + Ideal.ofBits FTy.f32 897988541#32) * g k

/-- A hidden unit's value: the square of the positive part of the row against the unit's weights. -/
def hid (h w : Fin 2048 → EReal) : EReal := max (∑ k, h k * w k) 0 * max (∑ k, h k * w k) 0

/-- What one block of 1024 hidden units adds to column `b` of a row. -/
def part (u : Vec Ideal S2048x1024 .bf16) (d : Vec Ideal S1024x2048 .bf16) (h : Fin 2048 → EReal) (b : Fin 2048) : EReal :=
  ∑ q : Fin 1024, hid h (fun k => u (ix2 k q)) * d (ix2 q b)

/-- The same over the whole weight arrays: what hidden block `s` adds. -/
def term (WU : Vec Ideal S2048x8192 .bf16) (WD : Vec Ideal S8192x2048 .bf16) (h : Fin 2048 → EReal) (b : Fin 2048) (s : ℕ) : EReal :=
  if hs : s < 8 then ∑ q : Fin 1024, hid h (fun k => WU (ix2 k (⟨s * 1024 + q.val, by omega⟩ : Fin 8192)))
    * WD (ix2 (⟨s * 1024 + q.val, by omega⟩ : Fin 8192) b) else 0

/-- All eight blocks' terms are the sum over all 8192 hidden units. -/
theorem sum_term (WU : Vec Ideal S2048x8192 .bf16) (WD : Vec Ideal S8192x2048 .bf16) (h : Fin 2048 → EReal) (b : Fin 2048) :
    ∑ s ∈ Finset.range 8, term WU WD h b s
      = ∑ p : Fin 8192, hid h (fun k => WU (ix2 k p)) * WD (ix2 p b) := by
  rw [← Fin.sum_univ_eq_sum_range (fun s => term WU WD h b s)]
  simp only [term, Fin.is_lt, dite_true]
  exact Fin.sum_mul_add_congr fun s q hl => rfl

/-! ## The payloads at an index -/

theorem pay9_eq (x : Vec Ideal S128x2048 .f32) (g : Vec Ideal S1x2048 .f32) (u : Vec Ideal S2048x1024 .bf16) (d : Vec Ideal S1024x2048 .bf16) (a : Fin 128) (b : Fin 2048) :
    k0_pay9 (F := Ideal) x g u d (ix2 a b)
      = x (ix2 a b) + part u d (nrm (fun k => x (ix2 a k)) (fun k => g (ix2 0 k))) b := by
  pointwise [k0_pay9, k0_pay7]
  rfl

theorem pay8_eq (x : Vec Ideal S128x2048 .f32) (g : Vec Ideal S1x2048 .f32) (a : Fin 128) (b : Fin 2048) :
    k0_pay8 (F := Ideal) x g (ix2 a b) = nrm (fun k => x (ix2 a k)) (fun k => g (ix2 0 k)) b := by
  pointwise [k0_pay8, k0_pay7]
  rfl

theorem pay5_eq (x : Vec Ideal S128x2048 .f32) (g : Vec Ideal S1x2048 .f32) (u : Vec Ideal S2048x1024 .bf16) (d : Vec Ideal S1024x2048 .bf16) (a : Fin 128) (b : Fin 2048) :
    k0_pay5 (F := Ideal) x g u d (ix2 a b)
      = x (ix2 a b) + part u d (nrm (fun k => x (ix2 a k)) (fun k => g (ix2 0 k))) b := by
  pointwise [k0_pay5, k0_pay3]
  rfl

theorem pay4_eq (x : Vec Ideal S128x2048 .f32) (g : Vec Ideal S1x2048 .f32) (a : Fin 128) (b : Fin 2048) :
    k0_pay4 (F := Ideal) x g (ix2 a b) = nrm (fun k => x (ix2 a k)) (fun k => g (ix2 0 k)) b := by
  pointwise [k0_pay4, k0_pay3]
  rfl

theorem pay2_eq (y : Vec Ideal S512x2048 .f32) (h : Vec Ideal S512x2048 .bf16) (u : Vec Ideal S2048x1024 .bf16) (d : Vec Ideal S1024x2048 .bf16) (a : Fin 512) (b : Fin 2048) :
    k0_pay2 (F := Ideal) y h u d (ix2 a b) = y (ix2 a b) + part u d (fun k => h (ix2 a k)) b := by
  pointwise [k0_pay2]
  rfl

theorem pay6_eq (y : Vec Ideal S128x2048 .f32) (h : Vec Ideal S128x2048 .bf16) (u : Vec Ideal S2048x1024 .bf16) (d : Vec Ideal S1024x2048 .bf16) (a : Fin 128) (b : Fin 2048) :
    k0_pay6 (F := Ideal) y h u d (ix2 a b) = y (ix2 a b) + part u d (fun k => h (ix2 a k)) b := by
  pointwise [k0_pay6]
  rfl

/-- The four pieces of a row tile are computed alike. -/
theorem pay14_eq (x : Vec Ideal S128x2048 .f32) (g : Vec Ideal S1x2048 .f32) (u : Vec Ideal S2048x1024 .bf16) (d : Vec Ideal S1024x2048 .bf16) :
    k0_pay14 (F := Ideal) x (k0_pay10 g) (k0_pay11 x) u d = k0_pay9 (F := Ideal) x g u d := rfl

theorem pay18_eq (x : Vec Ideal S128x2048 .f32) (g : Vec Ideal S1x2048 .f32) (u : Vec Ideal S2048x1024 .bf16) (d : Vec Ideal S1024x2048 .bf16) :
    k0_pay18 (F := Ideal) x (k0_pay15 x g) u d = k0_pay9 (F := Ideal) x g u d := rfl

theorem pay13_eq (x : Vec Ideal S128x2048 .f32) (g : Vec Ideal S1x2048 .f32) :
    k0_pay13 (F := Ideal) x (k0_pay10 g) (k0_pay11 x) = k0_pay8 (F := Ideal) x g := rfl

theorem pay17_eq (x : Vec Ideal S128x2048 .f32) (g : Vec Ideal S1x2048 .f32) :
    k0_pay17 (F := Ideal) (k0_pay15 x g) = k0_pay8 (F := Ideal) x g := rfl

theorem pay1_eq (x : Vec Ideal S128x2048 .f32) (g : Vec Ideal S1x2048 .f32) (u : Vec Ideal S2048x1024 .bf16) (d : Vec Ideal S1024x2048 .bf16) :
    k0_pay1 (F := Ideal) x (k0_pay19 x g) u (constant S128x1024 .f32 0#32) d = k0_pay9 (F := Ideal) x g u d := rfl

theorem pay20_eq (x : Vec Ideal S128x2048 .f32) (g : Vec Ideal S1x2048 .f32) :
    k0_pay20 (F := Ideal) x g = k0_pay8 (F := Ideal) x g := rfl

/-! ## The tiles at a grid point -/

variable (m : (ℓ : Loc nD τ sig) → Buf (Elt Ideal) ℓ)

/-- The windows' block indices at every grid point. -/
theorem idx : ∀ t : Fin cfg0.N, win0_0.index t = ![t.val / 8, 0] ∧ win0_1.index t = ![0, 0] ∧ win0_2.index t = ![0, 0]
    ∧ win0_3.index t = ![0, t.val % 8] ∧ win0_4.index t = ![t.val % 8, 0] ∧ win0_5.index t = ![t.val / 8, 0] ∧ win0_6.index t = ![0, 0] :=
  (by decide +kernel : ∀ t : Fin grid0.N, _)

/-- The argument arrays. -/
abbrev XA (c : Dev nD) : Vec Ideal S8192x2048 .f32 := m ((c : Thread nD τ).loc main_arg0)
abbrev XS (c : Dev nD) : Vec Ideal S128x2048 .f32 := m ((c : Thread nD τ).loc main_arg1)
abbrev GA (c : Dev nD) : Vec Ideal S2048 .f32 := m ((c : Thread nD τ).loc main_arg2)
abbrev WU (c : Dev nD) : Vec Ideal S2048x8192 .bf16 := m ((c : Thread nD τ).loc main_arg3)
abbrev WD (c : Dev nD) : Vec Ideal S8192x2048 .bf16 := m ((c : Thread nD τ).loc main_arg4)

/-- A long row normalised, and a row of the single step normalised. -/
def rowN (c : Dev nD) (r : Fin 8192) : Fin 2048 → EReal := nrm (fun k => XA m c (ix2 r k)) (fun k => GA m c (ix1 k))
def rowS (c : Dev nD) (r : Fin 128) : Fin 2048 → EReal := nrm (fun k => XS m c (ix2 r k)) (fun k => GA m c (ix1 k))

/-- The weight tiles' part at a point is its hidden block's term. -/
theorem part_eq (c : Dev nD) (t : Fin cfg0.N) (h : Fin 2048 → EReal) (b : Fin 2048) :
    part (iblk m c 3 t) (iblk m c 4 t) h b = term (WU m c) (WD m c) h b (t.val % 8) := by
  unfold term part
  rw [dif_pos (by omega)]
  refine Finset.sum_congr rfl fun q _ => ?_
  congr 1
  · congr 1
    funext k
    blk_point [iblk, V, idx t]
  · blk_point [iblk, V, idx t]

/-- The gain tile is the gain array. -/
theorem gain_eq (c : Dev nD) (t : Fin cfg0.N) :
    (fun k : Fin 2048 => (iblk m c 2 t : Vec Ideal S1x2048 .f32) (ix2 0 k)) = fun k => GA m c (ix1 k) := by
  funext k
  blk_point [iblk, V, idx t]

/-- The first hidden block's piece of 128 rows. -/
theorem piece (c : Dev nD) (t : Fin cfg0.N) (o : ℕ)
    (hr : ∀ a, (![o, 0] : Fin 2 → ℕ) a + (![128, 2048] : Fin 2 → ℕ) a ≤ S512x2048.size a)
    (a : Fin 128) (b : Fin 2048) (r : Fin 8192) (hj : (r : ℕ) = t.val / 8 * 512 + (o + (a : ℕ))) :
    k0_pay9 (F := Ideal) (View.ld (iblk m c 0 t) (Rect.unit (s := S512x2048) ![o, 0] ![128, 2048] hr)) (iblk m c 2 t) (iblk m c 3 t) (iblk m c 4 t) (ix2 a b)
      = XA m c (ix2 r b) + term (WU m c) (WD m c) (rowN m c r) b (t.val % 8) := by
  have hx : ∀ k : Fin 2048, View.ld (iblk m c 0 t) (Rect.unit (s := S512x2048) ![o, 0] ![128, 2048] hr) (ix2 a k) = XA m c (ix2 r k) := by
    intro k
    blk_point [iblk, V, idx t]
  rw [pay9_eq, part_eq, gain_eq, funext hx]
  exact congrArg (· + _) (hx b)

/-- The normalised rows' piece of 128 rows. -/
theorem pieceN (c : Dev nD) (t : Fin cfg0.N) (o : ℕ)
    (hr : ∀ a, (![o, 0] : Fin 2 → ℕ) a + (![128, 2048] : Fin 2 → ℕ) a ≤ S512x2048.size a)
    (a : Fin 128) (b : Fin 2048) (r : Fin 8192) (hj : (r : ℕ) = t.val / 8 * 512 + (o + (a : ℕ))) :
    k0_pay8 (F := Ideal) (View.ld (iblk m c 0 t) (Rect.unit (s := S512x2048) ![o, 0] ![128, 2048] hr)) (iblk m c 2 t) (ix2 a b) = rowN m c r b := by
  have hx : ∀ k : Fin 2048, View.ld (iblk m c 0 t) (Rect.unit (s := S512x2048) ![o, 0] ![128, 2048] hr) (ix2 a k) = XA m c (ix2 r k) := by
    intro k
    blk_point [iblk, V, idx t]
  rw [pay8_eq, gain_eq, funext hx]
  rfl

/-- After a first hidden block the long rows' tile holds each row plus the first block's term. -/
theorem first (c : Dev nD) (t : Fin cfg0.N) (h0 : t.val % 8 = 0) (x : S512x2048.Idx) (r : Fin 8192) (b : Fin 2048)
    (hj : (r : ℕ) = t.val / 8 * 512 + (x 0 : ℕ)) (hb : (b : ℕ) = x 1) :
    (stAt m c t.val t.isLt).1 x = XA m c (ix2 r b) + term (WU m c) (WD m c) (rowN m c r) b (t.val % 8) := by
  by_cases h1 : 120 ≤ t.val
  · rw [stAt_C m c t h0 h1]
    unfold leftCO atC
    frame_out
    simp (disch := decide) only [View.readCov_fill, pay14_eq, pay18_eq, pay1_eq]
    canon_tiles x h
    all_goals
      obtain rfl : b = x 1 := Fin.ext (by omega)
      rw [eq_ix2 x]
      exact piece m c t _ _ (x 0) (x 1) r (by omega)
  · rw [(stAt_A m c t h0 h1).1]
    unfold leftAO atA
    frame_out
    simp (disch := decide) only [View.readCov_fill, pay14_eq, pay18_eq, pay1_eq]
    canon_tiles x h
    all_goals
      obtain rfl : b = x 1 := Fin.ext (by omega)
      rw [eq_ix2 x]
      exact piece m c t _ _ (x 0) (x 1) r (by omega)

/-- and the scratch buffer its normalised rows. -/
theorem firstN (c : Dev nD) (t : Fin cfg0.N) (h0 : t.val % 8 = 0) (x : S512x2048.Idx) (r : Fin 8192) (b : Fin 2048)
    (hj : (r : ℕ) = t.val / 8 * 512 + (x 0 : ℕ)) (hb : (b : ℕ) = x 1) :
    (stAt m c t.val t.isLt).2.1 x = rowN m c r b := by
  by_cases h1 : 120 ≤ t.val
  · rw [stAt_C m c t h0 h1]
    unfold leftCH atC
    frame_out
    simp only [pay13_eq, pay17_eq, pay20_eq]
    canon_tiles x h
    all_goals
      obtain rfl : b = x 1 := Fin.ext (by omega)
      rw [eq_ix2 x]
      exact pieceN m c t _ _ (x 0) (x 1) r (by omega)
  · rw [(stAt_A m c t h0 h1).2]
    unfold leftAH atA
    frame_out
    simp only [pay13_eq, pay17_eq, pay20_eq]
    canon_tiles x h
    all_goals
      obtain rfl : b = x 1 := Fin.ext (by omega)
      rw [eq_ix2 x]
      exact pieceN m c t _ _ (x 0) (x 1) r (by omega)

/-- A later hidden block adds its term to the tile, -/
theorem later (c : Dev nD) (t : Fin cfg0.N) (h0 : ¬t.val % 8 = 0) (a : Fin 512) (b : Fin 2048) :
    (stAt m c t.val t.isLt).1 (ix2 a b) = (stBefore m c t).1 (ix2 a b)
      + term (WU m c) (WD m c) (fun k => (stBefore m c t).2.1 (ix2 a k)) b (t.val % 8) := by
  by_cases h1 : 120 ≤ t.val
  · rw [stAt_D m c t h0 h1]
    unfold leftDO atD
    frame_out
    rw [read_unread_whole, pay2_eq, part_eq]
  · rw [stAt_B m c t h0 h1]
    unfold leftBO atB
    frame_out
    rw [read_unread_whole, pay2_eq, part_eq]

/-- and leaves the normalised rows. -/
theorem laterN (c : Dev nD) (t : Fin cfg0.N) (h0 : ¬t.val % 8 = 0) : (stAt m c t.val t.isLt).2.1 = (stBefore m c t).2.1 := by
  by_cases h1 : 120 ≤ t.val
  · rw [stAt_D m c t h0 h1]
  · rw [stAt_B m c t h0 h1]

/-- So after every point the scratch buffer holds its row tile's normalised rows, -/
theorem carried (c : Dev nD) : ∀ (n : ℕ) (hn : n < cfg0.N) (a : Fin 512) (b : Fin 2048) (r : Fin 8192),
    (r : ℕ) = n / 8 * 512 + (a : ℕ) → (stAt m c n hn).2.1 (ix2 a b) = rowN m c r b
  | 0, hn, a, b, r, hj => firstN m c ⟨0, hn⟩ (Nat.zero_mod 8) (ix2 a b) r b hj rfl
  | n + 1, hn, a, b, r, hj => by
      by_cases h0 : (n + 1) % 8 = 0
      · exact firstN m c ⟨n + 1, hn⟩ h0 (ix2 a b) r b hj rfl
      · rw [laterN m c ⟨n + 1, hn⟩ h0]
        exact carried c n (Nat.lt_of_succ_lt hn) a b r (by omega)

/-- and the tile each row plus the terms of the hidden blocks so far. -/
theorem added (c : Dev nD) : ∀ (n : ℕ) (hn : n < cfg0.N) (a : Fin 512) (b : Fin 2048) (r : Fin 8192),
    (r : ℕ) = n / 8 * 512 + (a : ℕ) → (stAt m c n hn).1 (ix2 a b)
      = XA m c (ix2 r b) + ∑ s ∈ Finset.range (n % 8 + 1), term (WU m c) (WD m c) (rowN m c r) b s
  | 0, hn, a, b, r, hj => by
      rw [show 0 % 8 + 1 = 1 from rfl, Finset.sum_range_one]
      exact first m c ⟨0, hn⟩ (Nat.zero_mod 8) (ix2 a b) r b hj rfl
  | n + 1, hn, a, b, r, hj => by
      by_cases h0 : (n + 1) % 8 = 0
      · rw [h0, Finset.sum_range_one]
        exact (first m c ⟨n + 1, hn⟩ h0 (ix2 a b) r b hj rfl).trans (by dsimp only; rw [h0])
      · have e : (n + 1) % 8 = n % 8 + 1 := by omega
        rw [later m c ⟨n + 1, hn⟩ h0]
        have ih := added c n (Nat.lt_of_succ_lt hn) a b r (by omega)
        have hr : (fun k => (stBefore m c ⟨n + 1, hn⟩).2.1 (ix2 a k)) = rowN m c r :=
          funext fun k => carried m c n (Nat.lt_of_succ_lt hn) a k r (by omega)
        rw [hr, e, Finset.sum_range_succ, ← add_assoc, ← ih]
        rfl

/-! ## The single step's rows -/

/-- The first hidden block fills the single step's tile and its normalised rows. -/
theorem firstS (c : Dev nD) (t : Fin cfg0.N) (h0 : t.val % 8 = 0) (h1 : 120 ≤ t.val) (a : Fin 128) (b : Fin 2048) :
    (stAt m c t.val t.isLt).2.2.1 (ix2 a b) = XS m c (ix2 a b) + term (WU m c) (WD m c) (rowS m c a) b (t.val % 8)
      ∧ (stAt m c t.val t.isLt).2.2.2 (ix2 a b) = rowS m c a b := by
  have hx : ∀ k : Fin 2048, (iblk m c 1 t : Vec Ideal S128x2048 .f32) (ix2 a k) = XS m c (ix2 a k) := by
    intro k
    blk_point [iblk, V, idx t]
  rw [stAt_C m c t h0 h1]
  unfold leftCOs leftCHs atC
  constructor
  · frame_out
    rw [pay5_eq, part_eq, gain_eq, funext hx]
    exact congrArg (· + _) (hx b)
  · frame_out
    rw [pay4_eq, gain_eq, funext hx]
    rfl

/-- A later one adds its term. -/
theorem laterS (c : Dev nD) (t : Fin cfg0.N) (h0 : ¬t.val % 8 = 0) (h1 : 120 ≤ t.val) (a : Fin 128) (b : Fin 2048) :
    (stAt m c t.val t.isLt).2.2.1 (ix2 a b) = (stBefore m c t).2.2.1 (ix2 a b)
        + term (WU m c) (WD m c) (fun k => (stBefore m c t).2.2.2 (ix2 a k)) b (t.val % 8)
      ∧ (stAt m c t.val t.isLt).2.2.2 = (stBefore m c t).2.2.2 := by
  rw [stAt_D m c t h0 h1]
  refine ⟨?_, rfl⟩
  unfold leftDOs atD
  frame_out
  rw [read_unread_whole, pay6_eq, part_eq]

/-- So after point `120 + s` the tile holds each row plus its first `s + 1` terms. -/
theorem addedS (c : Dev nD) (a : Fin 128) : ∀ (s : ℕ) (hs : s < 8) (hn : 120 + s < cfg0.N),
    (∀ b, (stAt m c (120 + s) hn).2.2.2 (ix2 a b) = rowS m c a b)
      ∧ ∀ b, (stAt m c (120 + s) hn).2.2.1 (ix2 a b)
        = XS m c (ix2 a b) + ∑ s ∈ Finset.range (s + 1), term (WU m c) (WD m c) (rowS m c a) b s
  | 0, hs, hn => by
      refine ⟨fun b => (firstS m c ⟨120, hn⟩ (show 120 % 8 = 0 by decide) (Nat.le_refl 120) a b).2, fun b => ?_⟩
      rw [Finset.sum_range_one]
      have l := (firstS m c ⟨120, hn⟩ (show 120 % 8 = 0 by decide) (Nat.le_refl 120) a b).1
      rw [show (⟨120, hn⟩ : Fin cfg0.N).val % 8 = 0 by show 120 % 8 = 0; decide] at l
      exact l
  | s + 1, hs, hn => by
      obtain ⟨ih1, ih2⟩ := addedS c a s (by omega) (by omega)
      have l := laterS m c ⟨120 + s + 1, hn⟩ (show ¬(120 + s + 1) % 8 = 0 by omega) (show 120 ≤ 120 + s + 1 by omega) a
      refine ⟨fun b => (congrFun (l b).2 _).trans (ih1 b), fun b => (l b).1.trans ?_⟩
      have hr : (fun k => (stBefore m c ⟨120 + s + 1, hn⟩).2.2.2 (ix2 a k)) = rowS m c a := funext ih1
      rw [hr, show (⟨120 + s + 1, hn⟩ : Fin cfg0.N).val % 8 = s + 1 by show (120 + s + 1) % 8 = s + 1; omega,
        Finset.sum_range_succ, ← add_assoc, ← ih2 b]
      rfl

/-! ## The result arrays -/

/-- The reference's long rows, read at an index. -/
theorem ref_eq (c : Dev nD) (r : Fin 8192) (b : Fin 2048) :
    REFP (XA m c) (GA m c) (WU m c) (WD m c) (ix2 r b)
      = XA m c (ix2 r b) + ∑ p : Fin 8192, hid (rowN m c r) (fun k => WU m c (ix2 k p)) * WD m c (ix2 p b) := by
  pointwise [REFP]
  rfl

/-- The reference's rows of the single step, read at an index. -/
theorem refS_eq (c : Dev nD) (r : Fin 128) (b : Fin 2048) :
    REFS (XS m c) (GA m c) (WU m c) (WD m c) (ix2 r b)
      = XS m c (ix2 r b) + ∑ p : Fin 8192, hid (rowS m c r) (fun k => WU m c (ix2 k p)) * WD m c (ix2 p b) := by
  pointwise [REFS]
  rfl

/-- The tile written back after the last hidden block is the reference's. -/
theorem tile (c : Dev nD) (t : Fin cfg0.N) (h7 : t.val % 8 = 7) (x : S512x2048.Idx) (i : S8192x2048.Idx)
    (hi0 : (i 0 : ℕ) = t.val / 8 * 512 + (x 0 : ℕ)) (hi1 : (i 1 : ℕ) = x 1) :
    (stAt m c t.val t.isLt).1 x = REFP (XA m c) (GA m c) (WU m c) (WD m c) i := by
  obtain ⟨r, b, rfl⟩ : ∃ r b, i = ix2 r b := ⟨_, _, eq_ix2 i⟩
  obtain ⟨a, b', rfl⟩ : ∃ a b', x = ix2 a b' := ⟨_, _, eq_ix2 x⟩
  obtain rfl : b = b' := Fin.ext hi1
  rw [added m c t.val t.isLt a b r hi0, h7, sum_term, ref_eq]

/-- The same of the single step's tile. -/
theorem tileS (c : Dev nD) (t : Fin cfg0.N) (h7 : t.val % 128 = 127) (x i : S128x2048.Idx)
    (hi0 : (i 0 : ℕ) = x 0) (hi1 : (i 1 : ℕ) = x 1) :
    (stAt m c t.val t.isLt).2.2.1 x = REFS (XS m c) (GA m c) (WU m c) (WD m c) i := by
  have hN : t.val < 128 := lt_of_lt_of_eq t.isLt N_0
  obtain ⟨n, hn⟩ := t
  obtain rfl : n = 120 + 7 := by dsimp only at h7 hN; omega
  obtain ⟨r, b, rfl⟩ : ∃ r b, i = ix2 r b := ⟨_, _, eq_ix2 i⟩
  obtain ⟨a, b', rfl⟩ : ∃ a b', x = ix2 a b' := ⟨_, _, eq_ix2 x⟩
  obtain rfl : b = b' := Fin.ext hi1
  obtain rfl : r = a := Fin.ext hi0
  rw [(addedS m c r 7 (by decide) hn).2 b, sum_term, refS_eq]

/-- The first result array of the launch. -/
theorem final5 (c : Dev nD) : (dats m 0 c).arrAt 5 (cfgs 0).N
    = REFP (m ((c : Thread nD τ).loc main_arg0)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h7 := (flush0_5 t).mp hf
  blk_simp
  rw [after5]
  refine tile m c t h7 y _ ?_ ?_
  all_goals (blk_simp [idx t] <;> try omega)

/-- The second result array of the launch. -/
theorem final6 (c : Dev nD) : (dats m 0 c).arrAt 6 (cfgs 0).N
    = REFS (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h7 := (flush0_6 t).mp hf
  blk_simp
  rw [after6]
  refine tileS m c t h7 y _ ?_ ?_
  all_goals (blk_simp [idx t] <;> try omega)

end Cert.MlpIdeal.Value
end
-- ==== Proof.Mlp.Claims.lean ====
/- The five claims about the feed-forward call: its frames and its value. -/
module

public import proofs.«01_k».proof.Defs
public import proofs.«01_k».proof.Proof.MlpWord.Frame
public import proofs.«01_k».proof.Proof.Mlp.Value
public import Idealize.ShloMosaic.Lib.Claim

@[expose] public section

set_option maxRecDepth 16384

noncomputable section

namespace Cert.MlpClaims

open Idealize.ShloMosaic Idealize.ShloMosaic.TcCoe Idealize.SL.Sem
open Cert.MlpRefIdeal.Value (REFP REFS)

/-- The kernel ends with its arguments and semaphores unchanged, as printed. -/
theorem frame : Cert.quiescent_Mlp := fun m g _ => Cert.MlpWordFrame.frame m g

/-- The same at exact operations. -/
theorem frame_ideal : Cert.quiescent_MlpIdeal := fun m g _ => Cert.MlpFrame.frame m g

/-- The reference ends with its arguments unchanged; it declares no semaphore. -/
theorem frame_ref : Cert.quiescent_MlpRefIdeal := fun m g _ =>
  (θ_run Cert.MlpRefIdeal.defs _ _).mono (fun r h => ⟨fun c => (h c).2.2, sem_eq_zero_of_no_sems (by decide) r.2⟩)
    (Cert.MlpRefIdeal.Value.run (F := Ideal) m g)

/-- The idealized program is the printed one. -/
theorem preserves : Cert.preserves_Mlp_MlpIdeal := trivial

/-- At exact operations the kernel's two results are the reference's. -/
theorem algebraic : Cert.algebraic_MlpIdeal_MlpRefIdeal := by
  pair_intro
  · run_from Cert.MlpFrame.run_main m g
  · refine (θ_run Cert.MlpRefIdeal.defs _ _).mono (fun r h c => ⟨(h c).1.trans ?_, (h c).2.1.trans ?_, (h c).2.2⟩)
      (Cert.MlpRefIdeal.Value.run (F := Ideal) m' g')
    · show REFP (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) = _
      rw [(hagree c).1, (hagree c).2.2.1, (hagree c).2.2.2.1, (hagree c).2.2.2.2]
      exact (Cert.MlpIdeal.Value.final5 m c).symm
    · show REFS (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) = _
      rw [(hagree c).2.1, (hagree c).2.2.1, (hagree c).2.2.2.1, (hagree c).2.2.2.2]
      exact (Cert.MlpIdeal.Value.final6 m c).symm

end Cert.MlpClaims

end
-- ==== Proof.NormIn.Ref.lean ====
/- The normalised input projection's reference results as terms over its argument arrays. -/
module

public import proofs.«01_k».proof.Proof.Gen.NormInRefIdeal.Run
public import Idealize.ShloMosaic.Lib.Pipeline.ValueKit

@[expose] public section

set_option maxRecDepth 16384

noncomputable section

namespace Cert.NormInRefIdeal.Value

open Cert.NormInRefIdeal Cert.NormInRefIdeal.Gen Idealize.ShloMosaic Idealize.ShloMosaic.TcCoe Idealize.SL.Sem Idealize.ShloMosaic.StableHlo

/-- The reference's result for the prompt rows. -/
def REFP (X : FVec Ideal S8192x2048 .f32) (G : FVec Ideal S2048 .f32) (W : FVec Ideal S2048x3072 .bf16) : FVec Ideal S8192x3072 .f32 :=
  Host.dotGeneral dot_S8192x2048_S2048x3072_S8192x3072_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (extf .f32 W bitsLt_bf16_f32)

/-- The reference's result for the sample rows. -/
def REFS (X : FVec Ideal S128x2048 .f32) (G : FVec Ideal S2048 .f32) (W : FVec Ideal S2048x3072 .bf16) : FVec Ideal S128x3072 .f32 :=
  Host.dotGeneral dot_S128x2048_S2048x3072_S128x3072_1_0_0_1_n_n none (mulf (mulf X (broadcastInDim S128x2048 ![0, 1] bcast_S128x1_S128x2048_0_1 (Host.rsqrt (addf (Host.divf (broadcastInDim S128x1 ![0] bcast_S128_S128x1_0 (Host.reduceAdd (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))) (extf .f32 W bitsLt_bf16_f32)

end Cert.NormInRefIdeal.Value

end
-- ==== Proof.NormIn.Value.lean ====
/- The normalised input projection's two result arrays are the reference's terms over the argument arrays. -/
module

public import proofs.«01_k».proof.Proof.Gen.NormInIdeal.Frame
public import proofs.«01_k».proof.Proof.NormIn.Ref
public import Idealize.ShloMosaic.Lib.Pipeline.ValueKit

@[expose] public section

set_option maxRecDepth 16384

noncomputable section

namespace Cert.NormInIdeal.Value

open Cert.NormInIdeal Cert.NormInIdeal.Gen Idealize.ShloMosaic Idealize.ShloMosaic.TcCoe Idealize.SL.Sem
open Idealize.ShloMosaic.Pipeline (Dat)
open Cert.NormInRefIdeal.Value (REFP REFS)

/-- One row `x` over its root mean square, times the gain, through the weight's column `q`. -/
def row (x : Fin 2048 → EReal) (g : Fin 2048 → EReal) (w : Fin 2048 → EReal) : EReal :=
  ∑ k, x k * Ideal.rsqrt (Ideal.div (∑ l, x l * x l) (Ideal.ofBits FTy.f32 1157627904#32)
      + Ideal.ofBits FTy.f32 897988541#32) * g k * w k

/-- The first piece's payload, at an index, is `row` of that row. -/
theorem pay2_at (w : Vec Ideal S2048x1536 .bf16) (x : Vec Ideal S128x2048 .f32) (g : Vec Ideal S1x2048 .f32) (r : Fin 128) (q : Fin 1536) :
    k0_pay2 (F := Ideal) w x g (ix2 r q) = row (fun k => x (ix2 r k)) (fun k => g (ix2 0 k)) (fun k => w (ix2 k q)) := by
  pointwise [k0_pay2]
  rfl

/-- The sample rows' payload is the first piece's. -/
theorem pay1_eq (w : Vec Ideal S2048x1536 .bf16) (x : Vec Ideal S128x2048 .f32) (g : Vec Ideal S1x2048 .f32) :
    k0_pay1 (F := Ideal) w x g = k0_pay2 w x g := rfl

/-- The second piece's payload is the first's. -/
theorem pay4_eq (w : Vec Ideal S2048x1536 .bf16) (x : Vec Ideal S128x2048 .f32) (g : Vec Ideal S1x2048 .f32) :
    k0_pay4 (F := Ideal) w (k0_pay3 x g) = k0_pay2 w x g := rfl

/-- The reference's prompt result, at an index, is `row` of that row. -/
theorem refp_at (X : FVec Ideal S8192x2048 .f32) (G : FVec Ideal S2048 .f32) (W : FVec Ideal S2048x3072 .bf16) (r : Fin 8192) (q : Fin 3072) :
    REFP X G W (ix2 r q) = row (fun k => X (ix2 r k)) (fun k => G (ix1 k)) (fun k => W (ix2 k q)) := by
  pointwise [REFP]
  rfl

/-- The reference's sample result, at an index, is `row` of that row. -/
theorem refs_at (X : FVec Ideal S128x2048 .f32) (G : FVec Ideal S2048 .f32) (W : FVec Ideal S2048x3072 .bf16) (r : Fin 128) (q : Fin 3072) :
    REFS X G W (ix2 r q) = row (fun k => X (ix2 r k)) (fun k => G (ix1 k)) (fun k => W (ix2 k q)) := by
  pointwise [REFS]
  rfl

variable (m : (ℓ : Loc nD τ sig) → Buf (Elt Ideal) ℓ)

/-- The gain's row when the launch starts. -/
theorem gain0 (c : Dev nD) : V m c main_v0 = shapeCast S1x2048 (m ((c : Thread nD τ).loc main_arg2)) shapeCasts_S2048_S1x2048 := by
  show StableHlo.after hostOps0 (fun b => m (c, b)) (Proc.devRef .tc main_v0) = _
  after_results
  rfl

/-- The windows' block indices at every grid point. -/
theorem idx : ∀ t : Fin cfg0.N, win0_0.index t = ![t.val / 2, 0] ∧ win0_1.index t = ![0, 0] ∧ win0_2.index t = ![0, 0]
    ∧ win0_3.index t = ![0, 0] ∧ win0_4.index t = ![t.val / 2, t.val % 2] ∧ win0_5.index t = ![0, if 14 ≤ t.val then t.val - 14 else 0] :=
  (by decide +kernel : ∀ t : Fin grid0.N, _)

/-- The gain's row as the body reads it. -/
theorem gain (c : Dev nD) (t : Fin cfg0.N) (k : Fin 2048) :
    (V m c main_v0 : Vec Ideal S1x2048 .f32) ((win0_2.blk t).view.emb (ix2 0 k)) = m ((c : Thread nD τ).loc main_arg2) (ix1 k) := by
  rw [gain0]
  have e : ((win0_2.blk t).view.emb (ix2 0 k) : S1x2048.Idx) = ix2 0 k := by
    funext a
    apply Fin.ext
    fin_cases a <;> blk_simp [idx t]
  rw [e]
  pointwise

/-- The weight columns the body reads at a grid point. -/
theorem off : ∀ t : Fin cfg0.N, k0_off1 (grid0.coords t) = ![0, t.val % 2 * 1536] :=
  (by decide +kernel : ∀ t : Fin grid0.N, _)

/-- A piece of 128 rows of a tile is the reference's rows. -/
theorem piece (c : Dev nD) (t : Fin cfg0.N) (hw : ∀ a, k0_off1 (grid0.coords t) a + (![2048, 1536] : Fin 2 → ℕ) a ≤ S2048x3072.size a)
    (o : ℕ) (ho : ∀ a, (![o, 0] : Fin 2 → ℕ) a + (![128, 2048] : Fin 2 → ℕ) a ≤ S1024x2048.size a)
    (x : S128x1536.Idx) (j : S8192x3072.Idx) (hj0 : (j 0 : ℕ) = t.val / 2 * 1024 + (o + (x 0 : ℕ))) (hj1 : (j 1 : ℕ) = t.val % 2 * 1536 + x 1) :
    k0_pay2 (F := Ideal) (View.ld (iblk m c 3 t) (Rect.unit (s := S2048x3072) (k0_off1 (grid0.coords t)) ![2048, 1536] hw))
        (View.ld (iblk m c 0 t) (Rect.unit (s := S1024x2048) ![o, 0] ![128, 2048] ho)) (iblk m c 2 t) x
      = REFP (m ((c : Thread nD τ).loc main_arg0)) (m ((c : Thread nD τ).loc main_arg2)) (m ((c : Thread nD τ).loc main_arg3)) j := by
  have ht := off t
  generalize k0_off1 (grid0.coords t) = f at ht hw
  subst ht
  idx_vars x
  idx_vars j
  rw [pay2_at]
  refine Eq.trans ?_ (refp_at ..).symm
  unfold row
  pointwise
  blk_point [iblk, V, V0, idx t]
  exact gain m c t _

/-- The sample rows' payload is the reference's rows. -/
theorem sample (c : Dev nD) (t : Fin cfg0.N) (hw : ∀ a, k0_off1 (grid0.coords t) a + (![2048, 1536] : Fin 2 → ℕ) a ≤ S2048x3072.size a)
    (x : S128x1536.Idx) (j : S128x3072.Idx) (hj0 : (j 0 : ℕ) = x 0) (hj1 : (j 1 : ℕ) = t.val % 2 * 1536 + x 1) :
    k0_pay1 (F := Ideal) (View.ld (iblk m c 3 t) (Rect.unit (s := S2048x3072) (k0_off1 (grid0.coords t)) ![2048, 1536] hw))
        (iblk m c 1 t) (iblk m c 2 t) x
      = REFS (m ((c : Thread nD τ).loc main_arg1)) (m ((c : Thread nD τ).loc main_arg2)) (m ((c : Thread nD τ).loc main_arg3)) j := by
  have ht := off t
  generalize k0_off1 (grid0.coords t) = f at ht hw
  subst ht
  idx_vars x
  idx_vars j
  rw [pay1_eq, pay2_at]
  refine Eq.trans ?_ (refs_at ..).symm
  unfold row
  pointwise
  blk_point [iblk, V, V0, idx t]
  exact gain m c t _

/-- What every point leaves in the result tile is the reference's rows and columns of that tile. -/
theorem pieces (c : Dev nD) (t : Fin cfg0.N) (x : S1024x1536.Idx) (j : S8192x3072.Idx)
    (hj0 : (j 0 : ℕ) = t.val / 2 * 1024 + (x 0 : ℕ)) (hj1 : (j 1 : ℕ) = t.val % 2 * 1536 + x 1) :
    (outsAt0 m c t.val t.isLt).1 x
      = REFP (m ((c : Thread nD τ).loc main_arg0)) (m ((c : Thread nD τ).loc main_arg2)) (m ((c : Thread nD τ).loc main_arg3)) j := by
  by_cases h0 : 14 ≤ t.val
  · rw [outsAt0_B m c t h0]
    frame_out
    rw [pay4_eq]
    canon_tiles x h
    all_goals exact piece m c t _ _ _ x j (by omega) (by omega)
  · rw [outsAt0_A m c t h0]
    frame_out
    rw [pay4_eq]
    canon_tiles x h
    all_goals exact piece m c t _ _ _ x j (by omega) (by omega)

/-- The first result array of the launch. -/
theorem final4 (c : Dev nD) : (dats m 0 c).arrAt 4 (cfgs 0).N
    = REFP (m ((c : Thread nD τ).loc main_arg0)) (m ((c : Thread nD τ).loc main_arg2)) (m ((c : Thread nD τ).loc main_arg3)) := by
  refine (dats m 0 c).arrAt_eq_of_covers 4 _ (by decide +kernel) fun t hf y => ?_
  blk_simp
  rw [after0_4]
  refine pieces m c t y _ ?_ ?_
  all_goals (blk_simp [idx t] <;> try omega)

/-- The second result array of the launch. -/
theorem final5 (c : Dev nD) : (dats m 0 c).arrAt 5 (cfgs 0).N
    = REFS (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 16 := lt_of_lt_of_eq t.isLt N_0
  have h0 : 14 ≤ t.val := (by decide +kernel : ∀ t : Fin grid0.N, win0_5.flush t = true → 14 ≤ t.val) t hf
  blk_simp
  rw [after0_5, outsAt0_B m c t h0]
  frame_out
  refine sample m c t _ y _ ?_ ?_
  all_goals (blk_simp [idx t, if_pos h0] <;> try omega)

/-- The taps the lines after the launch leave: the last three rows of each prompt, middle columns. -/
theorem tail (c : Dev nD) : Pipeline.afterTail₀ cfgs (dats m) 0 (V0 m) [hostOps1] c main_v3
    = extractStridedSlice S4x3x1024 ![0, 2045, 1024] (shapeCast S4x2048x3072
        (REFP (m ((c : Thread nD τ).loc main_arg0)) (m ((c : Thread nD τ).loc main_arg2)) (m ((c : Thread nD τ).loc main_arg3)))
        shapeCasts_S8192x3072_S4x2048x3072) slices_S4x2048x3072_S4x3x1024_0_2045_1024 := by
  rw [← final4 m c]
  show StableHlo.after hostOps1 _ (Proc.devRef .tc main_v3) = _
  after_results
  have e : Pipeline.withArrays (cfgs 0).spec c (V0 m c) (fun w => (dats m 0 c).arrAt w (cfgs 0).N) (Proc.tc.devRef main_v1_0)
      = (dats m 0 c).arrAt 4 (cfgs 0).N :=
    Pipeline.withArrays_arr (cfgs 0).spec (by decide +kernel) c (V0 m c) (fun w => (dats m 0 c).arrAt w (cfgs 0).N) 4
  rw [e]
  generalize (dats m 0 c).arrAt 4 (cfgs 0).N = Z
  rfl

end Cert.NormInIdeal.Value
end
-- ==== Proof.NormIn.Claims.lean ====
/- The five claims about the normalised input projection: its frames and its value. -/
module

public import proofs.«01_k».proof.Defs
public import proofs.«01_k».proof.Proof.Gen.NormIn.Frame
public import proofs.«01_k».proof.Proof.NormIn.Value
public import Idealize.ShloMosaic.Lib.Claim

@[expose] public section

set_option maxRecDepth 16384

noncomputable section

namespace Cert.NormInClaims

open Idealize.ShloMosaic Idealize.ShloMosaic.TcCoe Idealize.SL.Sem
open Cert.NormInRefIdeal.Value (REFP REFS)

/-- The kernel ends with its arguments and semaphores unchanged, as printed. -/
theorem frame : Cert.quiescent_NormIn := fun m g _ => Cert.NormIn.Gen.frame m g

/-- The same at exact operations. -/
theorem frame_ideal : Cert.quiescent_NormInIdeal := fun m g _ => Cert.NormInIdeal.Gen.frame m g

/-- The reference ends with its arguments unchanged; it declares no semaphore. -/
theorem frame_ref : Cert.quiescent_NormInRefIdeal := fun m g _ =>
  (θ_run Cert.NormInRefIdeal.defs _ _).mono (fun r h => ⟨fun c => (h c).2.2.2, sem_eq_zero_of_no_sems (by decide) r.2⟩)
    (Cert.NormInRefIdeal.Value.run (F := Ideal) m g)

/-- The idealized program is the printed one. -/
theorem preserves : Cert.preserves_NormIn_NormInIdeal := trivial

/-- At exact operations the kernel's three results are the reference's. -/
theorem algebraic : Cert.algebraic_NormInIdeal_NormInRefIdeal := by
  intro m g m' g' hpre hagree
  refine ⟨fun c => (Cert.NormInIdeal.Gen.dats m 0 c).arrAt 4 (Cert.NormInIdeal.cfgs 0).N, fun c => (Cert.NormInIdeal.Gen.dats m 0 c).arrAt 5 (Cert.NormInIdeal.cfgs 0).N,
    fun c => Pipeline.afterTail₀ Cert.NormInIdeal.cfgs (Cert.NormInIdeal.Gen.dats m) 0 (Cert.NormInIdeal.Gen.V0 m) [Cert.NormInIdeal.Gen.hostOps1] c Cert.NormInIdeal.main_v3, ?_, ?_⟩
  · exact θ_run_mono (θ_run_and (Cert.NormInIdeal.Gen.run_main m g) (Cert.NormInIdeal.Gen.frame m g)) fun r hr c =>
      ⟨(hr.1 c).1 4, (hr.1 c).1 5, (hr.1 c).2 Cert.NormInIdeal.main_v3 (by decide), hr.2.1 c⟩
  · refine (θ_run Cert.NormInRefIdeal.defs _ _).mono (fun r h c => ⟨(h c).1.trans ?_, (h c).2.1.trans ?_, (h c).2.2.1.trans ?_, (h c).2.2.2⟩)
      (Cert.NormInRefIdeal.Value.run (F := Ideal) m' g')
    · show REFP (m' ((c.tc : Thread Cert.NormInRefIdeal.nD Cert.NormInRefIdeal.τ).loc Cert.NormInRefIdeal.main_arg0)) (m' ((c.tc : Thread Cert.NormInRefIdeal.nD Cert.NormInRefIdeal.τ).loc Cert.NormInRefIdeal.main_arg2)) (m' ((c.tc : Thread Cert.NormInRefIdeal.nD Cert.NormInRefIdeal.τ).loc Cert.NormInRefIdeal.main_arg3)) = _
      rw [(hagree c).1, (hagree c).2.2.1, (hagree c).2.2.2]
      exact (Cert.NormInIdeal.Value.final4 m c).symm
    · show REFS (m' ((c.tc : Thread Cert.NormInRefIdeal.nD Cert.NormInRefIdeal.τ).loc Cert.NormInRefIdeal.main_arg1)) (m' ((c.tc : Thread Cert.NormInRefIdeal.nD Cert.NormInRefIdeal.τ).loc Cert.NormInRefIdeal.main_arg2)) (m' ((c.tc : Thread Cert.NormInRefIdeal.nD Cert.NormInRefIdeal.τ).loc Cert.NormInRefIdeal.main_arg3)) = _
      rw [(hagree c).2.1, (hagree c).2.2.1, (hagree c).2.2.2]
      exact (Cert.NormInIdeal.Value.final5 m c).symm
    · show extractStridedSlice Cert.NormInRefIdeal.S4x3x1024 ![0, 2045, 1024] (shapeCast Cert.NormInRefIdeal.S4x2048x3072 (REFP (m' ((c.tc : Thread Cert.NormInRefIdeal.nD Cert.NormInRefIdeal.τ).loc Cert.NormInRefIdeal.main_arg0)) (m' ((c.tc : Thread Cert.NormInRefIdeal.nD Cert.NormInRefIdeal.τ).loc Cert.NormInRefIdeal.main_arg2)) (m' ((c.tc : Thread Cert.NormInRefIdeal.nD Cert.NormInRefIdeal.τ).loc Cert.NormInRefIdeal.main_arg3)))
          Cert.NormInRefIdeal.Gen.shapeCasts_S8192x3072_S4x2048x3072) Cert.NormInRefIdeal.Gen.slices_S4x2048x3072_S4x3x1024_0_2045_1024 = _
      rw [(hagree c).1, (hagree c).2.2.1, (hagree c).2.2.2]
      exact (Cert.NormInIdeal.Value.tail m c).symm

end Cert.NormInClaims

end
-- ==== Proof.Ple.Ref.lean ====
/- The last stage's reference results as terms over its argument arrays. -/
module

public import proofs.«01_k».proof.Proof.Gen.PleRefIdeal.Run
public import Idealize.ShloMosaic.Lib.Pipeline.ValueKit

@[expose] public section

set_option maxRecDepth 16384

noncomputable section

namespace Cert.PleRefIdeal.Value

open Cert.PleRefIdeal Cert.PleRefIdeal.Gen Idealize.ShloMosaic Idealize.ShloMosaic.TcCoe Idealize.SL.Sem Idealize.ShloMosaic.StableHlo

/-- The reference's result for the prompt rows. -/
def REFP (X : FVec Ideal S8192x2048 .f32) (E : FVec Ideal S8192x256 .f32) (G : FVec Ideal S2048 .f32) (WG : FVec Ideal S2048x2048 .f32) (WP : FVec Ideal S256x2048 .f32) (GF : FVec Ideal S2048 .f32) : FVec Ideal S8192x2048 .f32 :=
  mulf (mulf (addf X (mulf (Host.dotGeneral dot_S8192x256_S256x2048_S8192x2048_1_0_0_1_n_n none E WP) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) WG))))))) (broadcastInDim S8192x2048 ![0, 1] bcast_S8192x1_S8192x2048_0_1 (Host.rsqrt (addf (Host.divf (broadcastInDim S8192x1 ![0] bcast_S8192_S8192x1_0 (Host.reduceAdd (mulf (addf X (mulf (Host.dotGeneral dot_S8192x256_S256x2048_S8192x2048_1_0_0_1_n_n none E WP) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) WG))))))) (addf X (mulf (Host.dotGeneral dot_S8192x256_S256x2048_S8192x2048_1_0_0_1_n_n none E WP) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) WG)))))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 GF))

/-- The reference's result for the sample rows. -/
def REFS (X : FVec Ideal S128x2048 .f32) (E : FVec Ideal S128x256 .f32) (G : FVec Ideal S2048 .f32) (WG : FVec Ideal S2048x2048 .f32) (WP : FVec Ideal S256x2048 .f32) (GF : FVec Ideal S2048 .f32) : FVec Ideal S128x2048 .f32 :=
  mulf (mulf (addf X (mulf (Host.dotGeneral dot_S128x256_S256x2048_S128x2048_1_0_0_1_n_n none E WP) (Host.divf (broadcastInDim S128x2048 ![] bcast_S_S128x2048 (constant S_ .f32 0x3F800000#32)) (addf (broadcastInDim S128x2048 ![] bcast_S_S128x2048 (constant S_ .f32 0x3F800000#32)) (Host.exp (Host.negf (Host.dotGeneral dot_S128x2048_S2048x2048_S128x2048_1_0_0_1_n_n none (mulf (mulf X (broadcastInDim S128x2048 ![0, 1] bcast_S128x1_S128x2048_0_1 (Host.rsqrt (addf (Host.divf (broadcastInDim S128x1 ![0] bcast_S128_S128x1_0 (Host.reduceAdd (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))) WG))))))) (broadcastInDim S128x2048 ![0, 1] bcast_S128x1_S128x2048_0_1 (Host.rsqrt (addf (Host.divf (broadcastInDim S128x1 ![0] bcast_S128_S128x1_0 (Host.reduceAdd (mulf (addf X (mulf (Host.dotGeneral dot_S128x256_S256x2048_S128x2048_1_0_0_1_n_n none E WP) (Host.divf (broadcastInDim S128x2048 ![] bcast_S_S128x2048 (constant S_ .f32 0x3F800000#32)) (addf (broadcastInDim S128x2048 ![] bcast_S_S128x2048 (constant S_ .f32 0x3F800000#32)) (Host.exp (Host.negf (Host.dotGeneral dot_S128x2048_S2048x2048_S128x2048_1_0_0_1_n_n none (mulf (mulf X (broadcastInDim S128x2048 ![0, 1] bcast_S128x1_S128x2048_0_1 (Host.rsqrt (addf (Host.divf (broadcastInDim S128x1 ![0] bcast_S128_S128x1_0 (Host.reduceAdd (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))) WG))))))) (addf X (mulf (Host.dotGeneral dot_S128x256_S256x2048_S128x2048_1_0_0_1_n_n none E WP) (Host.divf (broadcastInDim S128x2048 ![] bcast_S_S128x2048 (constant S_ .f32 0x3F800000#32)) (addf (broadcastInDim S128x2048 ![] bcast_S_S128x2048 (constant S_ .f32 0x3F800000#32)) (Host.exp (Host.negf (Host.dotGeneral dot_S128x2048_S2048x2048_S128x2048_1_0_0_1_n_n none (mulf (mulf X (broadcastInDim S128x2048 ![0, 1] bcast_S128x1_S128x2048_0_1 (Host.rsqrt (addf (Host.divf (broadcastInDim S128x1 ![0] bcast_S128_S128x1_0 (Host.reduceAdd (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))) WG)))))))) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 GF))

end Cert.PleRefIdeal.Value

end
-- ==== Proof.Ple.Value.lean ====
/- The last call's two result arrays are the reference's terms over the argument arrays. -/
module

public import proofs.«01_k».proof.Proof.Gen.PleIdeal.Frame
public import proofs.«01_k».proof.Proof.Ple.Ref
public import Idealize.ShloMosaic.Lib.Pipeline.ValueKit
public import Idealize.ShloMosaic.Lib.Pipeline.ReadBack

@[expose] public section

set_option maxRecDepth 16384

noncomputable section

namespace Cert.PleIdeal.Value

open Cert.PleIdeal Cert.PleIdeal.Gen Idealize.ShloMosaic Idealize.ShloMosaic.TcCoe Idealize.SL.Sem
open Idealize.ShloMosaic.Pipeline (Dat)
open Cert.PleRefIdeal.Value (REFP REFS)

/-- One row with its gated embedding added, at column `q`: the gate is the sigmoid of the normalised row through its weight. -/
def mid (x : Fin 2048 → EReal) (e : Fin 256 → EReal) (g : Fin 2048 → EReal) (wg : Fin 2048 → Fin 2048 → EReal)
    (wp : Fin 256 → Fin 2048 → EReal) (q : Fin 2048) : EReal :=
  x q + (∑ k, e k * wp k q) * Ideal.logistic (∑ k, x k * Ideal.rsqrt (Ideal.div (∑ l, x l * x l) (Ideal.ofBits FTy.f32 1157627904#32)
      + Ideal.ofBits FTy.f32 897988541#32) * g k * wg k q)

/-- That row over its root mean square, times the last gain. -/
def row (x : Fin 2048 → EReal) (e : Fin 256 → EReal) (g : Fin 2048 → EReal) (wg : Fin 2048 → Fin 2048 → EReal)
    (wp : Fin 256 → Fin 2048 → EReal) (gf : Fin 2048 → EReal) (q : Fin 2048) : EReal :=
  mid x e g wg wp q * Ideal.rsqrt (Ideal.div (∑ l, mid x e g wg wp l * mid x e g wg wp l) (Ideal.ofBits FTy.f32 1157627904#32)
      + Ideal.ofBits FTy.f32 897988541#32) * gf q

/-- The payload of the first piece of 256 rows, from what the body reads. -/
def PAY (x : Vec Ideal S256x2048 .f32) (e : Vec Ideal S256x256 .f32) (g : Vec Ideal S1x2048 .f32) (wg : Vec Ideal S2048x2048 .bf16)
    (wp : Vec Ideal S256x2048 .bf16) (gf : Vec Ideal S1x2048 .f32) : FVec Ideal S256x2048 .f32 :=
  k0_pay9 (k0_pay5 x e g wg wp) (k0_pay6 gf) (k0_pay7 x e g wg wp) k0_pay8

/-- The first piece's payload, at an index, is `row` of that row. -/
theorem pay_at (x : Vec Ideal S256x2048 .f32) (e : Vec Ideal S256x256 .f32) (g : Vec Ideal S1x2048 .f32) (wg : Vec Ideal S2048x2048 .bf16)
    (wp : Vec Ideal S256x2048 .bf16) (gf : Vec Ideal S1x2048 .f32) (r : Fin 256) (q : Fin 2048) :
    PAY x e g wg wp gf (ix2 r q) = row (fun k => x (ix2 r k)) (fun k => e (ix2 r k)) (fun k => g (ix2 0 k))
      (fun k l => wg (ix2 k l)) (fun k l => wp (ix2 k l)) (fun k => gf (ix2 0 k)) q := by
  pointwise [PAY, k0_pay9, k0_pay5, k0_pay6, k0_pay7, k0_pay8]
  rfl

/-- The second piece's payload is the first's. -/
theorem pay1_eq (x : Vec Ideal S256x2048 .f32) (e : Vec Ideal S256x256 .f32) (g : Vec Ideal S1x2048 .f32) (wg : Vec Ideal S2048x2048 .bf16)
    (wp : Vec Ideal S256x2048 .bf16) (gf : Vec Ideal S1x2048 .f32) :
    k0_pay1 (F := Ideal) (k0_pay10 x e g wg wp) (k0_pay11 gf) (k0_pay12 x e g wg wp) k0_pay13 = PAY x e g wg wp gf := rfl

/-- The first piece's payload under its name. -/
theorem pay9_eq (x : Vec Ideal S256x2048 .f32) (e : Vec Ideal S256x256 .f32) (g : Vec Ideal S1x2048 .f32) (wg : Vec Ideal S2048x2048 .bf16)
    (wp : Vec Ideal S256x2048 .bf16) (gf : Vec Ideal S1x2048 .f32) :
    k0_pay9 (F := Ideal) (k0_pay5 x e g wg wp) (k0_pay6 gf) (k0_pay7 x e g wg wp) k0_pay8 = PAY x e g wg wp gf := rfl

/-- The sample rows' payload, at an index, is `row` of that row. -/
theorem pay2_at (x : Vec Ideal S128x2048 .f32) (e : Vec Ideal S128x256 .f32) (g : Vec Ideal S1x2048 .f32) (wg : Vec Ideal S2048x2048 .bf16)
    (wp : Vec Ideal S256x2048 .bf16) (gf : Vec Ideal S1x2048 .f32) (r : Fin 128) (q : Fin 2048) :
    k0_pay2 (F := Ideal) x e g wg wp gf (ix2 r q) = row (fun k => x (ix2 r k)) (fun k => e (ix2 r k)) (fun k => g (ix2 0 k))
      (fun k l => wg (ix2 k l)) (fun k l => wp (ix2 k l)) (fun k => gf (ix2 0 k)) q := by
  pointwise [k0_pay2]
  rfl

/-- The reference's prompt result, at an index, is `row` of that row. -/
theorem refp_at (X : FVec Ideal S8192x2048 .f32) (E : FVec Ideal S8192x256 .f32) (G : FVec Ideal S2048 .f32) (WG : FVec Ideal S2048x2048 .f32)
    (WP : FVec Ideal S256x2048 .f32) (GF : FVec Ideal S2048 .f32) (r : Fin 8192) (q : Fin 2048) :
    REFP X E G WG WP GF (ix2 r q) = row (fun k => X (ix2 r k)) (fun k => E (ix2 r k)) (fun k => G (ix1 k))
      (fun k l => WG (ix2 k l)) (fun k l => WP (ix2 k l)) (fun k => GF (ix1 k)) q := by
  pointwise [REFP]
  rfl

/-- The reference's sample result, at an index, is `row` of that row. -/
theorem refs_at (X : FVec Ideal S128x2048 .f32) (E : FVec Ideal S128x256 .f32) (G : FVec Ideal S2048 .f32) (WG : FVec Ideal S2048x2048 .f32)
    (WP : FVec Ideal S256x2048 .f32) (GF : FVec Ideal S2048 .f32) (r : Fin 128) (q : Fin 2048) :
    REFS X E G WG WP GF (ix2 r q) = row (fun k => X (ix2 r k)) (fun k => E (ix2 r k)) (fun k => G (ix1 k))
      (fun k l => WG (ix2 k l)) (fun k l => WP (ix2 k l)) (fun k => GF (ix1 k)) q := by
  pointwise [REFS]
  rfl

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![0, 0] :=
  (by decide +kernel : ∀ t : Fin grid0.N, _)

/-- The first point fills the gate's carried buffer with its weight array. -/
theorem gate_first (c : Dev nD) (t : Fin cfg0.N) (h0 : t.val % 16 = 0) (h1 : ¬t.val % 16 = 15) (i : S2048x2048.Idx) :
    (outsAt0 m c t.val t.isLt).2.2.1 i = m ((c : Thread nD τ).loc main_arg5) i := by
  rw [outsAt0_A m c t h0 h1]
  frame_out
  pointwise [k0_pay3]
  blk_point [iblk, V, idx t]

/-- After every point the gate's carried buffer holds its weight array. -/
theorem gate (c : Dev nD) : ∀ (n : ℕ) (hn : n < cfg0.N) (i : S2048x2048.Idx),
    (outsAt0 m c n hn).2.2.1 i = m ((c : Thread nD τ).loc main_arg5) i
  | 0, hn, i => gate_first m c ⟨0, hn⟩ rfl (show ¬(0 % 16 = 15) by decide) i
  | n + 1, hn, i => by
      have hN : n + 1 < 16 := lt_of_lt_of_eq hn N_0
      have ih := gate c n (by omega) i
      show (outsAt0 m c (⟨n + 1, hn⟩ : Fin cfg0.N).val hn).2.2.1 i = _
      by_cases h1 : (n + 1) % 16 = 15
      · rw [outsAt0_C m c ⟨n + 1, hn⟩ (show ¬(n + 1) % 16 = 0 by omega) h1]
        exact ih
      · rw [outsAt0_B m c ⟨n + 1, hn⟩ (show ¬(n + 1) % 16 = 0 by omega) h1]
        exact ih

/-- The first point fills the embedding's carried buffer with its weight array. -/
theorem proj_first (c : Dev nD) (t : Fin cfg0.N) (h0 : t.val % 16 = 0) (h1 : ¬t.val % 16 = 15) (i : S256x2048.Idx) :
    (outsAt0 m c t.val t.isLt).2.2.2 i = m ((c : Thread nD τ).loc main_arg6) i := by
  rw [outsAt0_A m c t h0 h1]
  frame_out
  pointwise [k0_pay4]
  blk_point [iblk, V, idx t]

/-- After every point the embedding's carried buffer holds its weight array. -/
theorem proj (c : Dev nD) : ∀ (n : ℕ) (hn : n < cfg0.N) (i : S256x2048.Idx),
    (outsAt0 m c n hn).2.2.2 i = m ((c : Thread nD τ).loc main_arg6) i
  | 0, hn, i => proj_first m c ⟨0, hn⟩ rfl (show ¬(0 % 16 = 15) by decide) i
  | n + 1, hn, i => by
      have hN : n + 1 < 16 := lt_of_lt_of_eq hn N_0
      have ih := proj c n (by omega) i
      show (outsAt0 m c (⟨n + 1, hn⟩ : Fin cfg0.N).val hn).2.2.2 i = _
      by_cases h1 : (n + 1) % 16 = 15
      · rw [outsAt0_C m c ⟨n + 1, hn⟩ (show ¬(n + 1) % 16 = 0 by omega) h1]
        exact ih
      · rw [outsAt0_B m c ⟨n + 1, hn⟩ (show ¬(n + 1) % 16 = 0 by omega) h1]
        exact ih

/-- A piece of 256 rows over carried buffers that hold the weight arrays is the reference's rows. -/
theorem piece (c : Dev nD) (t : Fin cfg0.N) (S : Vec Ideal S2048x2048 .bf16) (T : Vec Ideal S256x2048 .bf16)
    (hS : ∀ i, S i = m ((c : Thread nD τ).loc main_arg5) i) (hT : ∀ i, T i = m ((c : Thread nD τ).loc main_arg6) i) (o : ℕ)
    (h0 : ∀ a, (![o, 0] : Fin 2 → ℕ) a + (![256, 2048] : Fin 2 → ℕ) a ≤ S512x2048.size a)
    (h1 : ∀ a, (![o, 0] : Fin 2 → ℕ) a + (![256, 256] : Fin 2 → ℕ) a ≤ S512x256.size a)
    (x : S256x2048.Idx) (j : S8192x2048.Idx) (hj0 : (j 0 : ℕ) = t.val * 512 + (o + (x 0 : ℕ))) (hj1 : (j 1 : ℕ) = x 1) :
    PAY (View.ld (iblk m c 0 t) (Rect.unit (s := S512x2048) ![o, 0] ![256, 2048] h0))
        (View.ld (iblk m c 1 t) (Rect.unit (s := S512x256) ![o, 0] ![256, 256] h1))
        (iblk m c 4 t) S T (iblk m c 7 t) x
      = REFP (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) j := by
  obtain rfl : S = m ((c : Thread nD τ).loc main_arg5) := funext hS
  obtain rfl : T = m ((c : Thread nD τ).loc main_arg6) := funext hT
  idx_vars x
  idx_vars j
  rw [pay_at]
  refine Eq.trans ?_ (refp_at ..).symm
  unfold row mid
  pointwise
  blk_point [iblk, V, idx t]

/-- The sample rows' payload over carried buffers that hold the weight arrays is the reference's rows. -/
theorem sample (c : Dev nD) (t : Fin cfg0.N) (S : Vec Ideal S2048x2048 .bf16) (T : Vec Ideal S256x2048 .bf16)
    (hS : ∀ i, S i = m ((c : Thread nD τ).loc main_arg5) i) (hT : ∀ i, T i = m ((c : Thread nD τ).loc main_arg6) i)
    (x j : S128x2048.Idx) (hj0 : (j 0 : ℕ) = x 0) (hj1 : (j 1 : ℕ) = x 1) :
    k0_pay2 (F := Ideal) (iblk m c 2 t) (iblk m c 3 t) (iblk m c 4 t) S T (iblk m c 7 t) x
      = REFS (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  obtain rfl : S = m ((c : Thread nD τ).loc main_arg5) := funext hS
  obtain rfl : T = m ((c : Thread nD τ).loc main_arg6) := funext hT
  idx_vars x
  idx_vars j
  rw [pay2_at]
  refine Eq.trans ?_ (refs_at ..).symm
  unfold row mid
  pointwise
  blk_point [iblk, V, idx t]

/-- What every point leaves in the result tile is the reference's rows of that tile. -/
theorem pieces (c : Dev nD) (t : Fin cfg0.N) (x : S512x2048.Idx) (j : S8192x2048.Idx)
    (hj0 : (j 0 : ℕ) = t.val * 512 + (x 0 : ℕ)) (hj1 : (j 1 : ℕ) = x 1) :
    (outsAt0 m c t.val t.isLt).1 x = REFP (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) j := by
  by_cases h0 : t.val % 16 = 0
  · have h1 : ¬t.val % 16 = 15 := by omega
    rw [outsAt0_A m c t h0 h1]
    frame_out
    rw [pay1_eq, pay9_eq]
    try simp (disch := decide) only [View.readCov_fill]
    canon_tiles x h
    all_goals
      refine piece m c t (k0_pay3 (F := Ideal) (iblk m c 5 t)) (k0_pay4 (F := Ideal) (iblk m c 6 t)) (fun i => ?_) (fun i => ?_) _ _ _ x j (by omega) (by omega)
    all_goals
      pointwise [k0_pay3, k0_pay4]
      blk_point [iblk, V, idx t]
  · by_cases h1 : t.val % 16 = 15
    · rw [outsAt0_C m c t h0 h1]
      frame_out
      rw [pay1_eq, pay9_eq]
      simp only [read_unread_whole]
      canon_tiles x h
      all_goals exact piece m c t _ _ (gate m c _ _) (proj m c _ _) _ _ _ x j (by omega) (by omega)
    · rw [outsAt0_B m c t h0 h1]
      frame_out
      rw [pay1_eq, pay9_eq]
      simp only [read_unread_whole]
      canon_tiles x h
      all_goals exact piece m c t _ _ (gate m c _ _) (proj m c _ _) _ _ _ x j (by omega) (by omega)

/-- The first result array of the launch. -/
theorem final8 (c : Dev nD) : (dats m 0 c).arrAt 8 (cfgs 0).N
    = REFP (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  refine pieces m c t y _ ?_ ?_
  all_goals (blk_simp [idx t] <;> try omega)

/-- The second result array of the launch. -/
theorem final9 (c : Dev nD) : (dats m 0 c).arrAt 9 (cfgs 0).N
    = REFS (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have h1 := (flush0_9 t).mp hf
  blk_simp
  rw [after0_9, outsAt0_C m c t (by omega) h1]
  frame_out
  simp only [read_unread_whole]
  refine sample m c t _ _ (gate m c _ _) (proj m c _ _) y _ ?_ ?_
  all_goals (blk_simp [idx t] <;> try omega)

end Cert.PleIdeal.Value
end
-- ==== Proof.Ple.Claims.lean ====
/- The five claims about the last call: its frames and its value. -/
module

public import proofs.«01_k».proof.Defs
public import proofs.«01_k».proof.Proof.Gen.Ple.Frame
public import proofs.«01_k».proof.Proof.Ple.Value
public import Idealize.ShloMosaic.Lib.Claim

@[expose] public section

set_option maxRecDepth 16384

noncomputable section

namespace Cert.PleClaims

open Idealize.ShloMosaic Idealize.ShloMosaic.TcCoe Idealize.SL.Sem
open Cert.PleRefIdeal.Value (REFP REFS)

/-- The kernel ends with its arguments and semaphores unchanged, as printed. -/
theorem frame : Cert.quiescent_Ple := fun m g _ => Cert.Ple.Gen.frame m g

/-- The same at exact operations. -/
theorem frame_ideal : Cert.quiescent_PleIdeal := fun m g _ => Cert.PleIdeal.Gen.frame m g

/-- The reference ends with its arguments unchanged; it declares no semaphore. -/
theorem frame_ref : Cert.quiescent_PleRefIdeal := fun m g _ =>
  (θ_run Cert.PleRefIdeal.defs _ _).mono (fun r h => ⟨fun c => (h c).2.2, sem_eq_zero_of_no_sems (by decide) r.2⟩)
    (Cert.PleRefIdeal.Value.run (F := Ideal) m g)

/-- The idealized program is the printed one. -/
theorem preserves : Cert.preserves_Ple_PleIdeal := trivial

/-- At exact operations the kernel's two results are the reference's. -/
theorem algebraic : Cert.algebraic_PleIdeal_PleRefIdeal := by
  pair_intro
  · run_from Cert.PleIdeal.Gen.run_main m g
  · refine (θ_run Cert.PleRefIdeal.defs _ _).mono (fun r h c => ⟨(h c).1.trans ?_, (h c).2.1.trans ?_, (h c).2.2⟩)
      (Cert.PleRefIdeal.Value.run (F := Ideal) m' g')
    · show REFP (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _
      rw [(hagree c).1, (hagree c).2.1, (hagree c).2.2.2.2.1, (hagree c).2.2.2.2.2.1, (hagree c).2.2.2.2.2.2.1, (hagree c).2.2.2.2.2.2.2]
      exact (Cert.PleIdeal.Value.final8 m c).symm
    · show REFS (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _
      rw [(hagree c).2.2.1, (hagree c).2.2.2.1, (hagree c).2.2.2.2.1, (hagree c).2.2.2.2.2.1, (hagree c).2.2.2.2.2.2.1, (hagree c).2.2.2.2.2.2.2]
      exact (Cert.PleIdeal.Value.final9 m c).symm

end Cert.PleClaims

end
-- ==== Proof.OutProj.Ref.lean ====
/- The output projection's reference results as terms over its argument arrays. -/
module

public import proofs.«01_k».proof.Proof.Gen.OutProjRefIdeal.Run
public import Idealize.ShloMosaic.Lib.Pipeline.ValueKit

@[expose] public section

set_option maxRecDepth 16384

noncomputable section

namespace Cert.OutProjRefIdeal.Value

open Cert.OutProjRefIdeal Cert.OutProjRefIdeal.Gen Idealize.ShloMosaic Idealize.ShloMosaic.TcCoe Idealize.SL.Sem Idealize.ShloMosaic.StableHlo

/-- The reference's result for the prompt rows. -/
def REFP (X : FVec Ideal S8192x2048 .f32) (A B : FVec Ideal S8192x1024 .bf16) (W : FVec Ideal S2048x2048 .f32) : FVec Ideal S8192x2048 .f32 :=
  addf X (Host.dotGeneral dot_S8192x2048_S2048x2048_S8192x2048_1_0_0_1_n_n none (concatenate S8192x2048 1 [⟨S8192x1024, (extf .f32 A bitsLt_bf16_f32)⟩, ⟨S8192x1024, (extf .f32 B bitsLt_bf16_f32)⟩] concatenates_S8192x1024_S8192x1024_S8192x2048_d1) W)

/-- The reference's result for the sample rows. -/
def REFS (X : FVec Ideal S128x2048 .f32) (A B : FVec Ideal S128x1024 .bf16) (W : FVec Ideal S2048x2048 .f32) : FVec Ideal S128x2048 .f32 :=
  addf X (Host.dotGeneral dot_S128x2048_S2048x2048_S128x2048_1_0_0_1_n_n none (concatenate S128x2048 1 [⟨S128x1024, (extf .f32 A bitsLt_bf16_f32)⟩, ⟨S128x1024, (extf .f32 B bitsLt_bf16_f32)⟩] concatenates_S128x1024_S128x1024_S128x2048_d1) W)

end Cert.OutProjRefIdeal.Value

end
-- ==== Proof.OutProj.Value.lean ====
/- The output projection's two result arrays are the reference's terms over the argument arrays. -/
module

public import proofs.«01_k».proof.Proof.Gen.OutProjIdeal.Frame
public import proofs.«01_k».proof.Proof.OutProj.Ref
public import Idealize.ShloMosaic.Lib.Pipeline.ValueKit
public import Idealize.ShloMosaic.Lib.Pipeline.ReadBack

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)
open Cert.OutProjRefIdeal.Value (REFP REFS)

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, 0] :=
  (by decide +kernel : ∀ t : Fin grid0.N, _)

/-- The first point fills the carried buffer with the weight array. -/
theorem carried_first (c : Dev nD) (t : Fin cfg0.N) (h0 : t.val % 16 = 0) (h1 : ¬t.val % 16 = 15) (i : S2048x2048.Idx) :
    (outsAt0 m c t.val t.isLt).2.2 i = m ((c : Thread nD τ).loc main_arg6) i := by
  rw [outsAt0_A m c t h0 h1]
  frame_out
  pointwise [k0_pay2]
  blk_point [iblk, V, idx t]

/-- After every point the carried buffer holds the weight array. -/
theorem carried (c : Dev nD) : ∀ (n : ℕ) (hn : n < cfg0.N) (i : S2048x2048.Idx),
    (outsAt0 m c n hn).2.2 i = m ((c : Thread nD τ).loc main_arg6) i
  | 0, hn, i => carried_first m c ⟨0, hn⟩ rfl (show ¬(0 % 16 = 15) by decide) i
  | n + 1, hn, i => by
      have hN : n + 1 < 16 := lt_of_lt_of_eq hn N_0
      have ih := carried c n (by omega) i
      show (outsAt0 m c (⟨n + 1, hn⟩ : Fin cfg0.N).val hn).2.2 i = _
      by_cases h1 : (n + 1) % 16 = 15
      · rw [outsAt0_C m c ⟨n + 1, hn⟩ (show ¬(n + 1) % 16 = 0 by omega) h1]
        exact ih
      · rw [outsAt0_B m c ⟨n + 1, hn⟩ (show ¬(n + 1) % 16 = 0 by omega) h1]
        exact ih

/-- The second piece's payload is the first's. -/
theorem pay4_eq : k0_pay4 (F := Ideal) = k0_pay3 := rfl

/-- A piece of 256 rows over a weight buffer that holds the weight array is the reference's rows. -/
theorem piece (c : Dev nD) (t : Fin cfg0.N) (S : Vec Ideal S2048x2048 .bf16)
    (hS : ∀ i, S i = m ((c : Thread nD τ).loc main_arg6) i) (o : ℕ)
    (h0 : ∀ a, (![o, 0] : Fin 2 → ℕ) a + (![256, 2048] : Fin 2 → ℕ) a ≤ S512x2048.size a)
    (h1 h2 : ∀ a, (![o, 0] : Fin 2 → ℕ) a + (![256, 1024] : Fin 2 → ℕ) a ≤ S512x1024.size a)
    (x : S256x2048.Idx) (j : S8192x2048.Idx) (hj0 : (j 0 : ℕ) = t.val * 512 + (o + (x 0 : ℕ))) (hj1 : (j 1 : ℕ) = x 1) :
    k0_pay3 (F := Ideal) (View.ld (iblk m c 0 t) (Rect.unit (s := S512x2048) ![o, 0] ![256, 2048] h0))
        (View.ld (iblk m c 1 t) (Rect.unit (s := S512x1024) ![o, 0] ![256, 1024] h1))
        (View.ld (iblk m c 2 t) (Rect.unit (s := S512x1024) ![o, 0] ![256, 1024] h2))
        (View.ld S (Rect.unit (s := S2048x2048) ![0, 0] ![1024, 2048] inb_S2048x2048_S1024x2048_0_0))
        (View.ld S (Rect.unit (s := S2048x2048) ![1024, 0] ![1024, 2048] inb_S2048x2048_S1024x2048_1024_0)) x
      = REFP (m ((c : Thread nD τ).loc main_arg0)) (m ((c : Thread nD τ).loc main_arg1)) (m ((c : Thread nD τ).loc main_arg2)) (m ((c : Thread nD τ).loc main_arg6)) j := by
  obtain rfl : S = m ((c : Thread nD τ).loc main_arg6) := funext hS
  pointwise [k0_pay3, REFP]
  simp only [add_assoc]
  blk_point [iblk, V, idx t]

/-- What every point leaves in the result tile is the reference's rows of that tile. -/
theorem pieces (c : Dev nD) (t : Fin cfg0.N) (x : S512x2048.Idx) (j : S8192x2048.Idx)
    (hj0 : (j 0 : ℕ) = t.val * 512 + (x 0 : ℕ)) (hj1 : (j 1 : ℕ) = x 1) :
    (outsAt0 m c t.val t.isLt).1 x
      = REFP (m ((c : Thread nD τ).loc main_arg0)) (m ((c : Thread nD τ).loc main_arg1)) (m ((c : Thread nD τ).loc main_arg2)) (m ((c : Thread nD τ).loc main_arg6)) j := by
  by_cases h0 : t.val % 16 = 0
  · have h1 : ¬t.val % 16 = 15 := by omega
    rw [outsAt0_A m c t h0 h1]
    frame_out
    rw [pay4_eq]
    simp (disch := decide) only [View.readCov_fill]
    canon_tiles x h
    all_goals refine piece m c t (k0_pay2 (F := Ideal) (iblk m c 6 t)) (fun i => ?_) _ _ _ _ x j (by omega) (by omega)
    all_goals
      pointwise [k0_pay2]
      blk_point [iblk, V, idx t]
  · by_cases h1 : t.val % 16 = 15
    · rw [outsAt0_C m c t h0 h1]
      frame_out
      rw [pay4_eq]
      canon_tiles x h
      all_goals refine piece m c t _ (fun i => ?_) _ _ _ _ x j (by omega) (by omega)
      all_goals
        rw [read_unread_whole]
        exact carried m c _ _ i
    · rw [outsAt0_B m c t h0 h1]
      frame_out
      rw [pay4_eq]
      canon_tiles x h
      all_goals refine piece m c t _ (fun i => ?_) _ _ _ _ x j (by omega) (by omega)
      all_goals
        rw [read_unread_whole]
        exact carried m c _ _ i

/-- The first result array of the launch. -/
theorem final7 (c : Dev nD) : (dats m 0 c).arrAt 7 (cfgs 0).N
    = REFP (m ((c : Thread nD τ).loc main_arg0)) (m ((c : Thread nD τ).loc main_arg1)) (m ((c : Thread nD τ).loc main_arg2)) (m ((c : Thread nD τ).loc main_arg6)) := by
  refine (dats m 0 c).arrAt_eq_of_covers 7 _ (by decide +kernel) fun t hf y => ?_
  blk_simp
  rw [after0_7]
  refine pieces m c t y _ ?_ ?_
  all_goals (blk_simp [idx t] <;> try omega)

/-- The sample rows' payload over a weight buffer that holds the weight array. -/
theorem sample (c : Dev nD) (t : Fin cfg0.N) (S : Vec Ideal S2048x2048 .bf16)
    (hS : ∀ i, S i = m ((c : Thread nD τ).loc main_arg6) i) (x j : S128x2048.Idx) (hj0 : (j 0 : ℕ) = x 0) (hj1 : (j 1 : ℕ) = x 1) :
    k0_pay1 (F := Ideal) (iblk m c 3 t) (iblk m c 4 t) (iblk m c 5 t)
        (View.ld S (Rect.unit (s := S2048x2048) ![0, 0] ![1024, 2048] inb_S2048x2048_S1024x2048_0_0))
        (View.ld S (Rect.unit (s := S2048x2048) ![1024, 0] ![1024, 2048] inb_S2048x2048_S1024x2048_1024_0)) x
      = REFS (m ((c : Thread nD τ).loc main_arg3)) (m ((c : Thread nD τ).loc main_arg4)) (m ((c : Thread nD τ).loc main_arg5)) (m ((c : Thread nD τ).loc main_arg6)) j := by
  obtain rfl : S = m ((c : Thread nD τ).loc main_arg6) := funext hS
  pointwise [k0_pay1, REFS]
  simp only [add_assoc]
  blk_point [iblk, V, idx t]

/-- The second result array of the launch. -/
theorem final8 (c : Dev nD) : (dats m 0 c).arrAt 8 (cfgs 0).N
    = REFS (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have h1 := (flush0_8 t).mp hf
  blk_simp
  rw [after0_8, outsAt0_C m c t (by omega) h1]
  frame_out
  refine sample m c t _ (fun i => ?_) y _ ?_ ?_
  · rw [read_unread_whole]
    exact carried m c _ _ i
  all_goals (blk_simp [idx t] <;> try omega)

end Cert.OutProjIdeal.Value
end
-- ==== Proof.OutProj.Claims.lean ====
/- The five claims about the output projection: its frames and its value. -/
module

public import proofs.«01_k».proof.Defs
public import proofs.«01_k».proof.Proof.Gen.OutProj.Frame
public import proofs.«01_k».proof.Proof.OutProj.Value
public import Idealize.ShloMosaic.Lib.Claim

@[expose] public section

set_option maxRecDepth 16384

noncomputable section

namespace Cert.OutProjClaims

open Idealize.ShloMosaic Idealize.ShloMosaic.TcCoe Idealize.SL.Sem
open Cert.OutProjRefIdeal.Value (REFP REFS)

/-- The kernel ends with its arguments and semaphores unchanged, as printed. -/
theorem frame : Cert.quiescent_OutProj := fun m g _ => Cert.OutProj.Gen.frame m g

/-- The same at exact operations. -/
theorem frame_ideal : Cert.quiescent_OutProjIdeal := fun m g _ => Cert.OutProjIdeal.Gen.frame m g

/-- The reference ends with its arguments unchanged; it declares no semaphore. -/
theorem frame_ref : Cert.quiescent_OutProjRefIdeal := fun m g _ =>
  (θ_run Cert.OutProjRefIdeal.defs _ _).mono (fun r h => ⟨fun c => (h c).2.2, sem_eq_zero_of_no_sems (by decide) r.2⟩)
    (Cert.OutProjRefIdeal.Value.run (F := Ideal) m g)

/-- The idealized program is the printed one. -/
theorem preserves : Cert.preserves_OutProj_OutProjIdeal := trivial

/-- At exact operations the kernel's two results are the reference's. -/
theorem algebraic : Cert.algebraic_OutProjIdeal_OutProjRefIdeal := by
  pair_intro
  · run_from Cert.OutProjIdeal.Gen.run_main m g
  · refine (θ_run Cert.OutProjRefIdeal.defs _ _).mono (fun r h c => ⟨(h c).1.trans ?_, (h c).2.1.trans ?_, (h c).2.2⟩)
      (Cert.OutProjRefIdeal.Value.run (F := Ideal) m' g')
    · show REFP (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg6)) = _
      rw [(hagree c).1, (hagree c).2.1, (hagree c).2.2.1, (hagree c).2.2.2.2.2.2]
      exact (Cert.OutProjIdeal.Value.final7 m c).symm
    · show REFS (m' ((c.tc : Thread Cert.OutProjRefIdeal.nD Cert.OutProjRefIdeal.τ).loc Cert.OutProjRefIdeal.main_arg3)) (m' ((c.tc : Thread Cert.OutProjRefIdeal.nD Cert.OutProjRefIdeal.τ).loc Cert.OutProjRefIdeal.main_arg4)) (m' ((c.tc : Thread Cert.OutProjRefIdeal.nD Cert.OutProjRefIdeal.τ).loc Cert.OutProjRefIdeal.main_arg5)) (m' ((c.tc : Thread Cert.OutProjRefIdeal.nD Cert.OutProjRefIdeal.τ).loc Cert.OutProjRefIdeal.main_arg6)) = _
      rw [(hagree c).2.2.2.1, (hagree c).2.2.2.2.1, (hagree c).2.2.2.2.2.1, (hagree c).2.2.2.2.2.2]
      exact (Cert.OutProjIdeal.Value.final8 m c).symm

end Cert.OutProjClaims

end
-- ==== Proof.Glu.Ref.lean ====
/- The gated linear unit's reference results as terms over its argument arrays. -/
module

public import proofs.«01_k».proof.Proof.Gen.GluRefIdeal.Run
public import Idealize.ShloMosaic.Lib.Pipeline.ValueKit

@[expose] public section

set_option maxRecDepth 16384

noncomputable section

namespace Cert.GluRefIdeal.Value

open Cert.GluRefIdeal Cert.GluRefIdeal.Gen Idealize.ShloMosaic Idealize.ShloMosaic.TcCoe Idealize.SL.Sem Idealize.ShloMosaic.StableHlo

/-- The reference's result for the prompt rows. -/
def REFP (Y : FVec Ideal S8192x1024 .f32) (W : FVec Ideal S1024x1024 .f32) (B G : FVec Ideal S1024 .f32) : FVec Ideal S8192x1024 .bf16 :=
  truncf .bf16 (mulf (mulf (mulf Y (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf (Host.dotGeneral dot_S8192x1024_S1024x1024_S8192x1024_1_0_0_1_n_n none Y W) (broadcastInDim S8192x1024 ![0, 1] bcast_S1x1024_S8192x1024_0_1 (broadcastInDim S1x1024 ![1] bcast_S1024_S1x1024_1 B)))))))) (broadcastInDim S8192x1024 ![0, 1] bcast_S8192x1_S8192x1024_0_1 (Host.rsqrt (addf (Host.divf (broadcastInDim S8192x1 ![0] bcast_S8192_S8192x1_0 (Host.reduceAdd (mulf (mulf Y (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf (Host.dotGeneral dot_S8192x1024_S1024x1024_S8192x1024_1_0_0_1_n_n none Y W) (broadcastInDim S8192x1024 ![0, 1] bcast_S1x1024_S8192x1024_0_1 (broadcastInDim S1x1024 ![1] bcast_S1024_S1x1024_1 B)))))))) (mulf Y (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf (Host.dotGeneral dot_S8192x1024_S1024x1024_S8192x1024_1_0_0_1_n_n none Y W) (broadcastInDim S8192x1024 ![0, 1] bcast_S1x1024_S8192x1024_0_1 (broadcastInDim S1x1024 ![1] bcast_S1024_S1x1024_1 B))))))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 G))) bitsLt_bf16_f32

/-- The reference's result for the sample rows. -/
def REFS (Y : FVec Ideal S128x1024 .bf16) (W : FVec Ideal S1024x1024 .f32) (B G : FVec Ideal S1024 .f32) : FVec Ideal S128x1024 .bf16 :=
  truncf .bf16 (mulf (mulf (mulf (extf .f32 Y bitsLt_bf16_f32) (Host.divf (broadcastInDim S128x1024 ![] bcast_S_S128x1024 (constant S_ .f32 0x3F800000#32)) (addf (broadcastInDim S128x1024 ![] bcast_S_S128x1024 (constant S_ .f32 0x3F800000#32)) (Host.exp (Host.negf (addf (Host.dotGeneral dot_S128x1024_S1024x1024_S128x1024_1_0_0_1_n_n none (extf .f32 Y bitsLt_bf16_f32) W) (broadcastInDim S128x1024 ![0, 1] bcast_S1x1024_S128x1024_0_1 (broadcastInDim S1x1024 ![1] bcast_S1024_S1x1024_1 B)))))))) (broadcastInDim S128x1024 ![0, 1] bcast_S128x1_S128x1024_0_1 (Host.rsqrt (addf (Host.divf (broadcastInDim S128x1 ![0] bcast_S128_S128x1_0 (Host.reduceAdd (mulf (mulf (extf .f32 Y bitsLt_bf16_f32) (Host.divf (broadcastInDim S128x1024 ![] bcast_S_S128x1024 (constant S_ .f32 0x3F800000#32)) (addf (broadcastInDim S128x1024 ![] bcast_S_S128x1024 (constant S_ .f32 0x3F800000#32)) (Host.exp (Host.negf (addf (Host.dotGeneral dot_S128x1024_S1024x1024_S128x1024_1_0_0_1_n_n none (extf .f32 Y bitsLt_bf16_f32) W) (broadcastInDim S128x1024 ![0, 1] bcast_S1x1024_S128x1024_0_1 (broadcastInDim S1x1024 ![1] bcast_S1024_S1x1024_1 B)))))))) (mulf (extf .f32 Y bitsLt_bf16_f32) (Host.divf (broadcastInDim S128x1024 ![] bcast_S_S128x1024 (constant S_ .f32 0x3F800000#32)) (addf (broadcastInDim S128x1024 ![] bcast_S_S128x1024 (constant S_ .f32 0x3F800000#32)) (Host.exp (Host.negf (addf (Host.dotGeneral dot_S128x1024_S1024x1024_S128x1024_1_0_0_1_n_n none (extf .f32 Y bitsLt_bf16_f32) W) (broadcastInDim S128x1024 ![0, 1] bcast_S1x1024_S128x1024_0_1 (broadcastInDim S1x1024 ![1] bcast_S1024_S1x1024_1 B))))))))) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 G))) bitsLt_bf16_f32

end Cert.GluRefIdeal.Value

end
-- ==== Proof.Glu.Value.lean ====
/- The gated linear unit's two result arrays are the reference's terms over the argument arrays. -/
module

public import proofs.«01_k».proof.Proof.Gen.GluIdeal.Frame
public import proofs.«01_k».proof.Proof.Glu.Ref
public import Idealize.ShloMosaic.Lib.Pipeline.ValueKit

@[expose] public section

set_option maxRecDepth 16384

noncomputable section

namespace Cert.GluIdeal.Value

open Cert.GluIdeal Cert.GluIdeal.Gen Idealize.ShloMosaic Idealize.ShloMosaic.TcCoe Idealize.SL.Sem
open Idealize.ShloMosaic.Pipeline (Dat)
open Cert.GluRefIdeal.Value (REFP REFS)

/-- One row `y` times the sigmoid of its affine image, at column `q`. -/
def gated (y : Fin 1024 → EReal) (w : Fin 1024 → Fin 1024 → EReal) (b : Fin 1024 → EReal) (q : Fin 1024) : EReal :=
  y q * Ideal.logistic (∑ k, y k * w k q + b q)

/-- The gated row over its root mean square, times the gain, at column `q`. -/
def row (y : Fin 1024 → EReal) (w : Fin 1024 → Fin 1024 → EReal) (b g : Fin 1024 → EReal) (q : Fin 1024) : EReal :=
  gated y w b q *
    Ideal.rsqrt (Ideal.div (∑ x, gated y w b x * gated y w b x) (Ideal.ofBits FTy.f32 1149239296#32)
      + Ideal.ofBits FTy.f32 897988541#32) * g q

/-- The payload of a 256-row piece, at an index, is `row` of that row. -/
theorem pay4_at (y : Vec Ideal S256x1024 .f32) (w : Vec Ideal S1024x1024 .bf16) (b g : Vec Ideal S1x1024 .f32)
    (r : Fin 256) (q : Fin 1024) :
    k0_pay4 (F := Ideal) y w b g (ix2 r q)
      = row (fun k => y (ix2 r k)) (fun k l => w (ix2 k l)) (fun k => b (ix2 0 k)) (fun k => g (ix2 0 k)) q := by
  pointwise [k0_pay4]
  rfl

/-- The last piece's payload is the first's. -/
theorem pay2_eq (y : Vec Ideal S256x1024 .f32) (w : Vec Ideal S1024x1024 .bf16) (b g : Vec Ideal S1x1024 .f32) :
    k0_pay2 (F := Ideal) y w b g = k0_pay4 y w b g := rfl

/-- The third piece's payload is the first's. -/
theorem pay1_eq (y : Vec Ideal S256x1024 .f32) (w : Vec Ideal S1024x1024 .bf16) (b g : Vec Ideal S1x1024 .f32) :
    k0_pay1 (F := Ideal) (k0_pay7 g) (k0_pay8 y w b) = k0_pay4 y w b g := rfl

/-- The second piece's payload is the first's. -/
theorem pay6_eq (y : Vec Ideal S256x1024 .f32) (w : Vec Ideal S1024x1024 .bf16) (b g : Vec Ideal S1x1024 .f32) :
    k0_pay6 (F := Ideal) y (k0_pay5 y w b) g = k0_pay4 y w b g := rfl

/-- The reference's prompt result, at an index, is `row` of that row. -/
theorem refp_at (Y : FVec Ideal S8192x1024 .f32) (W : FVec Ideal S1024x1024 .f32) (B G : FVec Ideal S1024 .f32)
    (r : Fin 8192) (q : Fin 1024) :
    REFP Y W B G (ix2 r q)
      = row (fun k => Y (ix2 r k)) (fun k l => W (ix2 k l)) (fun k => B (ix1 k)) (fun k => G (ix1 k)) q := by
  pointwise [REFP]
  rfl

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0] :=
  (by decide +kernel : ∀ t : Fin grid0.N, _)

/-- The row an input block holds at its local row, over the argument arrays: what every piece of the prompt block reads. -/
theorem piece (c : Dev nD) (t : Fin cfg0.N) (o : ℕ) (ho : ∀ a, (![o, 0] : Fin 2 → ℕ) a + (![256, 1024] : Fin 2 → ℕ) a ≤ S1024x1024.size a)
    (x : S256x1024.Idx) (j : S8192x1024.Idx) (hj0 : (j 0 : ℕ) = t.val * 1024 + (o + (x 0 : ℕ))) (hj1 : (j 1 : ℕ) = x 1) :
    k0_pay4 (F := Ideal) (View.ld (iblk m c 0 t) (Rect.unit (s := S1024x1024) ![o, 0] ![256, 1024] ho)) (iblk m c 2 t) (iblk m c 3 t) (iblk m c 4 t) x
      = REFP (m ((c : Thread nD τ).loc main_arg0)) (m ((c : Thread nD τ).loc main_arg2)) (m ((c : Thread nD τ).loc main_arg3)) (m ((c : Thread nD τ).loc main_arg4)) j := by
  idx_vars x
  idx_vars j
  rw [pay4_at]
  refine Eq.trans ?_ (refp_at ..).symm
  unfold row gated
  pointwise
  blk_point [iblk, V, idx t]

/-- What the body leaves of the prompt block at a point is the reference's result there: four pieces of 256 rows. -/
theorem pieces (c : Dev nD) (t : Fin cfg0.N) (y : S1024x1024.Idx) (j : S8192x1024.Idx)
    (hj0 : (j 0 : ℕ) = t.val * 1024 + (y 0 : ℕ)) (hj1 : (j 1 : ℕ) = y 1) :
    (outsAt0 m c t.val t.isLt).1 y
      = REFP (m ((c : Thread nD τ).loc main_arg0)) (m ((c : Thread nD τ).loc main_arg2)) (m ((c : Thread nD τ).loc main_arg3)) (m ((c : Thread nD τ).loc main_arg4)) j := by
  by_cases h : t.val % 8 = 7
  · rw [outsAt0_B m c t h]
    frame_out
    rw [pay1_eq, pay2_eq, pay6_eq]
    canon_tiles x h
    all_goals exact piece m c t _ _ x j (by omega) (by omega)
  · rw [outsAt0_A m c t h]
    frame_out
    rw [pay1_eq, pay2_eq, pay6_eq]
    canon_tiles x h
    all_goals exact piece m c t _ _ x j (by omega) (by omega)

/-- The prompt result array after the run is the reference's. -/
theorem final5 (c : Dev nD) : (dats m 0 c).arrAt 5 (cfgs 0).N
    = REFP (m ((c : Thread nD τ).loc main_arg0)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine pieces m c t y _ ?_ ?_
  all_goals (blk_simp [idx t] <;> try omega)

/-- The sample result array after the run is the reference's: the last point writes it whole. -/
theorem final6 (c : Dev nD) : (dats m 0 c).arrAt 6 (cfgs 0).N
    = REFS (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, outsAt0_B m c t ((flush0_6 t).mp hf)]
  frame_out
  pointwise [k0_pay3, REFS]
  simp only [Ideal.logistic]
  blk_point [iblk, V, idx t]

end Cert.GluIdeal.Value
end
-- ==== Proof.Glu.Claims.lean ====
/- The five claims about the gated unit: its frames and its value. -/
module

public import proofs.«01_k».proof.Defs
public import proofs.«01_k».proof.Proof.Gen.Glu.Frame
public import proofs.«01_k».proof.Proof.Glu.Value
public import Idealize.ShloMosaic.Lib.Claim

@[expose] public section

set_option maxRecDepth 16384

noncomputable section

namespace Cert.GluClaims

open Idealize.ShloMosaic Idealize.ShloMosaic.TcCoe Idealize.SL.Sem
open Cert.GluRefIdeal.Value (REFP REFS)

/-- The kernel ends with its arguments and semaphores unchanged, as printed. -/
theorem frame : Cert.quiescent_Glu := fun m g _ => Cert.Glu.Gen.frame m g

/-- The same at exact operations. -/
theorem frame_ideal : Cert.quiescent_GluIdeal := fun m g _ => Cert.GluIdeal.Gen.frame m g

/-- The reference ends with its arguments unchanged; it declares no semaphore. -/
theorem frame_ref : Cert.quiescent_GluRefIdeal := fun m g _ =>
  (θ_run Cert.GluRefIdeal.defs _ _).mono (fun r h => ⟨fun c => (h c).2.2, sem_eq_zero_of_no_sems (by decide) r.2⟩)
    (Cert.GluRefIdeal.Value.run (F := Ideal) m g)

/-- The idealized program is the printed one. -/
theorem preserves : Cert.preserves_Glu_GluIdeal := trivial

/-- At exact operations the kernel's two results are the reference's. -/
theorem algebraic : Cert.algebraic_GluIdeal_GluRefIdeal := by
  pair_intro
  · run_from Cert.GluIdeal.Gen.run_main m g
  · refine (θ_run Cert.GluRefIdeal.defs _ _).mono (fun r h c => ⟨(h c).1.trans ?_, (h c).2.1.trans ?_, (h c).2.2⟩)
      (Cert.GluRefIdeal.Value.run (F := Ideal) m' g')
    · show REFP (m' ((c.tc : Thread Cert.GluRefIdeal.nD Cert.GluRefIdeal.τ).loc Cert.GluRefIdeal.main_arg0)) (m' ((c.tc : Thread Cert.GluRefIdeal.nD Cert.GluRefIdeal.τ).loc Cert.GluRefIdeal.main_arg2)) (m' ((c.tc : Thread Cert.GluRefIdeal.nD Cert.GluRefIdeal.τ).loc Cert.GluRefIdeal.main_arg3)) (m' ((c.tc : Thread Cert.GluRefIdeal.nD Cert.GluRefIdeal.τ).loc Cert.GluRefIdeal.main_arg4)) = _
      rw [(hagree c).1, (hagree c).2.2.1, (hagree c).2.2.2.1, (hagree c).2.2.2.2]
      exact (Cert.GluIdeal.Value.final5 m c).symm
    · show REFS (m' ((c.tc : Thread Cert.GluRefIdeal.nD Cert.GluRefIdeal.τ).loc Cert.GluRefIdeal.main_arg1)) (m' ((c.tc : Thread Cert.GluRefIdeal.nD Cert.GluRefIdeal.τ).loc Cert.GluRefIdeal.main_arg2)) (m' ((c.tc : Thread Cert.GluRefIdeal.nD Cert.GluRefIdeal.τ).loc Cert.GluRefIdeal.main_arg3)) (m' ((c.tc : Thread Cert.GluRefIdeal.nD Cert.GluRefIdeal.τ).loc Cert.GluRefIdeal.main_arg4)) = _
      rw [(hagree c).2.1, (hagree c).2.2.1, (hagree c).2.2.2.1, (hagree c).2.2.2.2]
      exact (Cert.GluIdeal.Value.final6 m c).symm

end Cert.GluClaims

end
-- ==== Proof.lean ====
module

public import proofs.«01_k».proof.Defs
public import proofs.«01_k».proof.Proof.LruSeq.Claims
public import proofs.«01_k».proof.Proof.S5Seq.Claims
public import proofs.«01_k».proof.Proof.S5Params.Claims
public import proofs.«01_k».proof.Proof.LruStep.Claims
public import proofs.«01_k».proof.Proof.S5Step.Claims
public import proofs.«01_k».proof.Proof.Mlp.Claims
public import proofs.«01_k».proof.Proof.NormIn.Claims
public import proofs.«01_k».proof.Proof.Ple.Claims
public import proofs.«01_k».proof.Proof.OutProj.Claims
public import proofs.«01_k».proof.Proof.Glu.Claims

@[expose] public section

namespace Cert.Proof

/-- The programs' stated facts, every program's frame, and every call's value. -/
theorem claim : Cert.Claim :=
  ⟨Cert.LruSeq.Gen.facts,
   Cert.LruSeqIdeal.Gen.facts,
   Cert.LruSeqRefIdeal.Gen.facts,
   Cert.S5Seq.Gen.facts,
   Cert.S5SeqIdeal.Gen.facts,
   Cert.S5Params.Gen.facts,
   Cert.S5ParamsIdeal.Gen.facts,
   Cert.LruStep.Gen.facts,
   Cert.LruStepIdeal.Gen.facts,
   Cert.LruStepRefIdeal.Gen.facts,
   Cert.S5Step.Gen.facts,
   Cert.S5StepIdeal.Gen.facts,
   Cert.S5StepRefIdeal.Gen.facts,
   Cert.Mlp.Gen.facts,
   Cert.MlpIdeal.Gen.facts,
   Cert.MlpRefIdeal.Gen.facts,
   Cert.NormIn.Gen.facts,
   Cert.NormInIdeal.Gen.facts,
   Cert.NormInRefIdeal.Gen.facts,
   Cert.Ple.Gen.facts,
   Cert.PleIdeal.Gen.facts,
   Cert.PleRefIdeal.Gen.facts,
   Cert.OutProj.Gen.facts,
   Cert.OutProjIdeal.Gen.facts,
   Cert.OutProjRefIdeal.Gen.facts,
   Cert.Glu.Gen.facts,
   Cert.GluIdeal.Gen.facts,
   Cert.GluRefIdeal.Gen.facts,
   Cert.LruSeqClaims.frame,
   Cert.LruSeqClaims.frame_ideal,
   Cert.LruSeqClaims.frame_ref,
   Cert.S5SeqClaims.frame,
   Cert.S5SeqClaims.frame_ideal,
   Cert.S5ParamsClaims.frame,
   Cert.S5ParamsClaims.frame_ideal,
   Cert.LruStepClaims.frame,
   Cert.LruStepClaims.frame_ideal,
   Cert.LruStepClaims.frame_ref,
   Cert.S5StepClaims.frame,
   Cert.S5StepClaims.frame_ideal,
   Cert.S5StepClaims.frame_ref,
   Cert.MlpClaims.frame,
   Cert.MlpClaims.frame_ideal,
   Cert.MlpClaims.frame_ref,
   Cert.NormInClaims.frame,
   Cert.NormInClaims.frame_ideal,
   Cert.NormInClaims.frame_ref,
   Cert.PleClaims.frame,
   Cert.PleClaims.frame_ideal,
   Cert.PleClaims.frame_ref,
   Cert.OutProjClaims.frame,
   Cert.OutProjClaims.frame_ideal,
   Cert.OutProjClaims.frame_ref,
   Cert.GluClaims.frame,
   Cert.GluClaims.frame_ideal,
   Cert.GluClaims.frame_ref,
   Cert.LruSeqClaims.preserves,
   Cert.S5SeqClaims.preserves,
   Cert.S5ParamsClaims.preserves,
   Cert.LruStepClaims.preserves,
   Cert.LruStepClaims.algebraic,
   Cert.S5StepClaims.preserves,
   Cert.S5StepClaims.algebraic,
   Cert.MlpClaims.preserves,
   Cert.MlpClaims.algebraic,
   Cert.NormInClaims.preserves,
   Cert.NormInClaims.algebraic,
   Cert.PleClaims.preserves,
   Cert.PleClaims.algebraic,
   Cert.OutProjClaims.preserves,
   Cert.OutProjClaims.algebraic,
   Cert.GluClaims.preserves,
   Cert.GluClaims.algebraic⟩

end Cert.Proof
